-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)) (v1 : (c : Dev Cert.Kernel3Ideal.nD) → Buf (Elt Ideal) ((c.tc : Thread Cert.Kernel3Ideal.nD Cert.Kernel3Ideal.τ).loc Cert.Kernel3Ideal.main_v12)) (v2 : (c : Dev Cert.Kernel3Ideal.nD) → Buf (Elt Ideal) ((c.tc : Thread Cert.Kernel3Ideal.nD Cert.Kernel3Ideal.τ).loc Cert.Kernel3Ideal.main_v15)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v18)) (v5 : (c : Dev Cert.Kernel3Ideal.nD) → Buf (Elt Ideal) ((c.tc : Thread Cert.Kernel3Ideal.nD Cert.Kernel3Ideal.τ).loc Cert.Kernel3Ideal.main_v19)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_v12) = v1 c
          ∧ r.2.mem ((c.tc : Thread Cert.Kernel3Ideal.nD Cert.Kernel3Ideal.τ).loc Cert.Kernel3Ideal.main_v15) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_v19) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v58) = v3 c
          ∧ r.2.mem ((c.tc : Thread Cert.Reference3Ideal.nD Cert.Reference3Ideal.τ).loc Cert.Reference3Ideal.main_v52) = v4 c
          ∧ r.2.mem ((c.tc : Thread Cert.Reference3Ideal.nD Cert.Reference3Ideal.τ).loc Cert.Reference3Ideal.main_v53) = v5 c
          ∧ r.2.mem ((c.tc : Thread Cert.Reference3Ideal.nD Cert.Reference3Ideal.τ).loc Cert.Reference3Ideal.main_v89) = v6 c
          ∧ r.2.mem ((c.tc : Thread Cert.Reference3Ideal.nD Cert.Reference3Ideal.τ).loc Cert.Reference3Ideal.main_v56) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x16384x512 : Shape := ⟨3, ![2, 16384, 512]⟩
abbrev S2x256x512 : Shape := ⟨3, ![2, 256, 512]⟩
abbrev S8x15x31 : Shape := ⟨3, ![8, 15, 31]⟩
abbrev S64x64 : Shape := ⟨2, ![64, 64]⟩
abbrev S2x512x16384 : Shape := ⟨3, ![2, 512, 16384]⟩
abbrev S_ : Shape := ⟨0, ![]⟩
abbrev S8x15x159 : Shape := ⟨3, ![8, 15, 159]⟩
abbrev S8x15x64 : Shape := ⟨3, ![8, 15, 64]⟩
abbrev S8x1x15x64 : Shape := ⟨4, ![8, 1, 15, 64]⟩
abbrev S8x16x15x64 : Shape := ⟨4, ![8, 16, 15, 64]⟩
abbrev S8x64x15x64 : Shape := ⟨4, ![8, 64, 15, 64]⟩
abbrev S1x64x1x64 : Shape := ⟨4, ![1, 64, 1, 64]⟩
abbrev S4x2x64x15x64 : Shape := ⟨5, ![4, 2, 64, 15, 64]⟩
abbrev S4x2x64x8x64 : Shape := ⟨5, ![4, 2, 64, 8, 64]⟩
abbrev S4x1x2x64x8x64 : Shape := ⟨6, ![4, 1, 2, 64, 8, 64]⟩
abbrev S4x8x2x64x8x64 : Shape := ⟨6, ![4, 8, 2, 64, 8, 64]⟩
abbrev S4x8x128x512 : Shape := ⟨4, ![4, 8, 128, 512]⟩
abbrev S1x512x128 : Shape := ⟨3, ![1, 512, 128]⟩
abbrev S1x128x512 : Shape := ⟨3, ![1, 128, 512]⟩
abbrev S1x256x128 : Shape := ⟨3, ![1, 256, 128]⟩
abbrev S1x8x128x512 : Shape := ⟨4, ![1, 8, 128, 512]⟩
abbrev S128x1536 : Shape := ⟨2, ![128, 1536]⟩
abbrev S1536x128 : Shape := ⟨2, ![1536, 128]⟩
abbrev S1024x256 : Shape := ⟨2, ![1024, 256]⟩
abbrev S1024x128 : Shape := ⟨2, ![1024, 128]⟩
abbrev S8x128x512 : Shape := ⟨3, ![8, 128, 512]⟩
abbrev S128x512 : Shape := ⟨2, ![128, 512]⟩
abbrev S512x128 : Shape := ⟨2, ![512, 128]⟩
abbrev S128x1472 : Shape := ⟨2, ![128, 1472]⟩
abbrev S64x128 : Shape := ⟨2, ![64, 128]⟩
abbrev S256x128 : Shape := ⟨2, ![256, 128]⟩
abbrev S128x128 : Shape := ⟨2, ![128, 128]⟩
abbrev S1x32x512 : Shape := ⟨3, ![1, 32, 512]⟩
abbrev S32x512 : Shape := ⟨2, ![32, 512]⟩
abbrev S1x1x32x512 : Shape := ⟨4, ![1, 1, 32, 512]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S1x64x128 : Shape := ⟨3, ![1, 64, 128]⟩

abbrev nBuf : Space → Nat
  | .hbm => 174
  | .vmem => 31
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S2x256x512, .f32⟩
  | 4 => ⟨S2x256x512, .f32⟩
  | 5 => ⟨S8x15x31, .f32⟩
  | 6 => ⟨S64x64, .i1⟩
  | 7 => ⟨S2x512x16384, .f32⟩
  | 8 => ⟨S2x512x16384, .bf16⟩
  | 9 => ⟨S2x16384x512, .bf16⟩
  | 10 => ⟨S2x256x512, .bf16⟩
  | 11 => ⟨S2x256x512, .bf16⟩
  | 12 => ⟨S_, .i32⟩
  | 13 => ⟨S_, .f32⟩
  | 14 => ⟨S8x15x159, .f32⟩
  | 15 => ⟨S8x15x64, .f32⟩
  | 16 => ⟨S8x15x64, .f32⟩
  | 17 => ⟨S8x15x64, .f32⟩
  | 18 => ⟨S8x15x64, .f32⟩
  | 19 => ⟨S8x15x64, .f32⟩
  | 20 => ⟨S8x15x64, .f32⟩
  | 21 => ⟨S8x15x64, .f32⟩
  | 22 => ⟨S8x15x64, .f32⟩
  | 23 => ⟨S8x15x64, .f32⟩
  | 24 => ⟨S8x15x64, .f32⟩
  | 25 => ⟨S8x15x64, .f32⟩
  | 26 => ⟨S8x15x64, .f32⟩
  | 27 => ⟨S8x15x64, .f32⟩
  | 28 => ⟨S8x15x64, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x64, .f32⟩
  | 73 => ⟨S8x15x64, .f32⟩
  | 74 => ⟨S8x15x64, .f32⟩
  | 75 => ⟨S8x15x64, .f32⟩
  | 76 => ⟨S8x15x64, .f32⟩
  | 77 => ⟨S8x15x64, .f32⟩
  | 78 => ⟨S8x15x64, .f32⟩
  | 79 => ⟨S8x1x15x64, .f32⟩
  | 80 => ⟨S8x1x15x64, .f32⟩
  | 81 => ⟨S8x1x15x64, .f32⟩
  | 82 => ⟨S8x1x15x64, .f32⟩
  | 83 => ⟨S8x1x15x64, .f32⟩
  | 84 => ⟨S8x1x15x64, .f32⟩
  | 85 => ⟨S8x1x15x64, .f32⟩
  | 86 => ⟨S8x1x15x64, .f32⟩
  | 87 => ⟨S8x1x15x64, .f32⟩
  | 88 => ⟨S8x1x15x64, .f32⟩
  | 89 => ⟨S8x1x15x64, .f32⟩
  | 90 => ⟨S8x1x15x64, .f32⟩
  | 91 => ⟨S8x1x15x64, .f32⟩
  | 92 => ⟨S8x1x15x64, .f32⟩
  | 93 => ⟨S8x1x15x64, .f32⟩
  | 94 => ⟨S8x1x15x64, .f32⟩
  | 95 => ⟨S8x1x15x64, .f32⟩
  | 96 => ⟨S8x1x15x64, .f32⟩
  | 97 => ⟨S8x1x15x64, .f32⟩
  | 98 => ⟨S8x1x15x64, .f32⟩
  | 99 => ⟨S8x1x15x64, .f32⟩
  | 100 => ⟨S8x1x15x64, .f32⟩
  | 101 => ⟨S8x1x15x64, .f32⟩
  | 102 => ⟨S8x1x15x64, .f32⟩
  | 103 => ⟨S8x1x15x64, .f32⟩
  | 104 => ⟨S8x1x15x64, .f32⟩
  | 105 => ⟨S8x1x15x64, .f32⟩
  | 106 => ⟨S8x1x15x64, .f32⟩
  | 107 => ⟨S8x1x15x64, .f32⟩
  | 108 => ⟨S8x1x15x64, .f32⟩
  | 109 => ⟨S8x1x15x64, .f32⟩
  | 110 => ⟨S8x1x15x64, .f32⟩
  | 111 => ⟨S8x1x15x64, .f32⟩
  | 112 => ⟨S8x1x15x64, .f32⟩
  | 113 => ⟨S8x1x15x64, .f32⟩
  | 114 => ⟨S8x1x15x64, .f32⟩
  | 115 => ⟨S8x1x15x64, .f32⟩
  | 116 => ⟨S8x1x15x64, .f32⟩
  | 117 => ⟨S8x1x15x64, .f32⟩
  | 118 => ⟨S8x1x15x64, .f32⟩
  | 119 => ⟨S8x1x15x64, .f32⟩
  | 120 => ⟨S8x1x15x64, .f32⟩
  | 121 => ⟨S8x1x15x64, .f32⟩
  | 122 => ⟨S8x1x15x64, .f32⟩
  | 123 => ⟨S8x1x15x64, .f32⟩
  | 124 => ⟨S8x1x15x64, .f32⟩
  | 125 => ⟨S8x1x15x64, .f32⟩
  | 126 => ⟨S8x1x15x64, .f32⟩
  | 127 => ⟨S8x1x15x64, .f32⟩
  | _ => ⟨S2x16384x512, .f32⟩

abbrev hbmTy0_1 (i : Nat) : BufTy := match i % 128 with
  | 0 => ⟨S8x1x15x64, .f32⟩
  | 1 => ⟨S8x1x15x64, .f32⟩
  | 2 => ⟨S8x1x15x64, .f32⟩
  | 3 => ⟨S8x1x15x64, .f32⟩
  | 4 => ⟨S8x1x15x64, .f32⟩
  | 5 => ⟨S8x1x15x64, .f32⟩
  | 6 => ⟨S8x1x15x64, .f32⟩
  | 7 => ⟨S8x1x15x64, .f32⟩
  | 8 => ⟨S8x1x15x64, .f32⟩
  | 9 => ⟨S8x1x15x64, .f32⟩
  | 10 => ⟨S8x1x15x64, .f32⟩
  | 11 => ⟨S8x1x15x64, .f32⟩
  | 12 => ⟨S8x1x15x64, .f32⟩
  | 13 => ⟨S8x1x15x64, .f32⟩
  | 14 => ⟨S8x1x15x64, .f32⟩
  | 15 => ⟨S8x16x15x64, .f32⟩
  | 16 => ⟨S8x16x15x64, .f32⟩
  | 17 => ⟨S8x16x15x64, .f32⟩
  | 18 => ⟨S8x16x15x64, .f32⟩
  | 19 => ⟨S8x64x15x64, .f32⟩
  | 20 => ⟨S1x64x1x64, .i1⟩
  | 21 => ⟨S_, .f32⟩
  | 22 => ⟨S_, .f32⟩
  | 23 => ⟨S8x64x15x64, .i1⟩
  | 24 => ⟨S8x64x15x64, .f32⟩
  | 25 => ⟨S8x64x15x64, .f32⟩
  | 26 => ⟨S4x2x64x15x64, .f32⟩
  | 27 => ⟨S4x2x64x8x64, .f32⟩
  | 28 => ⟨S4x2x64x8x64, .f32⟩
  | 29 => ⟨S4x2x64x8x64, .f32⟩
  | 30 => ⟨S4x2x64x8x64, .f32⟩
  | 31 => ⟨S4x2x64x8x64, .f32⟩
  | 32 => ⟨S4x2x64x8x64, .f32⟩
  | 33 => ⟨S4x2x64x8x64, .f32⟩
  | 34 => ⟨S4x2x64x8x64, .f32⟩
  | 35 => ⟨S4x1x2x64x8x64, .f32⟩
  | 36 => ⟨S4x1x2x64x8x64, .f32⟩
  | 37 => ⟨S4x1x2x64x8x64, .f32⟩
  | 38 => ⟨S4x1x2x64x8x64, .f32⟩
  | 39 => ⟨S4x1x2x64x8x64, .f32⟩
  | 40 => ⟨S4x1x2x64x8x64, .f32⟩
  | 41 => ⟨S4x1x2x64x8x64, .f32⟩
  | 42 => ⟨S4x1x2x64x8x64, .f32⟩
  | 43 => ⟨S4x8x2x64x8x64, .f32⟩
  | 44 => ⟨S4x8x128x512, .f32⟩
  | 45 => ⟨S2x16384x512, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x8x128x512, .f32⟩
  | .local _ .vmem, ⟨19, _⟩ => ⟨S1x8x128x512, .f32⟩
  | .local _ .vmem, ⟨20, _⟩ => ⟨S1x512x128, .bf16⟩
  | .local _ .vmem, ⟨21, _⟩ => ⟨S1x512x128, .bf16⟩
  | .local _ .vmem, ⟨22, _⟩ => ⟨S128x1536, .bf16⟩
  | .local _ .vmem, ⟨23, _⟩ => ⟨S128x1536, .bf16⟩
  | .local _ .vmem, ⟨24, _⟩ => ⟨S1536x128, .bf16⟩
  | .local _ .vmem, ⟨25, _⟩ => ⟨S1024x256, .f32⟩
  | .local _ .vmem, ⟨26, _⟩ => ⟨S1024x256, .bf16⟩
  | .local _ .vmem, ⟨27, _⟩ => ⟨S1024x128, .f32⟩
  | .local _ .vmem, ⟨28, _⟩ => ⟨S1024x128, .f32⟩
  | .local _ .vmem, ⟨29, _⟩ => ⟨S8x128x512, .f32⟩
  | .local _ .vmem, ⟨30, _⟩ => ⟨S8x128x512, .bf16⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_cst : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 32], ![false, false, false]⟩

def k0_off1 (i : grid0.Coords) (c8_i32 : BitVec 32) (c4_i32 : BitVec 32) (c4_i32_99 : BitVec 32) (c0_i32_100 : BitVec 32) : Fin 4 → Nat :=
  let c0_104 : Index := 0#32
  let arg2 : BitVec 32 := BitVec.ofNat 32 (i 2).val
  let c0_i32_97 : BitVec 32 := 0#32
  let v143 : BitVec 1 := Scalar.cmpi .eq arg2 c0_i32_97
  let c31_i32_98 : BitVec 32 := 31#32
  let v144 : BitVec 1 := Scalar.cmpi .eq arg2 c31_i32_98
  let v145 : BitVec 32 := Scalar.select v144 c4_i32 c4_i32_99
  let v146 : BitVec 32 := Scalar.select v143 c8_i32 v145
  let v147 : BitVec 32 := Scalar.subi v146 c0_i32_100
  let c1_i32 : BitVec 32 := 1#32
  let v148 : BitVec 32 := Scalar.subi v147 c1_i32
  let v151 : Index := Scalar.indexCast v148
  let c0_105 : Index := 0#32
  let c0_106 : Index := 0#32
  ![0, v151.toNat, 0, 0]
def k0_off1_at (r : Fin 8) : BitVec 32 × BitVec 32 × BitVec 32 × BitVec 32 :=
  if r.val < 4 then
    if r.val < 2 then
      if r.val < 1 then
        (8#32, 4#32, 4#32, 0#32)
      else
        (8#32, 5#32, 5#32, 1#32)
    else
      if r.val < 3 then
        (8#32, 6#32, 6#32, 2#32)
      else
        (8#32, 7#32, 7#32, 3#32)
  else
    if r.val < 6 then
      if r.val < 5 then
        (8#32, 8#32, 8#32, 4#32)
      else
        (9#32, 8#32, 9#32, 5#32)
    else
      if r.val < 7 then
        (10#32, 8#32, 10#32, 6#32)
      else
        (11#32, 8#32, 11#32, 7#32)
def k0_off2 (i : grid0.Coords) (c8_i32 : BitVec 32) (c4_i32 : BitVec 32) (c4_i32_99 : BitVec 32) (c0_i32_100 : BitVec 32) : Fin 4 → Nat :=
  let c0_124 : Index := 0#32
  let arg2 : BitVec 32 := BitVec.ofNat 32 (i 2).val
  let c0_i32_97 : BitVec 32 := 0#32
  let v143 : BitVec 1 := Scalar.cmpi .eq arg2 c0_i32_97
  let c31_i32_98 : BitVec 32 := 31#32
  let v144 : BitVec 1 := Scalar.cmpi .eq arg2 c31_i32_98
  let v145 : BitVec 32 := Scalar.select v144 c4_i32 c4_i32_99
  let v146 : BitVec 32 := Scalar.select v143 c8_i32 v145
  let v147 : BitVec 32 := Scalar.subi v146 c0_i32_100
  let c1_i32 : BitVec 32 := 1#32
  let v148 : BitVec 32 := Scalar.subi v147 c1_i32
  let v191 : Index := Scalar.indexCast v148
  let c32_125 : Index := 32#32
  let c0_126 : Index := 0#32
  ![0, v191.toNat, 32, 0]
def k0_off2_at (r : Fin 8) : BitVec 32 × BitVec 32 × BitVec 32 × BitVec 32 :=
  if r.val < 4 then
    if r.val < 2 then
      if r.val < 1 then
        (8#32, 4#32, 4#32, 0#32)
      else
        (8#32, 5#32, 5#32, 1#32)
    else
      if r.val < 3 then
        (8#32, 6#32, 6#32, 2#32)
      else
        (8#32, 7#32, 7#32, 3#32)
  else
    if r.val < 6 then
      if r.val < 5 then
        (8#32, 8#32, 8#32, 4#32)
      else
        (9#32, 8#32, 9#32, 5#32)
    else
      if r.val < 7 then
        (10#32, 8#32, 10#32, 6#32)
      else
        (11#32, 8#32, 11#32, 7#32)
def k0_off3 (i : grid0.Coords) (c8_i32 : BitVec 32) (c4_i32 : BitVec 32) (c4_i32_99 : BitVec 32) (c0_i32_100 : BitVec 32) : Fin 4 → Nat :=
  let c0_145 : Index := 0#32
  let arg2 : BitVec 32 := BitVec.ofNat 32 (i 2).val
  let c0_i32_97 : BitVec 32 := 0#32
  let v143 : BitVec 1 := Scalar.cmpi .eq arg2 c0_i32_97
  let c31_i32_98 : BitVec 32 := 31#32
  let v144 : BitVec 1 := Scalar.cmpi .eq arg2 c31_i32_98
  let v145 : BitVec 32 := Scalar.select v144 c4_i32 c4_i32_99
  let v146 : BitVec 32 := Scalar.select v143 c8_i32 v145
  let v147 : BitVec 32 := Scalar.subi v146 c0_i32_100
  let c1_i32 : BitVec 32 := 1#32
  let v148 : BitVec 32 := Scalar.subi v147 c1_i32
  let v231 : Index := Scalar.indexCast v148
  let c64_146 : Index := 64#32
  let c0_147 : Index := 0#32
  ![0, v231.toNat, 64, 0]
def k0_off3_at (r : Fin 8) : BitVec 32 × BitVec 32 × BitVec 32 × BitVec 32 :=
  if r.val < 4 then
    if r.val < 2 then
      if r.val < 1 then
        (8#32, 4#32, 4#32, 0#32)
      else
        (8#32, 5#32, 5#32, 1#32)
    else
      if r.val < 3 then
        (8#32, 6#32, 6#32, 2#32)
      else
        (8#32, 7#32, 7#32, 3#32)
  else
    if r.val < 6 then
      if r.val < 5 then
        (8#32, 8#32, 8#32, 4#32)
      else
        (9#32, 8#32, 9#32, 5#32)
    else
      if r.val < 7 then
        (10#32, 8#32, 10#32, 6#32)
      else
        (11#32, 8#32, 11#32, 7#32)
def k0_off4 (i : grid0.Coords) (c8_i32 : BitVec 32) (c4_i32 : BitVec 32) (c4_i32_99 : BitVec 32) (c0_i32_100 : BitVec 32) : Fin 4 → Nat :=
  let c0_165 : Index := 0#32
  let arg2 : BitVec 32 := BitVec.ofNat 32 (i 2).val
  let c0_i32_97 : BitVec 32 := 0#32
  let v143 : BitVec 1 := Scalar.cmpi .eq arg2 c0_i32_97
  let c31_i32_98 : BitVec 32 := 31#32
  let v144 : BitVec 1 := Scalar.cmpi .eq arg2 c31_i32_98
  let v145 : BitVec 32 := Scalar.select v144 c4_i32 c4_i32_99
  let v146 : BitVec 32 := Scalar.select v143 c8_i32 v145
  let v147 : BitVec 32 := Scalar.subi v146 c0_i32_100
  let c1_i32 : BitVec 32 := 1#32
  let v148 : BitVec 32 := Scalar.subi v147 c1_i32
  let v271 : Index := Scalar.indexCast v148
  let c96_166 : Index := 96#32
  let c0_167 : Index := 0#32
  ![0, v271.toNat, 96, 0]
def k0_off4_at (r : Fin 8) : BitVec 32 × BitVec 32 × BitVec 32 × BitVec 32 :=
  if r.val < 4 then
    if r.val < 2 then
      if r.val < 1 then
        (8#32, 4#32, 4#32, 0#32)
      else
        (8#32, 5#32, 5#32, 1#32)
    else
      if r.val < 3 then
        (8#32, 6#32, 6#32, 2#32)
      else
        (8#32, 7#32, 7#32, 3#32)
  else
    if r.val < 6 then
      if r.val < 5 then
        (8#32, 8#32, 8#32, 4#32)
      else
        (9#32, 8#32, 9#32, 5#32)
    else
      if r.val < 7 then
        (10#32, 8#32, 10#32, 6#32)
      else
        (11#32, 8#32, 11#32, 7#32)
def k0_mult1 (i : grid0.Coords) : BitVec 32 :=
  let arg2 : BitVec 32 := BitVec.ofNat 32 (i 2).val
  let c0_i32_788 : BitVec 32 := 0#32
  let v1471 : BitVec 1 := Scalar.cmpi .eq arg2 c0_i32_788
  let c8_i32_792 : BitVec 32 := 8#32
  let c31_i32_789 : BitVec 32 := 31#32
  let v1472 : BitVec 1 := Scalar.cmpi .eq arg2 c31_i32_789
  let c4_i32_790 : BitVec 32 := 4#32
  let c4_i32_791 : BitVec 32 := 4#32
  let v1473 : BitVec 32 := Scalar.select v1472 c4_i32_790 c4_i32_791
  let v1474 : BitVec 32 := Scalar.select v1471 c8_i32_792 v1473
  let c64_i32_793 : BitVec 32 := 64#32
  let v1475 : BitVec 32 := Scalar.muli v1474 c64_i32_793
  v1475
def k0_off5 (i : grid0.Coords) (c8_i32_792 : BitVec 32) (c4_i32_790 : BitVec 32) (c4_i32_791 : BitVec 32) : Fin 2 → Nat :=
  let arg2 : BitVec 32 := BitVec.ofNat 32 (i 2).val
  let c0_i32_788 : BitVec 32 := 0#32
  let v1471 : BitVec 1 := Scalar.cmpi .eq arg2 c0_i32_788
  let c31_i32_789 : BitVec 32 := 31#32
  let v1472 : BitVec 1 := Scalar.cmpi .eq arg2 c31_i32_789
  let v1473 : BitVec 32 := Scalar.select v1472 c4_i32_790 c4_i32_791
  let v1474 : BitVec 32 := Scalar.select v1471 c8_i32_792 v1473
  let c64_i32_793 : BitVec 32 := 64#32
  let v1475 : BitVec 32 := Scalar.muli v1474 c64_i32_793
  let v1476 : BitVec 32 := v1475
  let v1477 : Index := Scalar.indexCast v1476
  let c0_794 : Index := 0#32
  ![v1477.toNat, 0]
def k0_off5_at (r : Fin 8) : BitVec 32 × BitVec 32 × BitVec 32 :=
  if r.val < 4 then
    if r.val < 2 then
      if r.val < 1 then
        (8#32, 4#32, 4#32)
      else
        (8#32, 5#32, 5#32)
    else
      if r.val < 3 then
        (8#32, 6#32, 6#32)
      else
        (8#32, 7#32, 7#32)
  else
    if r.val < 6 then
      if r.val < 5 then
        (8#32, 8#32, 8#32)
      else
        (9#32, 8#32, 9#32)
    else
      if r.val < 7 then
        (10#32, 8#32, 10#32)
      else
        (11#32, 8#32, 11#32)
def k0_mult2 (i : grid0.Coords) : BitVec 32 :=
  let arg2 : BitVec 32 := BitVec.ofNat 32 (i 2).val
  let c0_i32_801 : BitVec 32 := 0#32
  let v1485 : BitVec 1 := Scalar.cmpi .eq arg2 c0_i32_801
  let c8_i32_805 : BitVec 32 := 8#32
  let c31_i32_802 : BitVec 32 := 31#32
  let v1486 : BitVec 1 := Scalar.cmpi .eq arg2 c31_i32_802
  let c5_i32_803 : BitVec 32 := 5#32
  let c5_i32_804 : BitVec 32 := 5#32
  let v1487 : BitVec 32 := Scalar.select v1486 c5_i32_803 c5_i32_804
  let v1488 : BitVec 32 := Scalar.select v1485 c8_i32_805 v1487
  let c64_i32_806 : BitVec 32 := 64#32
  let v1489 : BitVec 32 := Scalar.muli v1488 c64_i32_806
  v1489
def k0_mult3 (i : grid0.Coords) : BitVec 32 :=
  let arg2 : BitVec 32 := BitVec.ofNat 32 (i 2).val
  let c0_i32_814 : BitVec 32 := 0#32
  let v1499 : BitVec 1 := Scalar.cmpi .eq arg2 c0_i32_814
  let c8_i32_818 : BitVec 32 := 8#32
  let c31_i32_815 : BitVec 32 := 31#32
  let v1500 : BitVec 1 := Scalar.cmpi .eq arg2 c31_i32_815
  let c6_i32_816 : BitVec 32 := 6#32
  let c6_i32_817 : BitVec 32 := 6#32
  let v1501 : BitVec 32 := Scalar.select v1500 c6_i32_816 c6_i32_817
  let v1502 : BitVec 32 := Scalar.select v1499 c8_i32_818 v1501
  let c64_i32_819 : BitVec 32 := 64#32
  let v1503 : BitVec 32 := Scalar.muli v1502 c64_i32_819
  v1503
def k0_mult4 (i : grid0.Coords) : BitVec 32 :=
  let arg2 : BitVec 32 := BitVec.ofNat 32 (i 2).val
  let c0_i32_827 : BitVec 32 := 0#32
  let v1513 : BitVec 1 := Scalar.cmpi .eq arg2 c0_i32_827
  let c8_i32_831 : BitVec 32 := 8#32
  let c31_i32_828 : BitVec 32 := 31#32
  let v1514 : BitVec 1 := Scalar.cmpi .eq arg2 c31_i32_828
  let c7_i32_829 : BitVec 32 := 7#32
  let c7_i32_830 : BitVec 32 := 7#32
  let v1515 : BitVec 32 := Scalar.select v1514 c7_i32_829 c7_i32_830
  let v1516 : BitVec 32 := Scalar.select v1513 c8_i32_831 v1515
  let c64_i32_832 : BitVec 32 := 64#32
  let v1517 : BitVec 32 := Scalar.muli v1516 c64_i32_832
  v1517
def k0_mult5 (i : grid0.Coords) : BitVec 32 :=
  let arg2 : BitVec 32 := BitVec.ofNat 32 (i 2).val
  let c0_i32_840 : BitVec 32 := 0#32
  let v1527 : BitVec 1 := Scalar.cmpi .eq arg2 c0_i32_840
  let c8_i32_844 : BitVec 32 := 8#32
  let c31_i32_841 : BitVec 32 := 31#32
  let v1528 : BitVec 1 := Scalar.cmpi .eq arg2 c31_i32_841
  let c8_i32_842 : BitVec 32 := 8#32
  let c8_i32_843 : BitVec 32 := 8#32
  let v1529 : BitVec 32 := Scalar.select v1528 c8_i32_842 c8_i32_843
  let v1530 : BitVec 32 := Scalar.select v1527 c8_i32_844 v1529
  let c64_i32_845 : BitVec 32 := 64#32
  let v1531 : BitVec 32 := Scalar.muli v1530 c64_i32_845
  v1531
def k0_mult6 (i : grid0.Coords) : BitVec 32 :=
  let arg2 : BitVec 32 := BitVec.ofNat 32 (i 2).val
  let c0_i32_853 : BitVec 32 := 0#32
  let v1541 : BitVec 1 := Scalar.cmpi .eq arg2 c0_i32_853
  let c9_i32_857 : BitVec 32 := 9#32
  let c31_i32_854 : BitVec 32 := 31#32
  let v1542 : BitVec 1 := Scalar.cmpi .eq arg2 c31_i32_854
  let c8_i32_855 : BitVec 32 := 8#32
  let c9_i32_856 : BitVec 32 := 9#32
  let v1543 : BitVec 32 := Scalar.select v1542 c8_i32_855 c9_i32_856
  let v1544 : BitVec 32 := Scalar.select v1541 c9_i32_857 v1543
  let c64_i32_858 : BitVec 32 := 64#32
  let v1545 : BitVec 32 := Scalar.muli v1544 c64_i32_858
  v1545
def k0_mult7 (i : grid0.Coords) : BitVec 32 :=
  let arg2 : BitVec 32 := BitVec.ofNat 32 (i 2).val
  let c0_i32_866 : BitVec 32 := 0#32
  let v1555 : BitVec 1 := Scalar.cmpi .eq arg2 c0_i32_866
  let c10_i32_870 : BitVec 32 := 10#32
  let c31_i32_867 : BitVec 32 := 31#32
  let v1556 : BitVec 1 := Scalar.cmpi .eq arg2 c31_i32_867
  let c8_i32_868 : BitVec 32 := 8#32
  let c10_i32_869 : BitVec 32 := 10#32
  let v1557 : BitVec 32 := Scalar.select v1556 c8_i32_868 c10_i32_869
  let v1558 : BitVec 32 := Scalar.select v1555 c10_i32_870 v1557
  let c64_i32_871 : BitVec 32 := 64#32
  let v1559 : BitVec 32 := Scalar.muli v1558 c64_i32_871
  v1559
def k0_mult8 (i : grid0.Coords) : BitVec 32 :=
  let arg2 : BitVec 32 := BitVec.ofNat 32 (i 2).val
  let c0_i32_879 : BitVec 32 := 0#32
  let v1569 : BitVec 1 := Scalar.cmpi .eq arg2 c0_i32_879
  let c11_i32_883 : BitVec 32 := 11#32
  let c31_i32_880 : BitVec 32 := 31#32
  let v1570 : BitVec 1 := Scalar.cmpi .eq arg2 c31_i32_880
  let c8_i32_881 : BitVec 32 := 8#32
  let c11_i32_882 : BitVec 32 := 11#32
  let v1571 : BitVec 32 := Scalar.select v1570 c8_i32_881 c11_i32_882
  let v1572 : BitVec 32 := Scalar.select v1569 c11_i32_883 v1571
  let c64_i32_884 : BitVec 32 := 64#32
  let v1573 : BitVec 32 := Scalar.muli v1572 c64_i32_884
  v1573
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  ![arg0.toNat, arg1.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c31_i32 : BitVec 32 := 31#32
  let v1 : BitVec 32 := Scalar.minsi v0 c31_i32
  let c0_i32 : BitVec 32 := 0#32
  ![arg0.toNat, v1.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some ((8⁻¹ * (Real.log 2)⁻¹ : ℝ) : EReal)
  | _ => none
-- ==== Kernel2.lean ====
abbrev S2x16384x256 : Shape := ⟨3, ![2, 16384, 256]⟩
abbrev S2x16384x512 : Shape := ⟨3, ![2, 16384, 512]⟩
abbrev S1024x1024 : Shape := ⟨2, ![1024, 1024]⟩
abbrev S2x16384x1024 : Shape := ⟨3, ![2, 16384, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S2x64x2x128x32x8 : Shape := ⟨6, ![2, 64, 2, 128, 32, 8]⟩
abbrev S2x32x2x64x8x128 : Shape := ⟨6, ![2, 32, 2, 64, 8, 128]⟩
abbrev S2x32x2x512x128 : Shape := ⟨5, ![2, 32, 2, 512, 128]⟩
abbrev S1x1024 : Shape := ⟨2, ![1, 1024]⟩
abbrev S2x1x1024 : Shape := ⟨3, ![2, 1, 1024]⟩
abbrev S1x32x2x32x128 : Shape := ⟨5, ![1, 32, 2, 32, 128]⟩
abbrev S1x1024x512 : Shape := ⟨3, ![1, 1024, 512]⟩
abbrev S1x1024x256 : Shape := ⟨3, ![1, 1024, 256]⟩
abbrev S1x1024x1024 : Shape := ⟨3, ![1, 1024, 1024]⟩
abbrev S1x1x1024 : Shape := ⟨3, ![1, 1, 1024]⟩
abbrev S1x1x1x8x128 : Shape := ⟨5, ![1, 1, 1, 8, 128]⟩
abbrev S8x128 : Shape := ⟨2, ![8, 128]⟩
abbrev S8x1024 : Shape := ⟨2, ![8, 1024]⟩
abbrev S256x1024 : Shape := ⟨2, ![256, 1024]⟩
abbrev S1024x256 : Shape := ⟨2, ![1024, 256]⟩
abbrev S512x256 : Shape := ⟨2, ![512, 256]⟩
abbrev S512x1024 : Shape := ⟨2, ![512, 1024]⟩
abbrev S1x512x512 : Shape := ⟨3, ![1, 512, 512]⟩
abbrev S512x512 : Shape := ⟨2, ![512, 512]⟩
abbrev S1x512x256 : Shape := ⟨3, ![1, 512, 256]⟩
abbrev S1x512x1024 : Shape := ⟨3, ![1, 512, 1024]⟩
abbrev S512 : Shape := ⟨1, ![512]⟩
abbrev S512x1 : Shape := ⟨2, ![512, 1]⟩

abbrev nBuf : Space → Nat
  | .hbm => 30
  | .vmem => 26
  | .smem => 0
  | _ => 0

abbrev bufTy : (tb : Table) → Fin (tcTables nBuf tb) → BufTy
  | .hbm, ⟨0, _⟩ => ⟨S2x16384x256, .f32⟩
  | .hbm, ⟨1, _⟩ => ⟨S2x16384x512, .f32⟩
  | .hbm, ⟨2, _⟩ => ⟨S2x16384x256, .f32⟩
  | .hbm, ⟨3, _⟩ => ⟨S1024x1024, .f32⟩
  | .hbm, ⟨4, _⟩ => ⟨S2x16384x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S2x64x2x128x32x8, .f32⟩
  | .hbm, ⟨15, _⟩ => ⟨S2x32x2x64x8x128, .f32⟩
  | .hbm, ⟨16, _⟩ => ⟨S2x32x2x512x128, .f32⟩
  | .hbm, ⟨17, _⟩ => ⟨S2x16384x512, .bf16⟩
  | .hbm, ⟨18, _⟩ => ⟨S2x16384x256, .bf16⟩
  | .hbm, ⟨19, _⟩ => ⟨S1024x1024, .bf16⟩
  | .hbm, ⟨20, _⟩ => ⟨S1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S1x1024, .f32⟩
  | .hbm, ⟨26, _⟩ => ⟨S1x1024, .f32⟩
  | .hbm, ⟨27, _⟩ => ⟨S1024x5632, .bf16⟩
  | .hbm, ⟨28, _⟩ => ⟨S2816x1024, .bf16⟩
  | .hbm, ⟨29, _⟩ => ⟨S2x16384x1024, .f32⟩
  | .local _ .vmem, ⟨0, _⟩ => ⟨S1x32x2x32x128, .f32⟩
  | .local _ .vmem, ⟨1, _⟩ => ⟨S1x32x2x32x128, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1024, .f32⟩
  | .local _ .vmem, ⟨20, _⟩ => ⟨S1024x5632, .bf16⟩
  | .local _ .vmem, ⟨21, _⟩ => ⟨S2816x1024, .bf16⟩
  | .local _ .vmem, ⟨22, _⟩ => ⟨S1x1024x1024, .f32⟩
  | .local _ .vmem, ⟨23, _⟩ => ⟨S1x1024x1024, .f32⟩
  | .local _ .vmem, ⟨24, _⟩ => ⟨S1024x1024, .f32⟩
  | .local _ .vmem, ⟨25, _⟩ => ⟨S1024x1024, .bf16⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x2x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S2x16384x256 : Shape := ⟨3, ![2, 16384, 256]⟩
abbrev S2x16384x512 : Shape := ⟨3, ![2, 16384, 512]⟩
abbrev S1024x1024 : Shape := ⟨2, ![1024, 1024]⟩
abbrev S2x16384x1024 : Shape := ⟨3, ![2, 16384, 1024]⟩
abbrev S1024 : Shape := ⟨1, ![1024]⟩
abbrev S2x1024 : Shape := ⟨2, ![2, 1024]⟩
abbrev S1024x5632 : Shape := ⟨2, ![1024, 5632]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x512, .f32⟩
  | .hbm, ⟨2, _⟩ => ⟨S2x16384x256, .f32⟩
  | .hbm, ⟨3, _⟩ => ⟨S1024x1024, .f32⟩
  | .hbm, ⟨4, _⟩ => ⟨S2x16384x1024, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1024, .f32⟩
  | .hbm, ⟨11, _⟩ => ⟨S1024, .f32⟩
  | .hbm, ⟨12, _⟩ => ⟨S1024x5632, .f32⟩
  | .hbm, ⟨13, _⟩ => ⟨S2816x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x16384x1024, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S2x16384x1, .f32⟩
  | .hbm, ⟨31, _⟩ => ⟨S2x16384x1024, .f32⟩
  | .hbm, ⟨32, _⟩ => ⟨S2x16384x1024, .f32⟩
  | .hbm, ⟨33, _⟩ => ⟨S1x1x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S_, .f32⟩
  | .hbm, ⟨56, _⟩ => ⟨S2x1x1024, .f32⟩
  | .hbm, ⟨57, _⟩ => ⟨S2x1x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S2x16384x5632, .f32⟩
  | .hbm, ⟨63, _⟩ => ⟨S2x16384x2816, .f32⟩
  | .hbm, ⟨64, _⟩ => ⟨S2x16384x2816, .f32⟩
  | .hbm, ⟨65, _⟩ => ⟨S2x16384x2816, .f32⟩
  | .hbm, ⟨66, _⟩ => ⟨S2x16384x2816, .f32⟩
  | .hbm, ⟨67, _⟩ => ⟨S_, .f32⟩
  | .hbm, ⟨68, _⟩ => ⟨S2x16384x2816, .f32⟩
  | .hbm, ⟨69, _⟩ => ⟨S2x16384x2816, .f32⟩
  | .hbm, ⟨70, _⟩ => ⟨S_, .f32⟩
  | .hbm, ⟨71, _⟩ => ⟨S2x16384x2816, .f32⟩
  | .hbm, ⟨72, _⟩ => ⟨S2x16384x2816, .f32⟩
  | .hbm, ⟨73, _⟩ => ⟨S2x16384x2816, .f32⟩
  | .hbm, ⟨74, _⟩ => ⟨S2x16384x2816, .f32⟩
  | .hbm, ⟨75, _⟩ => ⟨S2x16384x1024, .f32⟩
  | .hbm, ⟨76, _⟩ => ⟨S2x16384x1024, .f32⟩
  | .hbm, ⟨77, _⟩ => ⟨S_, .f32⟩
  | .hbm, ⟨78, _⟩ => ⟨S2x16384, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S_, .f32⟩
  | .hbm, ⟨84, _⟩ => ⟨S2x16384x1, .f32⟩
  | .hbm, ⟨85, _⟩ => ⟨S2x16384x1, .f32⟩
  | .hbm, ⟨86, _⟩ => ⟨S2x16384x1, .f32⟩
  | .hbm, ⟨87, _⟩ => ⟨S2x16384x1024, .f32⟩
  | .hbm, ⟨88, _⟩ => ⟨S2x16384x1024, .f32⟩
  | .hbm, ⟨89, _⟩ => ⟨S1x1x1024, .f32⟩
  | .hbm, ⟨90, _⟩ => ⟨S2x16384x1024, .f32⟩
  | .hbm, ⟨91, _⟩ => ⟨S2x16384x1024, .f32⟩
  | .hbm, ⟨92, _⟩ => ⟨S2x16384x1024, .f32⟩
  | .hbm, ⟨93, _⟩ => ⟨S2x16384x1024, .f32⟩
  | .hbm, ⟨94, _⟩ => ⟨S2x16384x1024, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x768 : Shape := ⟨2, ![3, 768]⟩
abbrev S768 : Shape := ⟨1, ![768]⟩
abbrev S4x256 : Shape := ⟨2, ![4, 256]⟩
abbrev S256 : Shape := ⟨1, ![256]⟩
abbrev S2x1x1024 : Shape := ⟨3, ![2, 1, 1024]⟩
abbrev S1x1024 : Shape := ⟨2, ![1, 1024]⟩
abbrev S1x768 : Shape := ⟨2, ![1, 768]⟩
abbrev S1x256 : Shape := ⟨2, ![1, 256]⟩
abbrev S2x32x2x512x128 : Shape := ⟨5, ![2, 32, 2, 512, 128]⟩
abbrev S2x16384x512 : Shape := ⟨3, ![2, 16384, 512]⟩
abbrev S2x512x16384 : Shape := ⟨3, ![2, 512, 16384]⟩
abbrev S2x16384x256 : Shape := ⟨3, ![2, 16384, 256]⟩
abbrev S1x8x1024 : Shape := ⟨3, ![1, 8, 1024]⟩
abbrev S1x1024x1024 : Shape := ⟨3, ![1, 1024, 1024]⟩
abbrev S1x1x1024 : Shape := ⟨3, ![1, 1, 1024]⟩
abbrev S1x32x2x32x128 : Shape := ⟨5, ![1, 32, 2, 32, 128]⟩
abbrev S1x1024x512 : Shape := ⟨3, ![1, 1024, 512]⟩
abbrev S1x512x1024 : Shape := ⟨3, ![1, 512, 1024]⟩
abbrev S1x1024x256 : Shape := ⟨3, ![1, 1024, 256]⟩
abbrev S1040x1024 : Shape := ⟨2, ![1040, 1024]⟩
abbrev S8x1024 : Shape := ⟨2, ![8, 1024]⟩
abbrev S8 : Shape := ⟨1, ![8]⟩
abbrev S8x1 : Shape := ⟨2, ![8, 1]⟩
abbrev S1024x1024 : Shape := ⟨2, ![1024, 1024]⟩
abbrev S1024x1 : Shape := ⟨2, ![1024, 1]⟩
abbrev S1024x768 : Shape := ⟨2, ![1024, 768]⟩
abbrev S1040x768 : Shape := ⟨2, ![1040, 768]⟩
abbrev S1024x256 : Shape := ⟨2, ![1024, 256]⟩
abbrev S1040x256 : Shape := ⟨2, ![1040, 256]⟩
abbrev S1024x1536 : Shape := ⟨2, ![1024, 1536]⟩
abbrev S1024x512 : Shape := ⟨2, ![1024, 512]⟩
abbrev S512x1024 : Shape := ⟨2, ![512, 1024]⟩
abbrev S256x1024 : Shape := ⟨2, ![256, 1024]⟩
abbrev S8x128 : Shape := ⟨2, ![8, 128]⟩
abbrev S1x1x1x8x128 : Shape := ⟨5, ![1, 1, 1, 8, 128]⟩
abbrev S2x32x2x64x8x128 : Shape := ⟨6, ![2, 32, 2, 64, 8, 128]⟩
abbrev S2x64x2x128x32x8 : Shape := ⟨6, ![2, 64, 2, 128, 32, 8]⟩

abbrev nBuf : Space → Nat
  | .hbm => 36
  | .vmem => 33
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S3x768, .f32⟩
  | .hbm, ⟨6, _⟩ => ⟨S768, .f32⟩
  | .hbm, ⟨7, _⟩ => ⟨S4x256, .f32⟩
  | .hbm, ⟨8, _⟩ => ⟨S256, .f32⟩
  | .hbm, ⟨9, _⟩ => ⟨S2x1x1024, .f32⟩
  | .hbm, ⟨10, _⟩ => ⟨S2x1x1024, .f32⟩
  | .hbm, ⟨11, _⟩ => ⟨S1x1024, .f32⟩
  | .hbm, ⟨12, _⟩ => ⟨S1024x2816, .bf16⟩
  | .hbm, ⟨13, _⟩ => ⟨S1x768, .f32⟩
  | .hbm, ⟨14, _⟩ => ⟨S1x256, .f32⟩
  | .hbm, ⟨15, _⟩ => ⟨S2x32x2x512x128, .f32⟩
  | .hbm, ⟨16, _⟩ => ⟨S2x32x2x512x128, .f32⟩
  | .hbm, ⟨17, _⟩ => ⟨S2x32x2x512x128, .f32⟩
  | .hbm, ⟨18, _⟩ => ⟨S2x16384x512, .bf16⟩
  | .hbm, ⟨19, _⟩ => ⟨S2x512x16384, .bf16⟩
  | .hbm, ⟨20, _⟩ => ⟨S2x16384x512, .bf16⟩
  | .hbm, ⟨21, _⟩ => ⟨S2x16384x256, .f32⟩
  | .hbm, ⟨22, _⟩ => ⟨S2x16384x256, .f32⟩
  | .hbm, ⟨23, _⟩ => ⟨S2x32x2x64x8x128, .f32⟩
  | .hbm, ⟨24, _⟩ => ⟨S2x64x2x128x32x8, .f32⟩
  | .hbm, ⟨25, _⟩ => ⟨S2x16384x256, .f32⟩
  | .hbm, ⟨26, _⟩ => ⟨S2x32x2x64x8x128, .f32⟩
  | .hbm, ⟨27, _⟩ => ⟨S2x64x2x128x32x8, .f32⟩
  | .hbm, ⟨28, _⟩ => ⟨S2x16384x256, .f32⟩
  | .hbm, ⟨29, _⟩ => ⟨S2x32x2x64x8x128, .f32⟩
  | .hbm, ⟨30, _⟩ => ⟨S2x64x2x128x32x8, .f32⟩
  | .hbm, ⟨31, _⟩ => ⟨S2x16384x256, .f32⟩
  | .hbm, ⟨32, _⟩ => ⟨S2x16384x512, .f32⟩
  | .hbm, ⟨33, _⟩ => ⟨S2x16384x512, .bf16⟩
  | .hbm, ⟨34, _⟩ => ⟨S2x16384x512, .f32⟩
  | .hbm, ⟨35, _⟩ => ⟨S2x16384x512, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x2816, .bf16⟩
  | .local _ .vmem, ⟨12, _⟩ => ⟨S3x768, .f32⟩
  | .local _ .vmem, ⟨13, _⟩ => ⟨S1x768, .f32⟩
  | .local _ .vmem, ⟨14, _⟩ => ⟨S4x256, .f32⟩
  | .local _ .vmem, ⟨15, _⟩ => ⟨S1x256, .f32⟩
  | .local _ .vmem, ⟨16, _⟩ => ⟨S1x32x2x32x128, .f32⟩
  | .local _ .vmem, ⟨17, _⟩ => ⟨S1x32x2x32x128, .f32⟩
  | .local _ .vmem, ⟨18, _⟩ => ⟨S1x32x2x32x128, .f32⟩
  | .local _ .vmem, ⟨19, _⟩ => ⟨S1x32x2x32x128, .f32⟩
  | .local _ .vmem, ⟨20, _⟩ => ⟨S1x32x2x32x128, .f32⟩
  | .local _ .vmem, ⟨21, _⟩ => ⟨S1x32x2x32x128, .f32⟩
  | .local _ .vmem, ⟨22, _⟩ => ⟨S1x1024x512, .bf16⟩
  | .local _ .vmem, ⟨23, _⟩ => ⟨S1x1024x512, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x256, .f32⟩
  | .local _ .vmem, ⟨29, _⟩ => ⟨S1x1024x256, .f32⟩
  | .local _ .vmem, ⟨30, _⟩ => ⟨S1x1024x256, .f32⟩
  | .local _ .vmem, ⟨31, _⟩ => ⟨S1x1024x256, .f32⟩
  | .local _ .vmem, ⟨32, _⟩ => ⟨S1040x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x2x32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x2x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x2x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x768 : Shape := ⟨2, ![3, 768]⟩
abbrev S768 : Shape := ⟨1, ![768]⟩
abbrev S4x256 : Shape := ⟨2, ![4, 256]⟩
abbrev S256 : Shape := ⟨1, ![256]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x2816 : Shape := ⟨3, ![2, 16384, 2816]⟩
abbrev S2x16384x768 : Shape := ⟨3, ![2, 16384, 768]⟩
abbrev S2x16386x768 : Shape := ⟨3, ![2, 16386, 768]⟩
abbrev S1x768 : Shape := ⟨2, ![1, 768]⟩
abbrev S1x1x768 : Shape := ⟨3, ![1, 1, 768]⟩
abbrev S2x16384x256 : Shape := ⟨3, ![2, 16384, 256]⟩
abbrev S2x16384x1536 : Shape := ⟨3, ![2, 16384, 1536]⟩
abbrev S2x16384x512 : Shape := ⟨3, ![2, 16384, 512]⟩
abbrev S2x16387x256 : Shape := ⟨3, ![2, 16387, 256]⟩
abbrev S1x256 : Shape := ⟨2, ![1, 256]⟩
abbrev S1x1x256 : Shape := ⟨3, ![1, 1, 256]⟩

abbrev nBuf : Space → Nat
  | .hbm => 108
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S3x768, .f32⟩
  | .hbm, ⟨6, _⟩ => ⟨S768, .f32⟩
  | .hbm, ⟨7, _⟩ => ⟨S4x256, .f32⟩
  | .hbm, ⟨8, _⟩ => ⟨S256, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x16384x1024, .f32⟩
  | .hbm, ⟨30, _⟩ => ⟨S2x16384x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x2816, .f32⟩
  | .hbm, ⟨35, _⟩ => ⟨S2x16384x768, .f32⟩
  | .hbm, ⟨36, _⟩ => ⟨S_, .i32⟩
  | .hbm, ⟨37, _⟩ => ⟨S_, .f32⟩
  | .hbm, ⟨38, _⟩ => ⟨S2x16386x768, .f32⟩
  | .hbm, ⟨39, _⟩ => ⟨S1x768, .f32⟩
  | .hbm, ⟨40, _⟩ => ⟨S768, .f32⟩
  | .hbm, ⟨41, _⟩ => ⟨S2x16384x768, .f32⟩
  | .hbm, ⟨42, _⟩ => ⟨S1x1x768, .f32⟩
  | .hbm, ⟨43, _⟩ => ⟨S2x16384x768, .f32⟩
  | .hbm, ⟨44, _⟩ => ⟨S2x16384x768, .f32⟩
  | .hbm, ⟨45, _⟩ => ⟨S1x1x768, .f32⟩
  | .hbm, ⟨46, _⟩ => ⟨S2x16384x768, .f32⟩
  | .hbm, ⟨47, _⟩ => ⟨S2x16384x768, .f32⟩
  | .hbm, ⟨48, _⟩ => ⟨S1x768, .f32⟩
  | .hbm, ⟨49, _⟩ => ⟨S768, .f32⟩
  | .hbm, ⟨50, _⟩ => ⟨S2x16384x768, .f32⟩
  | .hbm, ⟨51, _⟩ => ⟨S1x1x768, .f32⟩
  | .hbm, ⟨52, _⟩ => ⟨S2x16384x768, .f32⟩
  | .hbm, ⟨53, _⟩ => ⟨S2x16384x768, .f32⟩
  | .hbm, ⟨54, _⟩ => ⟨S2x16384x768, .f32⟩
  | .hbm, ⟨55, _⟩ => ⟨S1x768, .f32⟩
  | .hbm, ⟨56, _⟩ => ⟨S768, .f32⟩
  | .hbm, ⟨57, _⟩ => ⟨S2x16384x768, .f32⟩
  | .hbm, ⟨58, _⟩ => ⟨S1x1x768, .f32⟩
  | .hbm, ⟨59, _⟩ => ⟨S2x16384x768, .f32⟩
  | .hbm, ⟨60, _⟩ => ⟨S2x16384x768, .f32⟩
  | .hbm, ⟨61, _⟩ => ⟨S2x16384x768, .f32⟩
  | .hbm, ⟨62, _⟩ => ⟨S2x16384x256, .f32⟩
  | .hbm, ⟨63, _⟩ => ⟨S2x16384x256, .f32⟩
  | .hbm, ⟨64, _⟩ => ⟨S2x16384x256, .f32⟩
  | .hbm, ⟨65, _⟩ => ⟨S2x16384x1536, .f32⟩
  | .hbm, ⟨66, _⟩ => ⟨S2x16384x512, .f32⟩
  | .hbm, ⟨67, _⟩ => ⟨S2x16384x512, .f32⟩
  | .hbm, ⟨68, _⟩ => ⟨S2x16384x512, .f32⟩
  | .hbm, ⟨69, _⟩ => ⟨S2x16384x512, .f32⟩
  | .hbm, ⟨70, _⟩ => ⟨S2x16384x256, .f32⟩
  | .hbm, ⟨71, _⟩ => ⟨S2x16384x256, .f32⟩
  | .hbm, ⟨72, _⟩ => ⟨S_, .f32⟩
  | .hbm, ⟨73, _⟩ => ⟨S2x16384x512, .f32⟩
  | .hbm, ⟨74, _⟩ => ⟨S2x16384x512, .f32⟩
  | .hbm, ⟨75, _⟩ => ⟨S_, .i32⟩
  | .hbm, ⟨76, _⟩ => ⟨S_, .f32⟩
  | .hbm, ⟨77, _⟩ => ⟨S2x16387x256, .f32⟩
  | .hbm, ⟨78, _⟩ => ⟨S1x256, .f32⟩
  | .hbm, ⟨79, _⟩ => ⟨S256, .f32⟩
  | .hbm, ⟨80, _⟩ => ⟨S2x16384x256, .f32⟩
  | .hbm, ⟨81, _⟩ => ⟨S1x1x256, .f32⟩
  | .hbm, ⟨82, _⟩ => ⟨S2x16384x256, .f32⟩
  | .hbm, ⟨83, _⟩ => ⟨S2x16384x256, .f32⟩
  | .hbm, ⟨84, _⟩ => ⟨S1x1x256, .f32⟩
  | .hbm, ⟨85, _⟩ => ⟨S2x16384x256, .f32⟩
  | .hbm, ⟨86, _⟩ => ⟨S2x16384x256, .f32⟩
  | .hbm, ⟨87, _⟩ => ⟨S1x256, .f32⟩
  | .hbm, ⟨88, _⟩ => ⟨S256, .f32⟩
  | .hbm, ⟨89, _⟩ => ⟨S2x16384x256, .f32⟩
  | .hbm, ⟨90, _⟩ => ⟨S1x1x256, .f32⟩
  | .hbm, ⟨91, _⟩ => ⟨S2x16384x256, .f32⟩
  | .hbm, ⟨92, _⟩ => ⟨S2x16384x256, .f32⟩
  | .hbm, ⟨93, _⟩ => ⟨S2x16384x256, .f32⟩
  | .hbm, ⟨94, _⟩ => ⟨S1x256, .f32⟩
  | .hbm, ⟨95, _⟩ => ⟨S256, .f32⟩
  | .hbm, ⟨96, _⟩ => ⟨S2x16384x256, .f32⟩
  | .hbm, ⟨97, _⟩ => ⟨S1x1x256, .f32⟩
  | .hbm, ⟨98, _⟩ => ⟨S2x16384x256, .f32⟩
  | .hbm, ⟨99, _⟩ => ⟨S2x16384x256, .f32⟩
  | .hbm, ⟨100, _⟩ => ⟨S2x16384x256, .f32⟩
  | .hbm, ⟨101, _⟩ => ⟨S1x256, .f32⟩
  | .hbm, ⟨102, _⟩ => ⟨S256, .f32⟩
  | .hbm, ⟨103, _⟩ => ⟨S2x16384x256, .f32⟩
  | .hbm, ⟨104, _⟩ => ⟨S1x1x256, .f32⟩
  | .hbm, ⟨105, _⟩ => ⟨S2x16384x256, .f32⟩
  | .hbm, ⟨106, _⟩ => ⟨S2x16384x256, .f32⟩
  | .hbm, ⟨107, _⟩ => ⟨S2x16384x256, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_c_4 : Ref sig .tc := ⟨.hbm, 75, rfl⟩
abbrev main_call1_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Proof.Na.Run.lean ====
module

public import proofs.«01_k».proof.Proof.Gen.KernelIdeal.Frame
public import proofs.«01_k».proof.Proof.Gen.KernelIdeal.Skeleton

@[expose] public section

set_option maxRecDepth 16384

noncomputable section

namespace Cert.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A postcondition set aside: the same statement under a name, so that a run stops where it begins. -/
def Held (P : sProp 𝕄) : sProp 𝕄 := P

theorem held_elim {α : Type} {Ef} {Fr wpE} {E : Set ℕ} (p : Prog Ef α) (Q : α → sProp 𝕄) :
    wp Fr wpE E p (fun a => Held (Q a)) ⊢ wp Fr wpE E p Q := .rfl

/-- The three fills of the values' window, one above another. -/
def fills (p0 p1 p2 : Vec F S512x128 .bf16) : List (View.Piece (Elt F) S1536x128 .bf16) :=
  [⟨Rect.unit ![1024, 0] S512x128.size inb_S1536x128_S512x128_1024_0, p2⟩, ⟨Rect.unit ![512, 0] S512x128.size inb_S1536x128_S512x128_512_0, p1⟩,
    ⟨Rect.unit ![0, 0] S512x128.size inb_S1536x128_S512x128_0_0, p0⟩]

/-- What the window of values holds once filled. -/
def stack (p0 p1 p2 : Vec F S512x128 .bf16) : Vec F S1536x128 .bf16 :=
  (Memref.whole cc0_scratch2 : Memref sig .tc .vmem S1536x128 .bf16).view.read (Elt F)
    ((Memref.whole cc0_scratch2 : Memref sig .tc .vmem S1536x128 .bf16).view.writes (Elt F) (Memref.whole cc0_scratch2 : Memref sig .tc .vmem S1536x128 .bf16).view.junk (fills p0 p1 p2))

/-- The filled window holds its stack, whatever it held before. -/
theorem filled (c : Dev nD) (arg16 : Memref sig .tc .vmem S1536x128 .bf16) (harg16 : arg16.IsWhole) (f : Buf (Elt F) (arg16.view.loc (c : Thread nD τ)))
    (p0 p1 p2 : Vec F S512x128 .bf16) :
    (arg16.view.loc (c : Thread nD τ) ↦[arg16.view.set]{fullShare} arg16.view.writes (Elt F) f (fills p0 p1 p2) : sProp 𝕄)
      = arg16.view.loc (c : Thread nD τ) ↦[arg16.view.set]{fullShare} harg16.unread (stack p0 p1 p2) := by
  rw [Memref.pointsTo_writes_junk_of_covChk (c : Thread nD τ) arg16 f (fills p0 p1 p2) fullShare (.split 0 512 (.leaf 2) (.split 0 512 (.leaf 1) (.leaf 0))) (by sl_kernel_rfl)]
  exact congrArg _ (harg16.eq_unread (Memref.IsWhole.read_writes_junk harg16 (Memref.isWhole_whole cc0_scratch2) (fills p0 p1 p2)))

-- (the run's proof term is large: the declaration's last pass walks it past the default budget)
set_option maxHeartbeats 4000000 in
/-- The body on any whole staging buffers: from the inputs at their contents, the output and the scratch buffers at
    anything, it runs to the continuation holding the inputs as they were, the output with the pieces `L` written,
    and the scratch buffers at something. The pieces are what the run finds. The three fills of the values' window cover
    it, so what it held before is forgotten there, and the later reads at a run-time row depend on the fills alone. -/
noncomputable def kernelRun (c : Dev nD) (i : grid0.Coords) (arg3 : Memref sig .tc .vmem S1x512x128 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x8x128x512 .f32) (harg12 : arg12.IsWhole) (arg13 : Memref sig .tc .vmem S1x512x128 .bf16) (harg13 : arg13.IsWhole) (arg14 : Memref sig .tc .vmem S128x1536 .bf16) (harg14 : arg14.IsWhole) (arg15 : Memref sig .tc .vmem S128x1536 .bf16) (harg15 : arg15.IsWhole) (arg16 : Memref sig .tc .vmem S1536x128 .bf16) (harg16 : arg16.IsWhole) (arg17 : Memref sig .tc .vmem S1024x256 .f32) (harg17 : arg17.IsWhole) (arg18 : Memref sig .tc .vmem S1024x256 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S8x128x512 .f32) (harg21 : arg21.IsWhole) (arg22 : Memref sig .tc .vmem S8x128x512 .bf16) (harg22 : arg22.IsWhole)
    (x0 : Vec F S1x512x128 .f32) (x1 : Vec F S1x128x512 .bf16) (x2 : Vec F S1x128x512 .bf16) (x3 : Vec F S1x128x512 .bf16) (x4 : Vec F S1x512x128 .bf16) (x5 : Vec F S1x512x128 .bf16) (x6 : Vec F S1x512x128 .bf16) (x7 : Vec F S1x256x128 .bf16) (x8 : Vec F S1x256x128 .bf16) (x9 : Vec F S1x8x128x512 .f32) :
    { L : List (View.Piece (Elt F) S1x512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg22.view.loc (c : Thread nD τ) ↦[arg22.view.set]{fullShare} f)) -∗ K PUnit.unit))
          ⊢ wp frame (wpE (defs₀ (F := F)) Variants.none c none) E (cc0_nattn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, fun E K => ?run⟩
  case run =>
    simp only [cc0_nattn_eq_skeleton]; unfold cc0_nattn_skel
    simp only [k0_part46_eq_skeleton]; unfold k0_part46_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    rw [wp_bind, wp_bind]
    iapply (held_elim _ _)
    sl_exec
    sl_step
    unfold Held
    rw [wp_bind]
    iapply (held_elim _ _)
    sl_exec
    sl_step
    unfold Held
    have hfill := filled (F := F) c arg16 harg16 fs2
    unfold fills at hfill
    ihave HS2 := (Entails.of_eq (hfill _ _ _)) $$ HS2
    sl_exec
    sl_step

    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8

end Cert.Na

end
-- ==== Proof.Na.Frame.lean ====
module

public import proofs.«01_k».proof.Proof.Na.Run
public import Idealize.ShloMosaic.Lib.Claim

@[expose] public section

set_option maxRecDepth 16384

noncomputable section

namespace Cert.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output's view through which its contents are stated: any whole buffer would do. -/
abbrev VO : View sig .tc .vmem S1x512x128 .bf16 := (Memref.whole cc0_stg10_0 : Memref sig .tc .vmem S1x512x128 .bf16).view
abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x128x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512x128 .bf16 := win0_10.stage (cfg0.slots t 10)
abbrev hs10 (t : Fin cfg0.N) : (ms10 t).IsWhole := hstage0_10 ((cfg0.slots t 10).cast nbuf0_10)
abbrev sc0 : Memref sig .tc .vmem S128x1536 .bf16 := Memref.whole cc0_scratch0
abbrev sc1 : Memref sig .tc .vmem S128x1536 .bf16 := Memref.whole cc0_scratch1
abbrev sc2 : Memref sig .tc .vmem S1536x128 .bf16 := Memref.whole cc0_scratch2
abbrev sc3 : Memref sig .tc .vmem S1024x256 .f32 := Memref.whole cc0_scratch3
abbrev sc4 : Memref sig .tc .vmem S1024x256 .bf16 := Memref.whole cc0_scratch4
abbrev sc5 : Memref sig .tc .vmem S1024x128 .f32 := Memref.whole cc0_scratch5
abbrev sc6 : Memref sig .tc .vmem S1024x128 .f32 := Memref.whole cc0_scratch6
abbrev sc7 : Memref sig .tc .vmem S8x128x512 .f32 := Memref.whole cc0_scratch7
abbrev sc8 : Memref sig .tc .vmem S8x128x512 .bf16 := Memref.whole cc0_scratch8

/-- What the region keeps beside the windows: the scratch buffers at some contents and the generator's register. -/
theorem phi_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- The eight stores tile the output block. -/
theorem covered (c : Dev nD) (i : grid0.Coords) (arg3 : Memref sig .tc .vmem S1x512x128 .f32) (harg3 : arg3.IsWhole) (arg4 : Memref sig .tc .vmem S1x128x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x8x128x512 .f32) (harg12 : arg12.IsWhole) (arg13 : Memref sig .tc .vmem S1x512x128 .bf16) (harg13 : arg13.IsWhole) (arg14 : Memref sig .tc .vmem S128x1536 .bf16) (harg14 : arg14.IsWhole) (arg15 : Memref sig .tc .vmem S128x1536 .bf16) (harg15 : arg15.IsWhole) (arg16 : Memref sig .tc .vmem S1536x128 .bf16) (harg16 : arg16.IsWhole) (arg17 : Memref sig .tc .vmem S1024x256 .f32) (harg17 : arg17.IsWhole) (arg18 : Memref sig .tc .vmem S1024x256 .bf16) (harg18 : arg18.IsWhole) (arg19 : Memref sig .tc .vmem S1024x128 .f32) (harg19 : arg19.IsWhole) (arg20 : Memref sig .tc .vmem S1024x128 .f32) (harg20 : arg20.IsWhole) (arg21 : Memref sig .tc .vmem S8x128x512 .f32) (harg21 : arg21.IsWhole) (arg22 : Memref sig .tc .vmem S8x128x512 .bf16) (harg22 : arg22.IsWhole)
    (x0 : Vec F S1x512x128 .f32) (x1 : Vec F S1x128x512 .bf16) (x2 : Vec F S1x128x512 .bf16) (x3 : Vec F S1x128x512 .bf16) (x4 : Vec F S1x512x128 .bf16) (x5 : Vec F S1x512x128 .bf16) (x6 : Vec F S1x512x128 .bf16) (x7 : Vec F S1x256x128 .bf16) (x8 : Vec F S1x256x128 .bf16) (x9 : Vec F S1x8x128x512 .f32) (y : S1x512x128.Idx) :
    ∃ pc ∈ (kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9).1, y ∈ pc.1.set :=
  View.cover_of_tiledL (kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9).1 S1x64x128.size (by sl_kernel_rfl) y

/-- What a point leaves in the output's block: the run's pieces at the point's blocks. -/
def outAt (c : Dev nD) (t : Fin cfg0.N) : Vec F S1x512x128 .bf16 :=
  VO.read (Elt F) (VO.writes (Elt F) VO.junk (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)).1)

/-- The launch's proof data: the arrays as the region finds them; after a point each input's block in place and the
    output's at `outAt`; arrays that several windows read are shared among them; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q w := Pipeline.shareOf spec0 w
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]
theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d
theorem before_9 (c : Dev nD) (t : Fin cfg0.N) (d) : (dats m 0 c).before 9 t d = iblk m c 9 t :=
  before0_9_of m (dats m 0 c) (arrays_eq m c 9) (after_9 m c) t d

/-- What the body is called with at a point, -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it gives back. -/
def back (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- The body at any point: the inputs hold their blocks, so the run applies. -/
theorem body_sound (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, phi_eq]
  unfold outAt
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, ⟨%e10, H10⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩⟩
  isplitl [HS0 HS1 HS2 HS3 HS4 HS5 HS6 HS7 HS8 Hg]
  · isplitl [HS0 HS1 HS2 HS3 HS4 HS5 HS6 HS7 HS8]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      iexists _; unfold owns; iexists _; isplitr
      swap; · iexact HS8
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (covered c _ _ _ _ _ _ _ _ _ _ _ _ _ _ _ _ _ _ _ _ _ _ _ _ _ _ _ _ _ _ _ _ _ _ _ _ _ _ _ _ _ _ _ _ _ _ _ _ _ _ _)

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The launch: every final state has the arrays at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := arrays_eq m) (hΦ := fun _ _ => rfl)

/-- Every run of the program ends, and ends with the arrays at what the proof data say. -/
theorem run_ends : θ_run defs (onTc (τ := τ) (main (F := F))) (s₀ m ρ) (Pipeline.FramePost cfgs (dats m) 0 (V m)) :=
  (θ_run defs _ _).mono (fun _ h => h.1) (run_quiescent m ρ)

/-- Every run ends with the argument arrays unchanged and every counter at zero. -/
theorem frame_all : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays_eq m) (run_ends m ρ)) ((θ_run defs _ _).mono (fun _ h => h.2) (run_quiescent m ρ))

end Cert.Na

end
-- ==== Proof.Na.Claims.lean ====
/- The claims about the neighbourhood attention's call: both texts run, leave their arguments and their counters, and the
   second is the first with its two constants read as the reals they stand for. -/
module

public import proofs.«01_k».proof.Defs
public import proofs.«01_k».proof.Proof.Gen.Kernel
public import proofs.«01_k».proof.Proof.Gen.KernelIdeal
public import proofs.«01_k».proof.Proof.NaK.Frame
public import proofs.«01_k».proof.Proof.Na.Frame

@[expose] public section

noncomputable section

namespace Cert.Na.Claims

open Idealize.ShloMosaic Idealize.ShloMosaic.TcCoe Idealize.SL.Sem

/-- The kernel at bits leaves its arguments and its counters. -/
theorem frame_k : Cert.quiescent_Kernel (hKernel := Cert.Kernel.Gen.facts) := fun m g _ => Cert.NaK.frame_all m g

/-- The kernel at the reals leaves its arguments and its counters. -/
theorem frame_ki : Cert.quiescent_KernelIdeal (hKernelIdeal := Cert.KernelIdeal.Gen.facts) := fun m g _ => Cert.Na.frame_all m g

/-- The two constants that were given their real values are named at the reals and literal at bits. -/
theorem preserves : Cert.preserves_Kernel_KernelIdeal :=
  ⟨IdealRules.named_const.statement Cert.KernelIdeal.κ "scale_log2e" .f32 0x3E38AA3B#32 _ rfl,
    IdealRules.named_const.statement Cert.KernelIdeal.κ "log2e" .f32 0x3FB8AA3B#32 _ rfl⟩

end Cert.Na.Claims

end
-- ==== Proof.Ffn.Rows.lean ====
/-
  The arithmetic of one row of the second call, as functions of a channel: what both programs compute at a row.
-/
module

public import Idealize.ShloMosaic.Lib.Pointwise

@[expose] public section

noncomputable section

namespace Cert.Ffn

open Idealize.ShloMosaic

/-- The row's length and the small constant under the root, as the programs write them. -/
def cLen : EReal := Ideal.ofBits .f32 0x44800000#32
def cEps : EReal := Ideal.ofBits .f32 0x358637BD#32

/-- Root mean square normalisation of a row with a gain. -/
def rmsRow (y g : Fin 1024 → EReal) (l : Fin 1024) : EReal :=
  y l * Ideal.rsqrt (Ideal.div (∑ k, y k * y k) cLen + cEps) * g l

/-- The gated residual of a row. -/
def resRow (x y g gt : Fin 1024 → EReal) (l : Fin 1024) : EReal := x l + gt l * rmsRow y g l

/-- The feed-forward part's input row. -/
def hRow (x g sc sh : Fin 1024 → EReal) (l : Fin 1024) : EReal := rmsRow x g l * (1 + sc l) + sh l

/-- The output projection's row from the three mixers' rows. -/
def yRow (a : Fin 256 → EReal) (b : Fin 512 → EReal) (c : Fin 256 → EReal) (w : Fin 1024 → Fin 1024 → EReal) (l : Fin 1024) : EReal :=
  (∑ k : Fin 256, a k * w ⟨k, by omega⟩ l) + (∑ k : Fin 512, b k * w ⟨256 + k, by omega⟩ l) + ∑ k : Fin 256, c k * w ⟨768 + k, by omega⟩ l

/-- The gated activation of a row at hidden channel `n`. -/
def actRow (h : Fin 1024 → EReal) (w : Fin 1024 → Fin 5632 → EReal) (n : Fin 2816) : EReal :=
  (∑ k, h k * w k ⟨n, by omega⟩) * Ideal.logistic (∑ k, h k * w k ⟨n, by omega⟩) * ∑ k, h k * w k ⟨2816 + n, by omega⟩

/-- The feed-forward part's second product. -/
def ffRow (h : Fin 1024 → EReal) (w : Fin 1024 → Fin 5632 → EReal) (wd : Fin 2816 → Fin 1024 → EReal) (l : Fin 1024) : EReal :=
  ∑ n, actRow h w n * wd n l

/-- The chunk of 256 hidden channels from `o` on. -/
def chunkRow (h : Fin 1024 → EReal) (w : Fin 1024 → Fin 5632 → EReal) (wd : Fin 2816 → Fin 1024 → EReal) (j : Fin 11) (l : Fin 1024) : EReal :=
  ∑ i : Fin 256, actRow h w ⟨j * 256 + i, by omega⟩ * wd ⟨j * 256 + i, by omega⟩ l

theorem ffRow_chunks (h : Fin 1024 → EReal) (w : Fin 1024 → Fin 5632 → EReal) (wd : Fin 2816 → Fin 1024 → EReal) (l : Fin 1024) :
    0 + chunkRow h w wd 0 l + chunkRow h w wd 1 l + chunkRow h w wd 2 l + chunkRow h w wd 3 l + chunkRow h w wd 4 l + chunkRow h w wd 5 l
      + chunkRow h w wd 6 l + chunkRow h w wd 7 l + chunkRow h w wd 8 l + chunkRow h w wd 9 l + chunkRow h w wd 10 l = ffRow h w wd l := by
  have e : ffRow h w wd l = ∑ j, chunkRow h w wd j l := Fin.sum_univ_tiles 11 256 rfl (fun n : Fin 2816 => actRow h w n * wd n l)
  rw [e]
  simp only [Fin.sum_univ_succ, Finset.univ_eq_empty, Finset.sum_empty, Fin.isValue, zero_add, add_zero, Fin.succ_zero_eq_one, Fin.succ_one_eq_two, add_assoc]
  rfl

/-- The layer's row from the mixers' rows. -/
def x1Row (a : Fin 256 → EReal) (b : Fin 512 → EReal) (c : Fin 256 → EReal) (w : Fin 1024 → Fin 1024 → EReal) (x g gt : Fin 1024 → EReal) : Fin 1024 → EReal :=
  resRow x (yRow a b c w) g gt

def outRow (x1 sc sh gt gpre gpost : Fin 1024 → EReal) (w : Fin 1024 → Fin 5632 → EReal) (wd : Fin 2816 → Fin 1024 → EReal) : Fin 1024 → EReal :=
  resRow x1 (ffRow (hRow x1 gpre sc sh) w wd) gpost gt

end Cert.Ffn
-- ==== Proof.Ffn.Dense.lean ====
/-
  The second kernel's payloads folded into a few block functions, and each block function read at an index.
-/
module

public import proofs.«01_k».proof.Proof.Gen.Kernel2Ideal.Skeleton
public import proofs.«01_k».proof.Proof.Ffn.Rows
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.SL.Sem

/-- A block of the output projection. -/
def ykD (a : FVec Ideal S512x256 .bf16) (wa : Vec Ideal S256x1024 .bf16) (b : Vec Ideal S1x512x512 .bf16) (wb : Vec Ideal S512x1024 .bf16)
    (c : Vec Ideal S1x512x256 .bf16) (wc : Vec Ideal S256x1024 .bf16) : FVec Ideal S512x1024 .f32 :=
  addf (addf (matmul (φ₁ := .bf16) (φ₂ := .bf16) dot_S512x256_S256x1024_S512x1024_1_0_0_1_n_n none a (shapeCast S256x1024 wa shapeCasts_S256x1024_S256x1024) (constant S512x1024 .f32 0x00000000#32))
      (matmul (φ₁ := .bf16) (φ₂ := .bf16) dot_S512x512_S512x1024_S512x1024_1_0_0_1_n_n none (shapeCast S512x512 b shapeCasts_S1x512x512_S512x512) (shapeCast S512x1024 wb shapeCasts_S512x1024_S512x1024) (constant S512x1024 .f32 0x00000000#32)))
    (matmul (φ₁ := .bf16) (φ₂ := .bf16) dot_S512x256_S256x1024_S512x1024_1_0_0_1_n_n none (shapeCast S512x256 c shapeCasts_S1x512x256_S512x256) (shapeCast S256x1024 wc shapeCasts_S256x1024_S256x1024) (constant S512x1024 .f32 0x00000000#32))

/-- A block normalised by rows, with a gain. -/
def rmsD (y : FVec Ideal S512x1024 .f32) (g : FVec Ideal S1x1024 .f32) : FVec Ideal S512x1024 .f32 :=
  mulf (mulf y (broadcastTo S512x1024 (rsqrt (addf (divf (shapeCast S512x1 (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A block scaled by a row of the batch entry. -/
def gateD (y : FVec Ideal S512x1024 .f32) (gt : Vec Ideal S1x1x1024 .f32) : FVec Ideal S512x1024 .f32 :=
  mulf (broadcastTo S512x1024 (shapeCast S1x1024 gt shapeCasts_S1x1x1024_S1x1024) broadcasts_S1x1024_S512x1024) y

/-- The first residual's block. -/
def resD (x : Vec Ideal S1x512x1024 .f32) (y : FVec Ideal S512x1024 .f32) (g : FVec Ideal S1x1024 .f32) (gt : Vec Ideal S1x1x1024 .f32) : FVec Ideal S512x1024 .f32 :=
  addf (shapeCast S512x1024 x shapeCasts_S1x512x1024_S512x1024) (gateD (rmsD y g) gt)

/-- The feed-forward part's input block. -/
def hD (x1 : FVec Ideal S512x1024 .f32) (g : Vec Ideal S1x1024 .f32) (sc sh : Vec Ideal S1x1x1024 .f32) : FVec Ideal S512x1024 .bf16 :=
  shapeCast S512x1024 (truncf .bf16 (addf (mulf (rmsD x1 g)
      (broadcastTo S512x1024 (addf (broadcast S1x1024 (Scalar.ofBits .f32 0x3F800000#32)) (shapeCast S1x1024 sc shapeCasts_S1x1x1024_S1x1024)) broadcasts_S1x1024_S512x1024))
    (broadcastTo S512x1024 (shapeCast S1x1024 sh shapeCasts_S1x1x1024_S1x1024) broadcasts_S1x1024_S512x1024)) bitsLt_bf16_f32) shapeCasts_S512x1024_S512x1024

/-- One 256 wide part of the feed-forward part's first product. -/
def gD (h : Vec Ideal S512x1024 .bf16) (w : Vec Ideal S1024x256 .bf16) : FVec Ideal S512x256 .f32 :=
  matmul (φ₁ := .bf16) (φ₂ := .bf16) dot_S512x1024_S1024x256_S512x256_1_0_0_1_n_n none h (shapeCast S1024x256 w shapeCasts_S1024x256_S1024x256) (constant S512x256 .f32 0x00000000#32)

/-- The gated activation. -/
def aD (g u : FVec Ideal S512x256 .f32) : FVec Ideal S512x256 .f32 := mulf (mulf g (logistic g)) u

/-- A part of the second product, from the activation. -/
def pD (a : FVec Ideal S512x256 .f32) (w : Vec Ideal S256x1024 .bf16) : FVec Ideal S512x1024 .f32 :=
  matmul (φ₁ := .bf16) (φ₂ := .bf16) dot_S512x256_S256x1024_S512x1024_1_0_0_1_n_n none (truncf .bf16 a bitsLt_bf16_f32) (shapeCast S256x1024 w shapeCasts_S256x1024_S256x1024) (constant S512x1024 .f32 0x00000000#32)

/-- A part of the second product, from the block. -/
def chD (h : Vec Ideal S512x1024 .bf16) (wg wu : Vec Ideal S1024x256 .bf16) (wd : Vec Ideal S256x1024 .bf16) : FVec Ideal S512x1024 .f32 :=
  pD (aD (gD h wg) (gD h wu)) wd

/-- The zero block the parts are added to. -/
def z0 : FVec Ideal S512x1024 .f32 := broadcast S512x1024 (Scalar.ofBits .f32 0x00000000#32)

section payloads

theorem pay128_eq (v546 : FVec Ideal S1024x256 .bf16) (v616 : Vec Ideal S256x1024 .bf16) (v619 : Vec Ideal S1x512x512 .bf16) (v621 : Vec Ideal S512x1024 .bf16) (v625 : Vec Ideal S1x512x256 .bf16) (v627 : Vec Ideal S256x1024 .bf16) :
    k0_pay128 v546 v616 v619 v621 v625 v627 = ykD (extractStridedSlice S512x256 ![512, 0] v546 slices_S1024x256_o512_0_S512x256) v616 v619 v621 v625 v627 := rfl

theorem pay124_eq (v562 : FVec Ideal S512x1024 .f32) (v563 : Vec Ideal S1x512x1024 .f32) (v565 : Vec Ideal S1x1x1024 .f32) (v567 : Vec Ideal S1x1024 .f32) :
    k0_pay124 v562 v563 v565 v567 = resD v563 v562 v567 v565 := rfl

theorem pay125_eq (v562 : FVec Ideal S512x1024 .f32) (v563 : Vec Ideal S1x512x1024 .f32) (v565 : Vec Ideal S1x1x1024 .f32) (v567 : Vec Ideal S1x1024 .f32) :
    k0_pay125 v562 v563 v565 v567 = shapeCast S512x1024 (resD v563 v562 v567 v565) shapeCasts_S512x1024_S512x1024 := rfl

theorem pay127_eq (v562 : FVec Ideal S512x1024 .f32) (v563 : Vec Ideal S1x512x1024 .f32) (v565 : Vec Ideal S1x1x1024 .f32) (v567 v587 : Vec Ideal S1x1024 .f32) (v601 v607 : Vec Ideal S1x1x1024 .f32) :
    k0_pay127 (k0_pay126 v562 v563 v565 v567 v587) v601 v607 = hD (resD v563 v562 v567 v565) v587 v601 v607 := rfl

theorem pay131_eq (v630 : FVec Ideal S512x1024 .f32) (v631 : Vec Ideal S1x512x1024 .f32) (v633 : Vec Ideal S1x1x1024 .f32) (v635 : Vec Ideal S1x1024 .f32) :
    k0_pay131 v630 (k0_pay129 v631) v633 v635 = shapeCast S512x1024 (resD v631 v630 v635 v633) shapeCasts_S512x1024_S512x1024 := rfl

theorem pay133_eq (v630 : FVec Ideal S512x1024 .f32) (v631 : Vec Ideal S1x512x1024 .f32) (v633 : Vec Ideal S1x1x1024 .f32) (v635 v655 : Vec Ideal S1x1024 .f32) (v669 v675 : Vec Ideal S1x1x1024 .f32) :
    k0_pay133 (k0_pay132 v630 (k0_pay129 v631) v633 v635 v655 v669) v675 = hD (resD v631 v630 v635 v633) v655 v669 v675 := rfl

theorem pay134_eq (h : Vec Ideal S512x1024 .bf16) (a b : Vec Ideal S1024x256 .bf16) (c : Vec Ideal S256x1024 .bf16) : k0_pay134 h a b c = addf z0 (chD h a b c) := rfl
theorem pay136_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) (a3 b3 : Vec Ideal S1024x256 .bf16) (c3 : Vec Ideal S256x1024 .bf16) :
    k0_pay136 h acc (k0_pay135 h a b) c a2 b2 c2 a3 b3 c3 = addf (addf (addf acc (chD h a b c)) (chD h a2 b2 c2)) (chD h a3 b3 c3) := rfl
theorem pay139_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) (a3 b3 : Vec Ideal S1024x256 .bf16) (c3 : Vec Ideal S256x1024 .bf16) :
    k0_pay139 h acc (k0_pay137 h a) (k0_pay138 b) c a2 b2 c2 a3 b3 c3 = addf (addf (addf acc (chD h a b c)) (chD h a2 b2 c2)) (chD h a3 b3 c3) := rfl
theorem pay140_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) : k0_pay140 h acc a b c a2 b2 c2 = addf (addf acc (chD h a b c)) (chD h a2 b2 c2) := rfl
theorem pay142_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) (gt : Vec Ideal S1x1x1024 .f32) (g : Vec Ideal S1x1024 .f32) :
    k0_pay142 h acc (k0_pay141 h a b) c a2 b2 c2 gt g = gateD (rmsD (addf (addf acc (chD h a b c)) (chD h a2 b2 c2)) g) gt := rfl
theorem pay144_eq (h : Vec Ideal S512x1024 .bf16) (a b : Vec Ideal S1024x256 .bf16) (c : Vec Ideal S256x1024 .bf16)
    (a2 b2 : Vec Ideal S1024x256 .bf16) (c2 : Vec Ideal S256x1024 .bf16) : k0_pay144 h a b c a2 b2 c2 = addf (addf z0 (chD h a b c)) (chD h a2 b2 c2) := rfl
theorem pay145_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) : k0_pay145 h acc a b c a2 b2 c2 = addf (addf acc (chD h a b c)) (chD h a2 b2 c2) := rfl
theorem pay147_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) (a3 b3 : Vec Ideal S1024x256 .bf16) (c3 : Vec Ideal S256x1024 .bf16) :
    k0_pay147 h acc (k0_pay146 h a b) c a2 b2 c2 a3 b3 c3 = addf (addf (addf acc (chD h a b c)) (chD h a2 b2 c2)) (chD h a3 b3 c3) := rfl
theorem pay149_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) : k0_pay149 h acc (k0_pay148 h a) b c a2 b2 c2 = addf (addf acc (chD h a b c)) (chD h a2 b2 c2) := rfl
theorem pay152_eq (h : Vec Ideal S512x1024 .bf16) (acc : FVec Ideal S512x1024 .f32) (a b : Vec Ideal S1024x256 .bf16) (c : Vec Ideal S256x1024 .bf16)
    (a2 b2 : Vec Ideal S1024x256 .bf16) (c2 : Vec Ideal S256x1024 .bf16) (x1 : Vec Ideal S512x1024 .f32) (gt : Vec Ideal S1x1x1024 .f32) (g : Vec Ideal S1x1024 .f32) :
    k0_pay152 h acc (k0_pay150 h a b) (k0_pay151 c) a2 b2 c2 x1 gt g = addf x1 (gateD (rmsD (addf (addf acc (chD h a b c)) (chD h a2 b2 c2)) g) gt) := rfl

end payloads

/-! ## The block functions at an index -/

theorem ykD_at (a : FVec Ideal S512x256 .bf16) (wa : Vec Ideal S256x1024 .bf16) (b : Vec Ideal S1x512x512 .bf16) (wb : Vec Ideal S512x1024 .bf16)
    (c : Vec Ideal S1x512x256 .bf16) (wc : Vec Ideal S256x1024 .bf16) (r : Fin 512) (l : Fin 1024) :
    ykD a wa b wb c wc (ix2 r l) = (∑ k : Fin 256, a (ix2 r k) * wa (ix2 k l)) + (∑ k : Fin 512, b (ix3 0 r k) * wb (ix2 k l)) + ∑ k : Fin 256, c (ix3 0 r k) * wc (ix2 k l) := by
  pointwise! [ykD]

theorem rmsD_at (y : FVec Ideal S512x1024 .f32) (g : FVec Ideal S1x1024 .f32) (r : Fin 512) (l : Fin 1024) :
    rmsD y g (ix2 r l) = rmsRow (fun k => y (ix2 r k)) (fun k => g (ix2 0 k)) l := by
  pointwise! [rmsD, rmsRow, cLen, cEps]

theorem gateD_at (y : FVec Ideal S512x1024 .f32) (gt : Vec Ideal S1x1x1024 .f32) (r : Fin 512) (l : Fin 1024) :
    gateD y gt (ix2 r l) = gt (ix3 0 0 l) * y (ix2 r l) := by
  pointwise! [gateD]

theorem resD_at (x : Vec Ideal S1x512x1024 .f32) (y : FVec Ideal S512x1024 .f32) (g : FVec Ideal S1x1024 .f32) (gt : Vec Ideal S1x1x1024 .f32) (r : Fin 512) (l : Fin 1024) :
    resD x y g gt (ix2 r l) = resRow (fun k => x (ix3 0 r k)) (fun k => y (ix2 r k)) (fun k => g (ix2 0 k)) (fun k => gt (ix3 0 0 k)) l := by
  pointwise! [resD, gateD_at, rmsD_at, resRow]

theorem hD_at (x1 : FVec Ideal S512x1024 .f32) (g : Vec Ideal S1x1024 .f32) (sc sh : Vec Ideal S1x1x1024 .f32) (r : Fin 512) (l : Fin 1024) :
    hD x1 g sc sh (ix2 r l) = hRow (fun k => x1 (ix2 r k)) (fun k => g (ix2 0 k)) (fun k => sc (ix3 0 0 k)) (fun k => sh (ix3 0 0 k)) l := by
  pointwise! [hD, rmsD_at, hRow]

theorem chD_at (h : Vec Ideal S512x1024 .bf16) (wg wu : Vec Ideal S1024x256 .bf16) (wd : Vec Ideal S256x1024 .bf16) (r : Fin 512) (l : Fin 1024) :
    chD h wg wu wd (ix2 r l) = ∑ i : Fin 256, (∑ k : Fin 1024, h (ix2 r k) * wg (ix2 k i)) * Ideal.logistic (∑ k : Fin 1024, h (ix2 r k) * wg (ix2 k i)) * (∑ k : Fin 1024, h (ix2 r k) * wu (ix2 k i)) * wd (ix2 i l) := by
  pointwise! [chD, pD, aD, gD]

theorem z0_at (i : S512x1024.Idx) : z0 i = 0 := by pointwise! [z0]

end Cert.Ffn
-- ==== Proof.Ffn.Hyena.lean ====
/-
  The Hyena output's block, laid out by groups of eight channels and halves of 128 rows: the kernel's 256 tile loads, put
  together, read at an index.
-/
module

public import proofs.«01_k».proof.Proof.Ffn.Dense
public import Idealize.ShloMosaic.Lib.Pipeline.Value
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

theorem pay123_eq (v16 : FVec Ideal S8x1024 .f32) (v33 : FVec Ideal S8x1024 .f32) (v50 : FVec Ideal S8x1024 .f32) (v67 : FVec Ideal S8x1024 .f32) (v84 : FVec Ideal S8x1024 .f32) (v101 : FVec Ideal S8x1024 .f32) (v118 : FVec Ideal S8x1024 .f32) (v135 : FVec Ideal S8x1024 .f32) (v152 : FVec Ideal S8x1024 .f32) (v169 : FVec Ideal S8x1024 .f32) (v186 : FVec Ideal S8x1024 .f32) (v203 : FVec Ideal S8x1024 .f32) (v220 : FVec Ideal S8x1024 .f32) (v237 : FVec Ideal S8x1024 .f32) (v254 : FVec Ideal S8x1024 .f32) (v271 : FVec Ideal S8x1024 .f32) (v288 : FVec Ideal S8x1024 .f32) (v305 : FVec Ideal S8x1024 .f32) (v322 : FVec Ideal S8x1024 .f32) (v339 : FVec Ideal S8x1024 .f32) (v356 : FVec Ideal S8x1024 .f32) (v373 : FVec Ideal S8x1024 .f32) (v390 : FVec Ideal S8x1024 .f32) (v407 : FVec Ideal S8x1024 .f32) (v424 : FVec Ideal S8x1024 .f32) (v441 : FVec Ideal S8x1024 .f32) (v458 : FVec Ideal S8x1024 .f32) (v475 : FVec Ideal S8x1024 .f32) (v492 : FVec Ideal S8x1024 .f32) (v509 : FVec Ideal S8x1024 .f32) (v526 : FVec Ideal S8x1024 .f32) (v528 : FVec Ideal S8x128 .f32) (v530 : FVec Ideal S8x128 .f32) (v532 : FVec Ideal S8x128 .f32) (v534 : FVec Ideal S8x128 .f32) (v535 : Vec Ideal S1x1x1x8x128 .f32) (v537 : Vec Ideal S1x1x1x8x128 .f32) (v539 : Vec Ideal S1x1x1x8x128 .f32) (v541 : Vec Ideal S1x1x1x8x128 .f32) (v548 : Vec Ideal S256x1024 .bf16) (v551 : Vec Ideal S1x512x512 .bf16) (v553 : Vec Ideal S512x1024 .bf16) (v557 : Vec Ideal S1x512x256 .bf16) (v559 : Vec Ideal S256x1024 .bf16) :
    k0_pay123 v16 v33 v50 v67 v84 v101 v118 v135 v152 v169 v186 v203 v220 v237 v254 v271 v288 v305 v322 v339 v356 v373 v390 v407 v424 v441 v458 v475 v492 v509 v526 v528 v530 v532 v534 v535 v537 v539 v541 v548 v551 v553 v557 v559
      = ykD (extractStridedSlice S512x256 ![0, 0] (k0_pay122 v16 v33 v50 v67 v84 v101 v118 v135 v152 v169 v186 v203 v220 v237 v254 v271 v288 v305 v322 v339 v356 v373 v390 v407 v424 v441 v458 v475 v492 v509 v526 v528 v530 v532 v534 v535 v537 v539 v541) slices_S1024x256_o0_0_S512x256) v548 v551 v553 v557 v559 := rfl

/-- Eight tiles beside each other, read at an index. -/
theorem grp_of (a0 a1 a2 a3 a4 a5 a6 a7 : FVec Ideal S8x128 .f32) (v : Fin 8 → Fin 8 → Fin 128 → EReal)
    (h0 : ∀ s t, a0 (ix2 s t) = v 0 s t)
    (h1 : ∀ s t, a1 (ix2 s t) = v 1 s t)
    (h2 : ∀ s t, a2 (ix2 s t) = v 2 s t)
    (h3 : ∀ s t, a3 (ix2 s t) = v 3 s t)
    (h4 : ∀ s t, a4 (ix2 s t) = v 4 s t)
    (h5 : ∀ s t, a5 (ix2 s t) = v 5 s t)
    (h6 : ∀ s t, a6 (ix2 s t) = v 6 s t)
    (h7 : ∀ s t, a7 (ix2 s t) = v 7 s t) (s : Fin 8) (r : Fin 1024) :
    (concatenate S8x1024 1 [⟨S8x128, a0⟩, ⟨S8x128, a1⟩, ⟨S8x128, a2⟩, ⟨S8x128, a3⟩, ⟨S8x128, a4⟩, ⟨S8x128, a5⟩, ⟨S8x128, a6⟩, ⟨S8x128, a7⟩] concatenates_S8x128_S8x128_S8x128_S8x128_S8x128_S8x128_S8x128_S8x128_S8x1024_d1 : FVec Ideal S8x1024 .f32) (ix2 s r)
      = v ⟨r / 128, by omega⟩ s ⟨r % 128, by omega⟩ := by
  refine (concatenate_ofFn_apply (s₁ := S8x128) (t := S8x1024) 1 ![a0, a1, a2, a3, a4, a5, a6, a7] concatenates_S8x128_S8x128_S8x128_S8x128_S8x128_S8x128_S8x128_S8x128_S8x1024_d1 rfl 128 rfl (ix2 s r) ⟨r / 128, by omega⟩ rfl
    (ix2 s ⟨r % 128, by omega⟩) rfl (fun b hb => ?_)).trans ?_
  · fin_cases b
    · rfl
    · exact absurd rfl hb
  · generalize (⟨r / 128, by omega⟩ : Fin 8) = g
    generalize (⟨r % 128, by omega⟩ : Fin 128) = t
    fin_cases g
    exacts [h0 s t, h1 s t, h2 s t, h3 s t, h4 s t, h5 s t, h6 s t, h7 s t]

/-- The rows transposed and rounded, read at an index. -/
theorem tr_at (C : FVec Ideal S256x1024 .f32) (r : Fin 1024) (q : Fin 256) :
    (truncf .bf16 (transpose S1024x256 [1, 0] C transposes_S256x1024_p1_0_S1024x256) bitsLt_bf16_f32 : FVec Ideal S1024x256 .bf16) (ix2 r q) = C (ix2 q r) := by
  pointwise

/-- Thirty-two groups of eight channels below each other, transposed, read at an index. -/
theorem yh_of (v16 : FVec Ideal S8x1024 .f32) (v33 : FVec Ideal S8x1024 .f32) (v50 : FVec Ideal S8x1024 .f32) (v67 : FVec Ideal S8x1024 .f32) (v84 : FVec Ideal S8x1024 .f32) (v101 : FVec Ideal S8x1024 .f32) (v118 : FVec Ideal S8x1024 .f32) (v135 : FVec Ideal S8x1024 .f32) (v152 : FVec Ideal S8x1024 .f32) (v169 : FVec Ideal S8x1024 .f32) (v186 : FVec Ideal S8x1024 .f32) (v203 : FVec Ideal S8x1024 .f32) (v220 : FVec Ideal S8x1024 .f32) (v237 : FVec Ideal S8x1024 .f32) (v254 : FVec Ideal S8x1024 .f32) (v271 : FVec Ideal S8x1024 .f32) (v288 : FVec Ideal S8x1024 .f32) (v305 : FVec Ideal S8x1024 .f32) (v322 : FVec Ideal S8x1024 .f32) (v339 : FVec Ideal S8x1024 .f32) (v356 : FVec Ideal S8x1024 .f32) (v373 : FVec Ideal S8x1024 .f32) (v390 : FVec Ideal S8x1024 .f32) (v407 : FVec Ideal S8x1024 .f32) (v424 : FVec Ideal S8x1024 .f32) (v441 : FVec Ideal S8x1024 .f32) (v458 : FVec Ideal S8x1024 .f32) (v475 : FVec Ideal S8x1024 .f32) (v492 : FVec Ideal S8x1024 .f32) (v509 : FVec Ideal S8x1024 .f32) (v526 : FVec Ideal S8x1024 .f32) (v528 : FVec Ideal S8x128 .f32) (v530 : FVec Ideal S8x128 .f32) (v532 : FVec Ideal S8x128 .f32) (v534 : FVec Ideal S8x128 .f32) (v535 : Vec Ideal S1x1x1x8x128 .f32) (v537 : Vec Ideal S1x1x1x8x128 .f32) (v539 : Vec Ideal S1x1x1x8x128 .f32) (v541 : Vec Ideal S1x1x1x8x128 .f32) (v : Fin 32 → Fin 8 → Fin 1024 → EReal)
    (h0 : ∀ s r, v16 (ix2 s r) = v 0 s r)
    (h1 : ∀ s r, v33 (ix2 s r) = v 1 s r)
    (h2 : ∀ s r, v50 (ix2 s r) = v 2 s r)
    (h3 : ∀ s r, v67 (ix2 s r) = v 3 s r)
    (h4 : ∀ s r, v84 (ix2 s r) = v 4 s r)
    (h5 : ∀ s r, v101 (ix2 s r) = v 5 s r)
    (h6 : ∀ s r, v118 (ix2 s r) = v 6 s r)
    (h7 : ∀ s r, v135 (ix2 s r) = v 7 s r)
    (h8 : ∀ s r, v152 (ix2 s r) = v 8 s r)
    (h9 : ∀ s r, v169 (ix2 s r) = v 9 s r)
    (h10 : ∀ s r, v186 (ix2 s r) = v 10 s r)
    (h11 : ∀ s r, v203 (ix2 s r) = v 11 s r)
    (h12 : ∀ s r, v220 (ix2 s r) = v 12 s r)
    (h13 : ∀ s r, v237 (ix2 s r) = v 13 s r)
    (h14 : ∀ s r, v254 (ix2 s r) = v 14 s r)
    (h15 : ∀ s r, v271 (ix2 s r) = v 15 s r)
    (h16 : ∀ s r, v288 (ix2 s r) = v 16 s r)
    (h17 : ∀ s r, v305 (ix2 s r) = v 17 s r)
    (h18 : ∀ s r, v322 (ix2 s r) = v 18 s r)
    (h19 : ∀ s r, v339 (ix2 s r) = v 19 s r)
    (h20 : ∀ s r, v356 (ix2 s r) = v 20 s r)
    (h21 : ∀ s r, v373 (ix2 s r) = v 21 s r)
    (h22 : ∀ s r, v390 (ix2 s r) = v 22 s r)
    (h23 : ∀ s r, v407 (ix2 s r) = v 23 s r)
    (h24 : ∀ s r, v424 (ix2 s r) = v 24 s r)
    (h25 : ∀ s r, v441 (ix2 s r) = v 25 s r)
    (h26 : ∀ s r, v458 (ix2 s r) = v 26 s r)
    (h27 : ∀ s r, v475 (ix2 s r) = v 27 s r)
    (h28 : ∀ s r, v492 (ix2 s r) = v 28 s r)
    (h29 : ∀ s r, v509 (ix2 s r) = v 29 s r)
    (h30 : ∀ s r, v526 (ix2 s r) = v 30 s r)
    (h31 : ∀ s r, (concatenate S8x1024 1 [⟨S8x128, v528⟩, ⟨S8x128, v530⟩, ⟨S8x128, v532⟩, ⟨S8x128, v534⟩, ⟨S8x128, shapeCast S8x128 v535 shapeCasts_S1x1x1x8x128_S8x128⟩, ⟨S8x128, shapeCast S8x128 v537 shapeCasts_S1x1x1x8x128_S8x128⟩, ⟨S8x128, shapeCast S8x128 v539 shapeCasts_S1x1x1x8x128_S8x128⟩, ⟨S8x128, shapeCast S8x128 v541 shapeCasts_S1x1x1x8x128_S8x128⟩] concatenates_S8x128_S8x128_S8x128_S8x128_S8x128_S8x128_S8x128_S8x128_S8x1024_d1 : FVec Ideal S8x1024 .f32) (ix2 s r) = v 31 s r)
    (r : Fin 1024) (q : Fin 256) :
    k0_pay122 v16 v33 v50 v67 v84 v101 v118 v135 v152 v169 v186 v203 v220 v237 v254 v271 v288 v305 v322 v339 v356 v373 v390 v407 v424 v441 v458 v475 v492 v509 v526 v528 v530 v532 v534 v535 v537 v539 v541 (ix2 r q) = v ⟨q / 8, by omega⟩ ⟨q % 8, by omega⟩ r := by
  unfold k0_pay122
  generalize hz : (concatenate S8x1024 1 [⟨S8x128, v528⟩, ⟨S8x128, v530⟩, ⟨S8x128, v532⟩, ⟨S8x128, v534⟩, ⟨S8x128, shapeCast S8x128 v535 shapeCasts_S1x1x1x8x128_S8x128⟩, ⟨S8x128, shapeCast S8x128 v537 shapeCasts_S1x1x1x8x128_S8x128⟩, ⟨S8x128, shapeCast S8x128 v539 shapeCasts_S1x1x1x8x128_S8x128⟩, ⟨S8x128, shapeCast S8x128 v541 shapeCasts_S1x1x1x8x128_S8x128⟩] concatenates_S8x128_S8x128_S8x128_S8x128_S8x128_S8x128_S8x128_S8x128_S8x1024_d1 : FVec Ideal S8x1024 .f32) = Z at h31
  refine (tr_at _ r q).trans ?_
  refine (concatenate_ofFn_apply (s₁ := S8x1024) (t := S256x1024) 0 ![v16, v33, v50, v67, v84, v101, v118, v135, v152, v169, v186, v203, v220, v237, v254, v271, v288, v305, v322, v339, v356, v373, v390, v407, v424, v441, v458, v475, v492, v509, v526, Z] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0 rfl 8 rfl (ix2 q r) ⟨q / 8, by omega⟩ rfl
    (ix2 ⟨q % 8, by omega⟩ r) rfl (fun b hb => ?_)).trans ?_
  · fin_cases b
    · exact absurd rfl hb
    · rfl
  · generalize (⟨q / 8, by omega⟩ : Fin 32) = g
    generalize (⟨q % 8, by omega⟩ : Fin 8) = s
    fin_cases g
    exacts [h0 s r, h1 s r, h2 s r, h3 s r, h4 s r, h5 s r, h6 s r, h7 s r, h8 s r, h9 s r, h10 s r, h11 s r, h12 s r, h13 s r, h14 s r, h15 s r, h16 s r, h17 s r, h18 s r, h19 s r, h20 s r, h21 s r, h22 s r, h23 s r, h24 s r, h25 s r, h26 s r, h27 s r, h28 s r, h29 s r, h30 s r, h31 s r]

/-- Hyena's block at a token and a channel, by group and place in the group. -/
def vX (X : Vec Ideal S1x32x2x32x128 .f32) (g : Fin 32) (s : Fin 8) (r : Fin 1024) : EReal :=
  X (ix5 0 g ⟨(r % 256) / 128, by omega⟩ ⟨r / 256 * 8 + s, by omega⟩ ⟨r % 128, by omega⟩)

/-- The same within tile `T` of a group. -/
def tX (X : Vec Ideal S1x32x2x32x128 .f32) (g : Fin 32) (T s : Fin 8) (t : Fin 128) : EReal :=
  X (ix5 0 g ⟨T % 2, by omega⟩ ⟨T / 2 * 8 + s, by omega⟩ t)

/-- One tile load. -/
theorem tile_at (X : Vec Ideal S1x32x2x32x128 .f32) (g h o : ℕ) (inb : ∀ a, ![0, g, h, o, 0] a + ![1, 1, 1, 8, 128] a ≤ S1x32x2x32x128.size a)
    (s : Fin 8) (t : Fin 128) :
    (shapeCast S8x128 (View.ld X (Rect.unit ![0, g, h, o, 0] ![1, 1, 1, 8, 128] inb) : Vec Ideal S1x1x1x8x128 .f32) shapeCasts_S1x1x1x8x128_S8x128 : FVec Ideal S8x128 .f32) (ix2 s t)
      = X (ix5 0 ⟨g, inb 1⟩ ⟨h, inb 2⟩ ⟨o + s, Nat.lt_of_lt_of_le (Nat.add_lt_add_left s.isLt o) (inb 3)⟩ t) := by
  have e : ∀ T : Vec Ideal S1x1x1x8x128 .f32, (shapeCast S8x128 T shapeCasts_S1x1x1x8x128_S8x128 : FVec Ideal S8x128 .f32) (ix2 s t) = T (ix5 0 0 0 s t) := by
    intro T; pointwise
  refine (e _).trans (View.ld_unit_apply_of X _ _ inb _ _ fun a => ?_)
  fin_cases a <;> simp [ix5]

/-- A group of eight channels, from its eight tiles. -/
theorem grpX (X : Vec Ideal S1x32x2x32x128 .f32) (g : Fin 32) (a0 a1 a2 a3 a4 a5 a6 a7 : FVec Ideal S8x128 .f32)
    (h0 : ∀ s t, a0 (ix2 s t) = tX X g 0 s t)
    (h1 : ∀ s t, a1 (ix2 s t) = tX X g 1 s t)
    (h2 : ∀ s t, a2 (ix2 s t) = tX X g 2 s t)
    (h3 : ∀ s t, a3 (ix2 s t) = tX X g 3 s t)
    (h4 : ∀ s t, a4 (ix2 s t) = tX X g 4 s t)
    (h5 : ∀ s t, a5 (ix2 s t) = tX X g 5 s t)
    (h6 : ∀ s t, a6 (ix2 s t) = tX X g 6 s t)
    (h7 : ∀ s t, a7 (ix2 s t) = tX X g 7 s t) (s : Fin 8) (r : Fin 1024) :
    (concatenate S8x1024 1 [⟨S8x128, a0⟩, ⟨S8x128, a1⟩, ⟨S8x128, a2⟩, ⟨S8x128, a3⟩, ⟨S8x128, a4⟩, ⟨S8x128, a5⟩, ⟨S8x128, a6⟩, ⟨S8x128, a7⟩] concatenates_S8x128_S8x128_S8x128_S8x128_S8x128_S8x128_S8x128_S8x128_S8x1024_d1 : FVec Ideal S8x1024 .f32) (ix2 s r) = vX X g s r := by
  refine (grp_of a0 a1 a2 a3 a4 a5 a6 a7 (tX X g) h0 h1 h2 h3 h4 h5 h6 h7 s r).trans ?_
  unfold tX vX
  congr 1
  have e1 : (r : ℕ) / 128 % 2 = r % 256 / 128 := by omega
  have e2 : (r : ℕ) / 128 / 2 = r / 256 := by omega
  simp only [e1, e2]

end Cert.Ffn
-- ==== Proof.Ffn.Half.lean ====
/-
  One half block of 512 rows: what the second call's kernel leaves in it, at a row and a channel, is the layer's row.
-/
module

public import proofs.«01_k».proof.Proof.Ffn.Dense
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

/-- A sum of two arrays at an index. -/
abbrev ad (a b : FVec Ideal S512x1024 .f32) : FVec Ideal S512x1024 .f32 := addf a b

theorem addf_ix (a b : FVec Ideal S512x1024 .f32) (i : S512x1024.Idx) : ad a b i = a i + b i := rfl

/-- The columns of the chunk of 256 hidden channels `j`: of the gate's weights, of the other factor's, and the second product's rows. -/
def gc (j : Fin 11) (i : Fin 256) : Fin 5632 := ⟨j * 256 + i, by omega⟩
def uc (j : Fin 11) (i : Fin 256) : Fin 5632 := ⟨2816 + (j * 256 + i), by omega⟩
def cc (j : Fin 11) (i : Fin 256) : Fin 2816 := ⟨j * 256 + i, by omega⟩

/-- A chunk of 256 hidden channels at a row, when its weights are the chunk of the whole weights. -/
theorem ch_of {h : Vec Ideal S512x1024 .bf16} {wg wu : Vec Ideal S1024x256 .bf16} {wd : Vec Ideal S256x1024 .bf16} {r : Fin 512}
    {H : Fin 1024 → EReal} {W : Fin 1024 → Fin 5632 → EReal} {WD : Fin 2816 → Fin 1024 → EReal} (j : Fin 11)
    (hh : ∀ k, h (ix2 r k) = H k) (hg : ∀ (k : Fin 1024) (i : Fin 256), wg (ix2 k i) = W k ⟨j * 256 + i, by omega⟩)
    (hu : ∀ (k : Fin 1024) (i : Fin 256), wu (ix2 k i) = W k ⟨2816 + (j * 256 + i), by omega⟩)
    (hd : ∀ (i : Fin 256) (l : Fin 1024), wd (ix2 i l) = WD ⟨j * 256 + i, by omega⟩ l) (l : Fin 1024) :
    chD h wg wu wd (ix2 r l) = chunkRow H W WD j l := by
  rw [chD_at]
  simp only [hh, hg, hu, hd, chunkRow, actRow]

/-- A row after the mixers' projection. -/
theorem x1_of {x : Vec Ideal S1x512x1024 .f32} {a : FVec Ideal S512x256 .bf16} {wa : Vec Ideal S256x1024 .bf16} {b : Vec Ideal S1x512x512 .bf16}
    {wb : Vec Ideal S512x1024 .bf16} {c : Vec Ideal S1x512x256 .bf16} {wc : Vec Ideal S256x1024 .bf16} {g : FVec Ideal S1x1024 .f32} {gt : Vec Ideal S1x1x1024 .f32}
    {r : Fin 512} {A : Fin 256 → EReal} {B : Fin 512 → EReal} {C : Fin 256 → EReal} {Wo : Fin 1024 → Fin 1024 → EReal} {X G GT : Fin 1024 → EReal}
    (hx : ∀ k, x (ix3 0 r k) = X k) (ha : ∀ k, a (ix2 r k) = A k) (hb : ∀ k, b (ix3 0 r k) = B k) (hc : ∀ k, c (ix3 0 r k) = C k)
    (hwa : ∀ (k : Fin 256) l, wa (ix2 k l) = Wo ⟨k, by omega⟩ l) (hwb : ∀ (k : Fin 512) l, wb (ix2 k l) = Wo ⟨256 + k, by omega⟩ l)
    (hwc : ∀ (k : Fin 256) l, wc (ix2 k l) = Wo ⟨768 + k, by omega⟩ l) (hg : ∀ k, g (ix2 0 k) = G k) (hgt : ∀ k, gt (ix3 0 0 k) = GT k) (l : Fin 1024) :
    resD x (ykD a wa b wb c wc) g gt (ix2 r l) = x1Row A B C Wo X G GT l := by
  rw [resD_at]
  simp only [ykD_at, hx, ha, hb, hc, hwa, hwb, hwc, hg, hgt, x1Row]
  simp only [resRow, rmsRow, yRow]

/-- The half block's row from the row after the projection. -/
theorem half_of {x1 : FVec Ideal S512x1024 .f32} {h : Vec Ideal S512x1024 .bf16} {gpre gpost : Vec Ideal S1x1024 .f32} {sc sh gt : Vec Ideal S1x1x1024 .f32}
    {wg0 wg1 wg2 wg3 wg4 wg5 wg6 wg7 wg8 wg9 wg10 wu0 wu1 wu2 wu3 wu4 wu5 wu6 wu7 wu8 wu9 wu10 : Vec Ideal S1024x256 .bf16} {wd0 wd1 wd2 wd3 wd4 wd5 wd6 wd7 wd8 wd9 wd10 : Vec Ideal S256x1024 .bf16} {r : Fin 512}
    {X1 SC SH GT GPRE GPOST : Fin 1024 → EReal} {W : Fin 1024 → Fin 5632 → EReal} {WD : Fin 2816 → Fin 1024 → EReal}
    (eh : h = hD x1 gpre sc sh) (hx : ∀ k, x1 (ix2 r k) = X1 k) (hpre : ∀ k, gpre (ix2 0 k) = GPRE k) (hpost : ∀ k, gpost (ix2 0 k) = GPOST k) (hsc : ∀ k, sc (ix3 0 0 k) = SC k)
    (hsh : ∀ k, sh (ix3 0 0 k) = SH k) (hgt : ∀ k, gt (ix3 0 0 k) = GT k)
    (hg0 : ∀ (k : Fin 1024) (i : Fin 256), wg0 (ix2 k i) = W k (gc 0 i))
    (hu0 : ∀ (k : Fin 1024) (i : Fin 256), wu0 (ix2 k i) = W k (uc 0 i))
    (hd0 : ∀ (i : Fin 256) (l : Fin 1024), wd0 (ix2 i l) = WD (cc 0 i) l)
    (hg1 : ∀ (k : Fin 1024) (i : Fin 256), wg1 (ix2 k i) = W k (gc 1 i))
    (hu1 : ∀ (k : Fin 1024) (i : Fin 256), wu1 (ix2 k i) = W k (uc 1 i))
    (hd1 : ∀ (i : Fin 256) (l : Fin 1024), wd1 (ix2 i l) = WD (cc 1 i) l)
    (hg2 : ∀ (k : Fin 1024) (i : Fin 256), wg2 (ix2 k i) = W k (gc 2 i))
    (hu2 : ∀ (k : Fin 1024) (i : Fin 256), wu2 (ix2 k i) = W k (uc 2 i))
    (hd2 : ∀ (i : Fin 256) (l : Fin 1024), wd2 (ix2 i l) = WD (cc 2 i) l)
    (hg3 : ∀ (k : Fin 1024) (i : Fin 256), wg3 (ix2 k i) = W k (gc 3 i))
    (hu3 : ∀ (k : Fin 1024) (i : Fin 256), wu3 (ix2 k i) = W k (uc 3 i))
    (hd3 : ∀ (i : Fin 256) (l : Fin 1024), wd3 (ix2 i l) = WD (cc 3 i) l)
    (hg4 : ∀ (k : Fin 1024) (i : Fin 256), wg4 (ix2 k i) = W k (gc 4 i))
    (hu4 : ∀ (k : Fin 1024) (i : Fin 256), wu4 (ix2 k i) = W k (uc 4 i))
    (hd4 : ∀ (i : Fin 256) (l : Fin 1024), wd4 (ix2 i l) = WD (cc 4 i) l)
    (hg5 : ∀ (k : Fin 1024) (i : Fin 256), wg5 (ix2 k i) = W k (gc 5 i))
    (hu5 : ∀ (k : Fin 1024) (i : Fin 256), wu5 (ix2 k i) = W k (uc 5 i))
    (hd5 : ∀ (i : Fin 256) (l : Fin 1024), wd5 (ix2 i l) = WD (cc 5 i) l)
    (hg6 : ∀ (k : Fin 1024) (i : Fin 256), wg6 (ix2 k i) = W k (gc 6 i))
    (hu6 : ∀ (k : Fin 1024) (i : Fin 256), wu6 (ix2 k i) = W k (uc 6 i))
    (hd6 : ∀ (i : Fin 256) (l : Fin 1024), wd6 (ix2 i l) = WD (cc 6 i) l)
    (hg7 : ∀ (k : Fin 1024) (i : Fin 256), wg7 (ix2 k i) = W k (gc 7 i))
    (hu7 : ∀ (k : Fin 1024) (i : Fin 256), wu7 (ix2 k i) = W k (uc 7 i))
    (hd7 : ∀ (i : Fin 256) (l : Fin 1024), wd7 (ix2 i l) = WD (cc 7 i) l)
    (hg8 : ∀ (k : Fin 1024) (i : Fin 256), wg8 (ix2 k i) = W k (gc 8 i))
    (hu8 : ∀ (k : Fin 1024) (i : Fin 256), wu8 (ix2 k i) = W k (uc 8 i))
    (hd8 : ∀ (i : Fin 256) (l : Fin 1024), wd8 (ix2 i l) = WD (cc 8 i) l)
    (hg9 : ∀ (k : Fin 1024) (i : Fin 256), wg9 (ix2 k i) = W k (gc 9 i))
    (hu9 : ∀ (k : Fin 1024) (i : Fin 256), wu9 (ix2 k i) = W k (uc 9 i))
    (hd9 : ∀ (i : Fin 256) (l : Fin 1024), wd9 (ix2 i l) = WD (cc 9 i) l)
    (hg10 : ∀ (k : Fin 1024) (i : Fin 256), wg10 (ix2 k i) = W k (gc 10 i))
    (hu10 : ∀ (k : Fin 1024) (i : Fin 256), wu10 (ix2 k i) = W k (uc 10 i))
    (hd10 : ∀ (i : Fin 256) (l : Fin 1024), wd10 (ix2 i l) = WD (cc 10 i) l)
    (l : Fin 1024) :
    ad (shapeCast S512x1024 x1 shapeCasts_S512x1024_S512x1024)
      (gateD (rmsD (ad (ad (ad (ad (ad (ad (ad (ad (ad (ad (ad z0 (chD h wg0 wu0 wd0)) (chD h wg1 wu1 wd1)) (chD h wg2 wu2 wd2)) (chD h wg3 wu3 wd3)) (chD h wg4 wu4 wd4)) (chD h wg5 wu5 wd5)) (chD h wg6 wu6 wd6)) (chD h wg7 wu7 wd7)) (chD h wg8 wu8 wd8)) (chD h wg9 wu9 wd9)) (chD h wg10 wu10 wd10)) gpost) gt) (ix2 r l)
      = outRow X1 SC SH GT GPRE GPOST W WD l := by
  have hh : ∀ k, h (ix2 r k) = hRow X1 GPRE SC SH k := fun k => by
    rw [eh, hD_at]; simp only [hx, hpre, hsc, hsh]
  have hf : ∀ k, ((ad (ad (ad (ad (ad (ad (ad (ad (ad (ad (ad z0 (chD h wg0 wu0 wd0)) (chD h wg1 wu1 wd1)) (chD h wg2 wu2 wd2)) (chD h wg3 wu3 wd3)) (chD h wg4 wu4 wd4)) (chD h wg5 wu5 wd5)) (chD h wg6 wu6 wd6)) (chD h wg7 wu7 wd7)) (chD h wg8 wu8 wd8)) (chD h wg9 wu9 wd9)) (chD h wg10 wu10 wd10)) : FVec Ideal S512x1024 .f32) (ix2 r k) = ffRow (hRow X1 GPRE SC SH) W WD k := fun k => by
    rw [← ffRow_chunks]
    simp only [addf_ix]
    rw [z0_at, ch_of 0 hh hg0 hu0 hd0, ch_of 1 hh hg1 hu1 hd1, ch_of 2 hh hg2 hu2 hd2, ch_of 3 hh hg3 hu3 hd3, ch_of 4 hh hg4 hu4 hd4, ch_of 5 hh hg5 hu5 hd5, ch_of 6 hh hg6 hu6 hd6, ch_of 7 hh hg7 hu7 hd7, ch_of 8 hh hg8 hu8 hd8, ch_of 9 hh hg9 hu9 hd9, ch_of 10 hh hg10 hu10 hd10]
  have hs : (shapeCast S512x1024 x1 shapeCasts_S512x1024_S512x1024 : FVec Ideal S512x1024 .f32) (ix2 r l) = X1 l := by
    rw [← hx l]; pointwise
  rw [addf_ix, hs, gateD_at, rmsD_at, hgt]
  simp only [hf, hpost]
  simp only [outRow, resRow]

/-- The loads of the body, each read at an index of its array. -/
theorem ld_gu (X : Vec Ideal S1024x5632 .bf16) (o : ℕ) (inb : ∀ a, ![0, o] a + ![1024, 256] a ≤ S1024x5632.size a) (q : Fin 256 → Fin 5632)
    (h : ∀ i, ((q i : Fin 5632) : ℕ) = o + i) (k : Fin 1024) (i : Fin 256) :
    (View.ld X (Rect.unit ![0, o] ![1024, 256] inb) : Vec Ideal S1024x256 .bf16) (ix2 k i) = X (ix2 k (q i)) := by
  refine View.ld_unit_apply_of X _ _ inb _ _ fun a => ?_
  fin_cases a
  · exact (Nat.zero_add _).symm
  · exact h i

theorem gc_val (j : Fin 11) (i : Fin 256) : ((gc j i : Fin 5632) : ℕ) = j * 256 + i := rfl
theorem uc_val (j : Fin 11) (i : Fin 256) : ((uc j i : Fin 5632) : ℕ) = (2816 + j * 256) + i := (Nat.add_assoc _ _ _).symm
theorem cc_val (j : Fin 11) (i : Fin 256) : ((cc j i : Fin 2816) : ℕ) = j * 256 + i := rfl

theorem ld_gc (X : Vec Ideal S1024x5632 .bf16) (o : ℕ) (inb) (j : Fin 11) (h : o = j * 256) (k : Fin 1024) (i : Fin 256) :
    (View.ld X (Rect.unit ![0, o] ![1024, 256] inb) : Vec Ideal S1024x256 .bf16) (ix2 k i) = X (ix2 k (gc j i)) :=
  ld_gu X o inb (gc j) (fun i => (gc_val j i).trans (by rw [h])) k i

theorem ld_uc (X : Vec Ideal S1024x5632 .bf16) (o : ℕ) (inb) (j : Fin 11) (h : o = 2816 + j * 256) (k : Fin 1024) (i : Fin 256) :
    (View.ld X (Rect.unit ![0, o] ![1024, 256] inb) : Vec Ideal S1024x256 .bf16) (ix2 k i) = X (ix2 k (uc j i)) :=
  ld_gu X o inb (uc j) (fun i => (uc_val j i).trans (by rw [h])) k i

theorem ld_cc (X : Vec Ideal S2816x1024 .bf16) (o : ℕ) (inb : ∀ a, ![o, 0] a + ![256, 1024] a ≤ S2816x1024.size a) (j : Fin 11) (h : o = j * 256) (i : Fin 256) (l : Fin 1024) :
    (View.ld X (Rect.unit ![o, 0] ![256, 1024] inb) : Vec Ideal S256x1024 .bf16) (ix2 i l) = X (ix2 (cc j i) l) := by
  subst h
  refine View.ld_unit_apply_of X _ _ inb _ _ fun a => ?_
  fin_cases a
  · exact cc_val j i
  · exact (Nat.zero_add _).symm

theorem ld_wo256 (X : Vec Ideal S1024x1024 .bf16) (o : ℕ) (inb : ∀ a, ![o, 0] a + ![256, 1024] a ≤ S1024x1024.size a) (q : Fin 256 → Fin 1024)
    (h : ∀ i, ((q i : Fin 1024) : ℕ) = o + i) (k : Fin 256) (l : Fin 1024) :
    (View.ld X (Rect.unit ![o, 0] ![256, 1024] inb) : Vec Ideal S256x1024 .bf16) (ix2 k l) = X (ix2 (q k) l) := by
  refine View.ld_unit_apply_of X _ _ inb _ _ fun a => ?_
  fin_cases a
  · exact h k
  · exact (Nat.zero_add _).symm

theorem ld_wo512 (X : Vec Ideal S1024x1024 .bf16) (o : ℕ) (inb : ∀ a, ![o, 0] a + ![512, 1024] a ≤ S1024x1024.size a) (q : Fin 512 → Fin 1024)
    (h : ∀ i, ((q i : Fin 1024) : ℕ) = o + i) (k : Fin 512) (l : Fin 1024) :
    (View.ld X (Rect.unit ![o, 0] ![512, 1024] inb) : Vec Ideal S512x1024 .bf16) (ix2 k l) = X (ix2 (q k) l) := by
  refine View.ld_unit_apply_of X _ _ inb _ _ fun a => ?_
  fin_cases a
  · exact h k
  · exact (Nat.zero_add _).symm

theorem ld_x (X : Vec Ideal S1x1024x1024 .f32) (o : ℕ) (inb : ∀ a, ![0, o, 0] a + ![1, 512, 1024] a ≤ S1x1024x1024.size a) (r : Fin 512) (R : Fin 1024) (h : (R : ℕ) = o + r) (k : Fin 1024) :
    (View.ld X (Rect.unit ![0, o, 0] ![1, 512, 1024] inb) : Vec Ideal S1x512x1024 .f32) (ix3 0 r k) = X (ix3 0 R k) := by
  refine View.ld_unit_apply_of X _ _ inb _ _ fun a => ?_
  fin_cases a
  · rfl
  · exact h
  · exact (Nat.zero_add _).symm

theorem ld_b (X : Vec Ideal S1x1024x512 .bf16) (o : ℕ) (inb : ∀ a, ![0, o, 0] a + ![1, 512, 512] a ≤ S1x1024x512.size a) (r : Fin 512) (R : Fin 1024) (h : (R : ℕ) = o + r) (k : Fin 512) :
    (View.ld X (Rect.unit ![0, o, 0] ![1, 512, 512] inb) : Vec Ideal S1x512x512 .bf16) (ix3 0 r k) = X (ix3 0 R k) := by
  refine View.ld_unit_apply_of X _ _ inb _ _ fun a => ?_
  fin_cases a
  · rfl
  · exact h
  · exact (Nat.zero_add _).symm

theorem ld_c (X : Vec Ideal S1x1024x256 .bf16) (o : ℕ) (inb : ∀ a, ![0, o, 0] a + ![1, 512, 256] a ≤ S1x1024x256.size a) (r : Fin 512) (R : Fin 1024) (h : (R : ℕ) = o + r) (k : Fin 256) :
    (View.ld X (Rect.unit ![0, o, 0] ![1, 512, 256] inb) : Vec Ideal S1x512x256 .bf16) (ix3 0 r k) = X (ix3 0 R k) := by
  refine View.ld_unit_apply_of X _ _ inb _ _ fun a => ?_
  fin_cases a
  · rfl
  · exact h
  · exact (Nat.zero_add _).symm

theorem ld_wa (X : Vec Ideal S1024x1024 .bf16) (inb) (k : Fin 256) (l : Fin 1024) :
    (View.ld X (Rect.unit ![0, 0] ![256, 1024] inb) : Vec Ideal S256x1024 .bf16) (ix2 k l) = X (ix2 ⟨k, by omega⟩ l) :=
  ld_wo256 X 0 inb (fun k => ⟨k, by omega⟩) (fun _ => (Nat.zero_add _).symm) k l

theorem ld_wb (X : Vec Ideal S1024x1024 .bf16) (inb) (k : Fin 512) (l : Fin 1024) :
    (View.ld X (Rect.unit ![256, 0] ![512, 1024] inb) : Vec Ideal S512x1024 .bf16) (ix2 k l) = X (ix2 ⟨256 + k, by omega⟩ l) :=
  ld_wo512 X 256 inb (fun k => ⟨256 + k, by omega⟩) (fun _ => rfl) k l

theorem ld_wc (X : Vec Ideal S1024x1024 .bf16) (inb) (k : Fin 256) (l : Fin 1024) :
    (View.ld X (Rect.unit ![768, 0] ![256, 1024] inb) : Vec Ideal S256x1024 .bf16) (ix2 k l) = X (ix2 ⟨768 + k, by omega⟩ l) :=
  ld_wo256 X 768 inb (fun k => ⟨768 + k, by omega⟩) (fun _ => rfl) k l

/-- A half block's rows stored under a leading axis of one. -/
theorem pay1_at (v : FVec Ideal S512x1024 .f32) (r : Fin 512) (l : Fin 1024) : k0_pay1 v (ix3 0 r l) = v (ix2 r l) := by
  pointwise [k0_pay1]

theorem pay143_at (v w : FVec Ideal S512x1024 .f32) (r : Fin 512) (l : Fin 1024) : k0_pay143 v w (ix3 0 r l) = addf v w (ix2 r l) := by
  pointwise [k0_pay143]

end Cert.Ffn
-- ==== Proof.Ffn.Value.lean ====
/-
  The second call's kernel at ideal: what its body leaves in the output block, row by row.
-/
module

public import proofs.«01_k».proof.Proof.Gen.Kernel2Ideal.Value
public import proofs.«01_k».proof.Proof.Ffn.Hyena
public import proofs.«01_k».proof.Proof.Ffn.Half
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ Cert.Kernel2Ideal.sig) → Buf (Elt Ideal) ℓ)

/-- One row of the output block, from the input blocks. -/
def blkRow (X0 : Vec Ideal S1x32x2x32x128 .f32) (X1 : Vec Ideal S1x1024x512 .bf16) (X2 : Vec Ideal S1x1024x256 .bf16) (X3 : Vec Ideal S1024x1024 .bf16)
    (X4 : Vec Ideal S1x1024x1024 .f32) (X5 : Vec Ideal S1x1024 .f32) (X6 X7 X8 X9 : Vec Ideal S1x1x1024 .f32) (X10 X11 : Vec Ideal S1x1024 .f32)
    (X12 : Vec Ideal S1024x5632 .bf16) (X13 : Vec Ideal S2816x1024 .bf16) (r l : Fin 1024) : EReal :=
  outRow (x1Row (fun q => vX X0 ⟨q / 8, by omega⟩ ⟨q % 8, by omega⟩ r) (fun k => X1 (ix3 0 r k)) (fun k => X2 (ix3 0 r k)) (fun k l => X3 (ix2 k l))
      (fun k => X4 (ix3 0 r k)) (fun k => X5 (ix2 0 k)) (fun k => X6 (ix3 0 0 k)))
    (fun k => X7 (ix3 0 0 k)) (fun k => X8 (ix3 0 0 k)) (fun k => X9 (ix3 0 0 k)) (fun k => X10 (ix2 0 k)) (fun k => X11 (ix2 0 k))
    (fun k n => X12 (ix2 k n)) (fun n l => X13 (ix2 n l)) l

/-- A channel-major block's slice of rows, read at an index. -/
theorem slice0_at (Y : FVec Ideal S1024x256 .bf16) (r : Fin 512) (k : Fin 256) :
    (extractStridedSlice S512x256 ![0, 0] Y slices_S1024x256_o0_0_S512x256 : FVec Ideal S512x256 .bf16) (ix2 r k) = Y (ix2 ⟨r, by omega⟩ k) := by pointwise
theorem slice1_at (Y : FVec Ideal S1024x256 .bf16) (r : Fin 512) (k : Fin 256) :
    (extractStridedSlice S512x256 ![512, 0] Y slices_S1024x256_o512_0_S512x256 : FVec Ideal S512x256 .bf16) (ix2 r k) = Y (ix2 ⟨512 + r, by omega⟩ k) := by pointwise

set_option maxHeartbeats 4000000 in
theorem after_at (c : Dev nD) (t : Fin cfg0.N) (r l : Fin 1024) :
    ((dats m 0 c).after 14 t : Vec Ideal S1x1024x1024 .f32) (ix3 0 r l) = blkRow (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) r l := by
  rw [after0_14]
  unfold outsAt0
  frame_open
  simp (disch := decide) only [↓View.readCov_skip, ↓View.readCov_cons_toLoadRect, View.readAt_eq_ld, Memref.IsWhole.read_unread, View.read_writes_junk_eq_canon, pay123_eq]
  generalize hY : k0_pay122 (F := Ideal) _ _ _ _ _ _ _ _ _ _ _ _ _ _ _ _ _ _ _ _ _ _ _ _ _ _ _ _ _ _ _ _ _ _ _ _ _ _ _ = YH
  have hat : ∀ (r : Fin 1024) (q : Fin 256), YH (ix2 r q) = vX (iblk m c 0 t) ⟨q / 8, by omega⟩ ⟨q % 8, by omega⟩ r := by
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121] at hY
    intro r q; clear l
    rw [← hY]
    refine yh_of _ _ _ _ _ _ _ _ _ _ _ _ _ _ _ _ _ _ _ _ _ _ _ _ _ _ _ _ _ _ _ _ _ _ _ _ _ _ _ (vX (iblk m c 0 t)) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r q
    all_goals exact grpX _ _ _ _ _ _ _ _ _ _ (tile_at _ _ _ _ _) (tile_at _ _ _ _ _) (tile_at _ _ _ _ _) (tile_at _ _ _ _ _) (tile_at _ _ _ _ _) (tile_at _ _ _ _ _) (tile_at _ _ _ _ _) (tile_at _ _ _ _ _)
  clear hY
  simp (disch := decide) only [View.ld_unit_lit', pay124_eq, pay125_eq, pay127_eq, pay128_eq, pay131_eq, pay133_eq, pay134_eq, pay136_eq, pay139_eq, pay140_eq, pay142_eq, pay144_eq, pay145_eq, pay147_eq, pay149_eq, pay152_eq]
  generalize iblk m c 0 t = X0 at *
  generalize iblk m c 1 t = X1 at *
  generalize iblk m c 2 t = X2 at *
  generalize iblk m c 3 t = X3 at *
  generalize iblk m c 4 t = X4 at *
  generalize iblk m c 5 t = X5 at *
  generalize iblk m c 6 t = X6 at *
  generalize iblk m c 7 t = X7 at *
  generalize iblk m c 8 t = X8 at *
  generalize iblk m c 9 t = X9 at *
  generalize iblk m c 10 t = X10 at *
  generalize iblk m c 11 t = X11 at *
  generalize iblk m c 12 t = X12 at *
  generalize iblk m c 13 t = X13 at *
  canon_tiles x h
  · idx_vars x
    have er : r = ⟨512 + x1, Nat.lt_of_lt_of_le (Nat.add_lt_add_left x1.isLt 512) (by decide)⟩ := Fin.ext h1
    have el : l = x2 := Fin.ext h2
    have e0 : x0 = 0 := Subsingleton.elim _ _
    rw [er, el, e0]
    clear er el e0 h0 h1 h2 l r
    refine (pay1_at _ x1 x2).trans ?_
    unfold blkRow
    have hx := fun k => x1_of (r := x1) (Wo := fun k l => X3 (ix2 k l)) (X := fun k => X4 (ix3 0 ⟨512 + x1, Nat.lt_of_lt_of_le (Nat.add_lt_add_left x1.isLt 512) (by decide)⟩ k)) (B := fun k => X1 (ix3 0 ⟨512 + x1, Nat.lt_of_lt_of_le (Nat.add_lt_add_left x1.isLt 512) (by decide)⟩ k)) (C := fun k => X2 (ix3 0 ⟨512 + x1, Nat.lt_of_lt_of_le (Nat.add_lt_add_left x1.isLt 512) (by decide)⟩ k)) (G := fun k => X5 (ix2 0 k)) (GT := fun k => X6 (ix3 0 0 k)) (A := fun q => vX X0 ⟨q / 8, by omega⟩ ⟨q % 8, by omega⟩ ⟨512 + x1, Nat.lt_of_lt_of_le (Nat.add_lt_add_left x1.isLt 512) (by decide)⟩)
      (ld_x X4 512 inb_S1x1024x1024_S1x512x1024_0_512_0 x1 ⟨512 + x1, Nat.lt_of_lt_of_le (Nat.add_lt_add_left x1.isLt 512) (by decide)⟩ rfl) (fun q => (slice1_at YH x1 q).trans (hat _ _))
      (ld_b X1 512 inb_S1x1024x512_S1x512x512_0_512_0 x1 ⟨512 + x1, Nat.lt_of_lt_of_le (Nat.add_lt_add_left x1.isLt 512) (by decide)⟩ rfl) (ld_c X2 512 inb_S1x1024x256_S1x512x256_0_512_0 x1 ⟨512 + x1, Nat.lt_of_lt_of_le (Nat.add_lt_add_left x1.isLt 512) (by decide)⟩ rfl)
      (ld_wa X3 inb_S1024x1024_S256x1024_0_0) (ld_wb X3 inb_S1024x1024_S512x1024_256_0)
      (ld_wc X3 inb_S1024x1024_S256x1024_768_0) (fun k => (rfl : X5 (ix2 0 k) = X5 (ix2 0 k))) (fun k => (rfl : X6 (ix3 0 0 k) = X6 (ix3 0 0 k))) k
    generalize (resD _ _ _ _ : FVec Ideal S512x1024 .f32) = x1D at hx ⊢
    generalize hh : (hD _ _ _ _ : Vec Ideal S512x1024 .bf16) = h
    exact half_of (r := x1) (W := fun k n => X12 (ix2 k n)) (WD := fun n l => X13 (ix2 n l)) (SC := fun k => X7 (ix3 0 0 k)) (SH := fun k => X8 (ix3 0 0 k))
      (GT := fun k => X9 (ix3 0 0 k)) (GPRE := fun k => X10 (ix2 0 k)) (GPOST := fun k => X11 (ix2 0 k)) hh.symm hx (fun _ => rfl) (fun _ => rfl) (fun _ => rfl) (fun _ => rfl) (fun _ => rfl)
      (ld_gc X12 _ inb_S1024x5632_S1024x256_0_0 0 rfl) (ld_uc X12 _ inb_S1024x5632_S1024x256_0_2816 0 rfl) (ld_cc X13 _ inb_S2816x1024_S256x1024_0_0 0 rfl)
      (ld_gc X12 _ inb_S1024x5632_S1024x256_0_256 1 rfl) (ld_uc X12 _ inb_S1024x5632_S1024x256_0_3072 1 rfl) (ld_cc X13 _ inb_S2816x1024_S256x1024_256_0 1 rfl)
      (ld_gc X12 _ inb_S1024x5632_S1024x256_0_512 2 rfl) (ld_uc X12 _ inb_S1024x5632_S1024x256_0_3328 2 rfl) (ld_cc X13 _ inb_S2816x1024_S256x1024_512_0 2 rfl)
      (ld_gc X12 _ inb_S1024x5632_S1024x256_0_768 3 rfl) (ld_uc X12 _ inb_S1024x5632_S1024x256_0_3584 3 rfl) (ld_cc X13 _ inb_S2816x1024_S256x1024_768_0 3 rfl)
      (ld_gc X12 _ inb_S1024x5632_S1024x256_0_1024 4 rfl) (ld_uc X12 _ inb_S1024x5632_S1024x256_0_3840 4 rfl) (ld_cc X13 _ inb_S2816x1024_S256x1024_1024_0 4 rfl)
      (ld_gc X12 _ inb_S1024x5632_S1024x256_0_1280 5 rfl) (ld_uc X12 _ inb_S1024x5632_S1024x256_0_4096 5 rfl) (ld_cc X13 _ inb_S2816x1024_S256x1024_1280_0 5 rfl)
      (ld_gc X12 _ inb_S1024x5632_S1024x256_0_1536 6 rfl) (ld_uc X12 _ inb_S1024x5632_S1024x256_0_4352 6 rfl) (ld_cc X13 _ inb_S2816x1024_S256x1024_1536_0 6 rfl)
      (ld_gc X12 _ inb_S1024x5632_S1024x256_0_1792 7 rfl) (ld_uc X12 _ inb_S1024x5632_S1024x256_0_4608 7 rfl) (ld_cc X13 _ inb_S2816x1024_S256x1024_1792_0 7 rfl)
      (ld_gc X12 _ inb_S1024x5632_S1024x256_0_2048 8 rfl) (ld_uc X12 _ inb_S1024x5632_S1024x256_0_4864 8 rfl) (ld_cc X13 _ inb_S2816x1024_S256x1024_2048_0 8 rfl)
      (ld_gc X12 _ inb_S1024x5632_S1024x256_0_2304 9 rfl) (ld_uc X12 _ inb_S1024x5632_S1024x256_0_5120 9 rfl) (ld_cc X13 _ inb_S2816x1024_S256x1024_2304_0 9 rfl)
      (ld_gc X12 _ inb_S1024x5632_S1024x256_0_2560 10 rfl) (ld_uc X12 _ inb_S1024x5632_S1024x256_0_5376 10 rfl) (ld_cc X13 _ inb_S2816x1024_S256x1024_2560_0 10 rfl) x2
  · idx_vars x
    have er : r = ⟨x1, Nat.lt_trans x1.isLt (by decide)⟩ := Fin.ext (by omega)
    have el : l = x2 := Fin.ext h2
    have e0 : x0 = 0 := Subsingleton.elim _ _
    rw [er, el, e0]
    clear er el e0 h0 h1 h2 l r
    refine (pay143_at _ _ x1 x2).trans ?_
    unfold blkRow
    have hx := fun k => x1_of (r := x1) (Wo := fun k l => X3 (ix2 k l)) (X := fun k => X4 (ix3 0 ⟨x1, Nat.lt_trans x1.isLt (by decide)⟩ k)) (B := fun k => X1 (ix3 0 ⟨x1, Nat.lt_trans x1.isLt (by decide)⟩ k)) (C := fun k => X2 (ix3 0 ⟨x1, Nat.lt_trans x1.isLt (by decide)⟩ k)) (G := fun k => X5 (ix2 0 k)) (GT := fun k => X6 (ix3 0 0 k)) (A := fun q => vX X0 ⟨q / 8, by omega⟩ ⟨q % 8, by omega⟩ ⟨x1, Nat.lt_trans x1.isLt (by decide)⟩)
      (ld_x X4 0 inb_S1x1024x1024_S1x512x1024_0_0_0 x1 ⟨x1, Nat.lt_trans x1.isLt (by decide)⟩ (Nat.zero_add _).symm) (fun q => (slice0_at YH x1 q).trans (hat _ _))
      (ld_b X1 0 inb_S1x1024x512_S1x512x512_0_0_0 x1 ⟨x1, Nat.lt_trans x1.isLt (by decide)⟩ (Nat.zero_add _).symm) (ld_c X2 0 inb_S1x1024x256_S1x512x256_0_0_0 x1 ⟨x1, Nat.lt_trans x1.isLt (by decide)⟩ (Nat.zero_add _).symm)
      (ld_wa X3 inb_S1024x1024_S256x1024_0_0) (ld_wb X3 inb_S1024x1024_S512x1024_256_0)
      (ld_wc X3 inb_S1024x1024_S256x1024_768_0) (fun k => (rfl : X5 (ix2 0 k) = X5 (ix2 0 k))) (fun k => (rfl : X6 (ix3 0 0 k) = X6 (ix3 0 0 k))) k
    generalize (resD _ _ _ _ : FVec Ideal S512x1024 .f32) = x1D at hx ⊢
    generalize hh : (hD _ _ _ _ : Vec Ideal S512x1024 .bf16) = h
    exact half_of (r := x1) (W := fun k n => X12 (ix2 k n)) (WD := fun n l => X13 (ix2 n l)) (SC := fun k => X7 (ix3 0 0 k)) (SH := fun k => X8 (ix3 0 0 k))
      (GT := fun k => X9 (ix3 0 0 k)) (GPRE := fun k => X10 (ix2 0 k)) (GPOST := fun k => X11 (ix2 0 k)) hh.symm hx (fun _ => rfl) (fun _ => rfl) (fun _ => rfl) (fun _ => rfl) (fun _ => rfl)
      (ld_gc X12 _ inb_S1024x5632_S1024x256_0_0 0 rfl) (ld_uc X12 _ inb_S1024x5632_S1024x256_0_2816 0 rfl) (ld_cc X13 _ inb_S2816x1024_S256x1024_0_0 0 rfl)
      (ld_gc X12 _ inb_S1024x5632_S1024x256_0_256 1 rfl) (ld_uc X12 _ inb_S1024x5632_S1024x256_0_3072 1 rfl) (ld_cc X13 _ inb_S2816x1024_S256x1024_256_0 1 rfl)
      (ld_gc X12 _ inb_S1024x5632_S1024x256_0_512 2 rfl) (ld_uc X12 _ inb_S1024x5632_S1024x256_0_3328 2 rfl) (ld_cc X13 _ inb_S2816x1024_S256x1024_512_0 2 rfl)
      (ld_gc X12 _ inb_S1024x5632_S1024x256_0_768 3 rfl) (ld_uc X12 _ inb_S1024x5632_S1024x256_0_3584 3 rfl) (ld_cc X13 _ inb_S2816x1024_S256x1024_768_0 3 rfl)
      (ld_gc X12 _ inb_S1024x5632_S1024x256_0_1024 4 rfl) (ld_uc X12 _ inb_S1024x5632_S1024x256_0_3840 4 rfl) (ld_cc X13 _ inb_S2816x1024_S256x1024_1024_0 4 rfl)
      (ld_gc X12 _ inb_S1024x5632_S1024x256_0_1280 5 rfl) (ld_uc X12 _ inb_S1024x5632_S1024x256_0_4096 5 rfl) (ld_cc X13 _ inb_S2816x1024_S256x1024_1280_0 5 rfl)
      (ld_gc X12 _ inb_S1024x5632_S1024x256_0_1536 6 rfl) (ld_uc X12 _ inb_S1024x5632_S1024x256_0_4352 6 rfl) (ld_cc X13 _ inb_S2816x1024_S256x1024_1536_0 6 rfl)
      (ld_gc X12 _ inb_S1024x5632_S1024x256_0_1792 7 rfl) (ld_uc X12 _ inb_S1024x5632_S1024x256_0_4608 7 rfl) (ld_cc X13 _ inb_S2816x1024_S256x1024_1792_0 7 rfl)
      (ld_gc X12 _ inb_S1024x5632_S1024x256_0_2048 8 rfl) (ld_uc X12 _ inb_S1024x5632_S1024x256_0_4864 8 rfl) (ld_cc X13 _ inb_S2816x1024_S256x1024_2048_0 8 rfl)
      (ld_gc X12 _ inb_S1024x5632_S1024x256_0_2304 9 rfl) (ld_uc X12 _ inb_S1024x5632_S1024x256_0_5120 9 rfl) (ld_cc X13 _ inb_S2816x1024_S256x1024_2304_0 9 rfl)
      (ld_gc X12 _ inb_S1024x5632_S1024x256_0_2560 10 rfl) (ld_uc X12 _ inb_S1024x5632_S1024x256_0_5376 10 rfl) (ld_cc X13 _ inb_S2816x1024_S256x1024_2560_0 10 rfl) x2
end Cert.Ffn
-- ==== Proof.Ffn.RefRun.lean ====
/-
  The run of the second reference (output projection, gated residuals, SwiGLU feed-forward part) over the extended reals,
  cut into six stages: each stage is a list of host operations, and one lemma says what the stage leaves in the buffer
  that later stages read, as a named function of the buffers it read itself.
-/
module

public import proofs.«01_k».proof.Proof.Gen.Reference2Ideal
public import Idealize.ShloMosaic.Lib.Claim
public import Idealize.ShloMosaic.Lib.Pointwise

@[expose] public section

set_option maxRecDepth 16384

noncomputable section

namespace Cert.Ffn

open Cert.Reference2Ideal Cert.Reference2Ideal.Gen Idealize.ShloMosaic Idealize.ShloMosaic.TcCoe Idealize.SL.Sem Idealize.ShloMosaic.StableHlo

variable {F : FTy → Type} [FloatOps F]

/-- The mixers' three outputs beside each other on the channel axis. -/
def catOf (u0 : FVec F S2x16384x256 .f32) (u1 : FVec F S2x16384x512 .f32) (u2 : FVec F S2x16384x256 .f32) : FVec F S2x16384x1024 .f32 :=
  concatenate S2x16384x1024 2 [⟨S2x16384x256, u0⟩, ⟨S2x16384x512, u1⟩, ⟨S2x16384x256, u2⟩] concatenates_S2x16384x256_S2x16384x512_S2x16384x256_S2x16384x1024_d2

/-- The output projection. -/
def yOf (u0 : FVec F S2x16384x256 .f32) (u1 : FVec F S2x16384x512 .f32) (u2 : FVec F S2x16384x256 .f32) (w : FVec F S1024x1024 .f32) : FVec F S2x16384x1024 .f32 :=
  Host.dotGeneral dot_S2x16384x1024_S1024x1024_S2x16384x1024_2_0_01_1_n_n none (catOf u0 u1 u2) w

/-- A row vector of each batch entry as an array with a unit row axis. -/
def rowOf (a : FVec F S2x1024 .f32) : FVec F S2x1x1024 .f32 := broadcastInDim S2x1x1024 ![0, 2] bcast_S2x1024_S2x1x1024_0_2 a

/-- Root mean square normalisation of every row, with a gain per channel. -/
def rmsOf (y : FVec F S2x16384x1024 .f32) (g : FVec F S1024 .f32) : FVec F S2x16384x1024 .f32 :=
  mulf (mulf y (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf y y) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- A gated residual: the stream plus the gate times the normalised branch. -/
def resOf (x y : FVec F S2x16384x1024 .f32) (g : FVec F S1024 .f32) (gt : FVec F S2x1x1024 .f32) : FVec F S2x16384x1024 .f32 :=
  addf x (mulf (broadcastInDim S2x16384x1024 ![0, 1, 2] bcast_S2x1x1024_S2x16384x1024_0_1_2 gt) (rmsOf y g))

/-- The feed-forward part's input: normalised, scaled and shifted. -/
def hOf (x : FVec F S2x16384x1024 .f32) (g : FVec F S1024 .f32) (sc sh : FVec F S2x1x1024 .f32) : FVec F S2x16384x1024 .f32 :=
  addf (mulf (rmsOf x g) (broadcastInDim S2x16384x1024 ![0, 1, 2] bcast_S2x1x1024_S2x16384x1024_0_1_2 (addf (broadcastInDim S2x1x1024 ![] bcast_S_S2x1x1024 (constant S_ .f32 0x3F800000#32)) sc)))
    (broadcastInDim S2x16384x1024 ![0, 1, 2] bcast_S2x1x1024_S2x16384x1024_0_1_2 sh)

/-- The feed-forward part's first product. -/
def guOf (h : FVec F S2x16384x1024 .f32) (w : FVec F S1024x5632 .f32) : FVec F S2x16384x5632 .f32 :=
  Host.dotGeneral dot_S2x16384x1024_S1024x5632_S2x16384x5632_2_0_01_1_n_n none h w

/-- The gated activation of the two halves of the first product. -/
def aOf (gu : FVec F S2x16384x5632 .f32) : FVec F S2x16384x2816 .f32 :=
  mulf (mulf (extractStridedSlice S2x16384x2816 ![0, 0, 0] gu slices_S2x16384x5632_S2x16384x2816_0_0_0)
      (Host.divf (broadcastInDim S2x16384x2816 ![] bcast_S_S2x16384x2816 (constant S_ .f32 0x3F800000#32))
        (addf (broadcastInDim S2x16384x2816 ![] bcast_S_S2x16384x2816 (constant S_ .f32 0x3F800000#32))
          (Host.exp (Host.negf (extractStridedSlice S2x16384x2816 ![0, 0, 0] gu slices_S2x16384x5632_S2x16384x2816_0_0_0))))))
    (extractStridedSlice S2x16384x2816 ![0, 0, 2816] gu slices_S2x16384x5632_S2x16384x2816_0_0_2816)

/-- The feed-forward part's second product. -/
def fOf (a : FVec F S2x16384x2816 .f32) (w : FVec F S2816x1024 .f32) : FVec F S2x16384x1024 .f32 :=
  Host.dotGeneral dot_S2x16384x2816_S2816x1024_S2x16384x1024_2_0_01_1_n_n none a w

/-- The host operations of stage 1. -/
abbrev st1 : List (HloOp τ sig (Elt F)) :=
  [ unary main_arg6 main_v0 (broadcastInDim S2x1x1024 ![0, 2] bcast_S2x1024_S2x1x1024_0_2 : (⟨S2x1024, .f32⟩ : BufTy).Contents (Elt F) → (⟨S2x1x1024, .f32⟩ : BufTy).Contents (Elt F)),
    unary main_arg7 main_v1 (broadcastInDim S2x1x1024 ![0, 2] bcast_S2x1024_S2x1x1024_0_2 : (⟨S2x1024, .f32⟩ : BufTy).Contents (Elt F) → (⟨S2x1x1024, .f32⟩ : BufTy).Contents (Elt F)),
    unary main_arg8 main_v2 (broadcastInDim S2x1x1024 ![0, 2] bcast_S2x1024_S2x1x1024_0_2 : (⟨S2x1024, .f32⟩ : BufTy).Contents (Elt F) → (⟨S2x1x1024, .f32⟩ : BufTy).Contents (Elt F)),
    unary main_arg9 main_v3 (broadcastInDim S2x1x1024 ![0, 2] bcast_S2x1024_S2x1x1024_0_2 : (⟨S2x1024, .f32⟩ : BufTy).Contents (Elt F) → (⟨S2x1x1024, .f32⟩ : BufTy).Contents (Elt F)),
    nary ![main_arg0, main_arg1, main_arg2] main_v4 (fun u => catOf (u 0) (u 1) (u 2)),
    binary main_v4 main_arg3 main_v5 ((fun l r => Host.dotGeneral dot_S2x16384x1024_S1024x1024_S2x16384x1024_2_0_01_1_n_n none l r) : (⟨S2x16384x1024, .f32⟩ : BufTy).Contents (Elt F) → (⟨S1024x1024, .f32⟩ : BufTy).Contents (Elt F) → (⟨S2x16384x1024, .f32⟩ : BufTy).Contents (Elt F)) ]

/-- The host operations of stage 2. -/
abbrev st2 : List (HloOp τ sig (Elt F)) :=
  [ binary main_v5 main_v5 main_v6 (mulf : (⟨S2x16384x1024, .f32⟩ : BufTy).Contents (Elt F) → (⟨S2x16384x1024, .f32⟩ : BufTy).Contents (Elt F) → (⟨S2x16384x1024, .f32⟩ : BufTy).Contents (Elt F)),
    nullary main_cst (constant S_ .f32 0x00000000#32),
    binary main_v6 main_cst main_v7 ((fun x v => Host.reduceAdd x v reducesTo_S2x16384x1024_S2x16384_d2 h_S_) : (⟨S2x16384x1024, .f32⟩ : BufTy).Contents (Elt F) → (⟨S_, .f32⟩ : BufTy).Contents (Elt F) → (⟨S2x16384, .f32⟩ : BufTy).Contents (Elt F)),
    unary main_v7 main_v8 (broadcastInDim S2x16384x1 ![0, 1] bcast_S2x16384_S2x16384x1_0_1 : (⟨S2x16384, .f32⟩ : BufTy).Contents (Elt F) → (⟨S2x16384x1, .f32⟩ : BufTy).Contents (Elt F)),
    nullary main_cst_0 (constant S_ .f32 0x44800000#32),
    unary main_cst_0 main_v9 (broadcastInDim S2x16384x1 ![] bcast_S_S2x16384x1 : (⟨S_, .f32⟩ : BufTy).Contents (Elt F) → (⟨S2x16384x1, .f32⟩ : BufTy).Contents (Elt F)),
    binary main_v8 main_v9 main_v10 (Host.divf : (⟨S2x16384x1, .f32⟩ : BufTy).Contents (Elt F) → (⟨S2x16384x1, .f32⟩ : BufTy).Contents (Elt F) → (⟨S2x16384x1, .f32⟩ : BufTy).Contents (Elt F)),
    nullary main_cst_1 (constant S_ .f32 0x358637BD#32),
    unary main_cst_1 main_v11 (broadcastInDim S2x16384x1 ![] bcast_S_S2x16384x1 : (⟨S_, .f32⟩ : BufTy).Contents (Elt F) → (⟨S2x16384x1, .f32⟩ : BufTy).Contents (Elt F)),
    binary main_v10 main_v11 main_v12 (addf : (⟨S2x16384x1, .f32⟩ : BufTy).Contents (Elt F) → (⟨S2x16384x1, .f32⟩ : BufTy).Contents (Elt F) → (⟨S2x16384x1, .f32⟩ : BufTy).Contents (Elt F)),
    unary main_v12 main_v13 (Host.rsqrt : (⟨S2x16384x1, .f32⟩ : BufTy).Contents (Elt F) → (⟨S2x16384x1, .f32⟩ : BufTy).Contents (Elt F)),
    unary main_v13 main_v14 (broadcastInDim S2x16384x1024 ![0, 1, 2] bcast_S2x16384x1_S2x16384x1024_0_1_2 : (⟨S2x16384x1, .f32⟩ : BufTy).Contents (Elt F) → (⟨S2x16384x1024, .f32⟩ : BufTy).Contents (Elt F)),
    binary main_v5 main_v14 main_v15 (mulf : (⟨S2x16384x1024, .f32⟩ : BufTy).Contents (Elt F) → (⟨S2x16384x1024, .f32⟩ : BufTy).Contents (Elt F) → (⟨S2x16384x1024, .f32⟩ : BufTy).Contents (Elt F)),
    unary main_arg5 main_v16 (broadcastInDim S1x1x1024 ![2] bcast_S1024_S1x1x1024_2 : (⟨S1024, .f32⟩ : BufTy).Contents (Elt F) → (⟨S1x1x1024, .f32⟩ : BufTy).Contents (Elt F)),
    unary main_v16 main_v17 (broadcastInDim S2x16384x1024 ![0, 1, 2] bcast_S1x1x1024_S2x16384x1024_0_1_2 : (⟨S1x1x1024, .f32⟩ : BufTy).Contents (Elt F) → (⟨S2x16384x1024, .f32⟩ : BufTy).Contents (Elt F)),
    binary main_v15 main_v17 main_v18 (mulf : (⟨S2x16384x1024, .f32⟩ : BufTy).Contents (Elt F) → (⟨S2x16384x1024, .f32⟩ : BufTy).Contents (Elt F) → (⟨S2x16384x1024, .f32⟩ : BufTy).Contents (Elt F)),
    unary main_v0 main_v19 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v19 main_v18 main_v20 (mulf : (⟨S2x16384x1024, .f32⟩ : BufTy).Contents (Elt F) → (⟨S2x16384x1024, .f32⟩ : BufTy).Contents (Elt F) → (⟨S2x16384x1024, .f32⟩ : BufTy).Contents (Elt F)),
    binary main_arg4 main_v20 main_v21 (addf : (⟨S2x16384x1024, .f32⟩ : BufTy).Contents (Elt F) → (⟨S2x16384x1024, .f32⟩ : BufTy).Contents (Elt F) → (⟨S2x16384x1024, .f32⟩ : BufTy).Contents (Elt F)) ]

/-- The host operations of stage 3. -/
abbrev st3 : List (HloOp τ sig (Elt F)) :=
  [ binary main_v21 main_v21 main_v22 (mulf : (⟨S2x16384x1024, .f32⟩ : BufTy).Contents (Elt F) → (⟨S2x16384x1024, .f32⟩ : BufTy).Contents (Elt F) → (⟨S2x16384x1024, .f32⟩ : BufTy).Contents (Elt F)),
    nullary main_cst_2 (constant S_ .f32 0x00000000#32),
    binary main_v22 main_cst_2 main_v23 ((fun x v => Host.reduceAdd x v reducesTo_S2x16384x1024_S2x16384_d2 h_S_) : (⟨S2x16384x1024, .f32⟩ : BufTy).Contents (Elt F) → (⟨S_, .f32⟩ : BufTy).Contents (Elt F) → (⟨S2x16384, .f32⟩ : BufTy).Contents (Elt F)),
    unary main_v23 main_v24 (broadcastInDim S2x16384x1 ![0, 1] bcast_S2x16384_S2x16384x1_0_1 : (⟨S2x16384, .f32⟩ : BufTy).Contents (Elt F) → (⟨S2x16384x1, .f32⟩ : BufTy).Contents (Elt F)),
    nullary main_cst_3 (constant S_ .f32 0x44800000#32),
    unary main_cst_3 main_v25 (broadcastInDim S2x16384x1 ![] bcast_S_S2x16384x1 : (⟨S_, .f32⟩ : BufTy).Contents (Elt F) → (⟨S2x16384x1, .f32⟩ : BufTy).Contents (Elt F)),
    binary main_v24 main_v25 main_v26 (Host.divf : (⟨S2x16384x1, .f32⟩ : BufTy).Contents (Elt F) → (⟨S2x16384x1, .f32⟩ : BufTy).Contents (Elt F) → (⟨S2x16384x1, .f32⟩ : BufTy).Contents (Elt F)),
    nullary main_cst_4 (constant S_ .f32 0x358637BD#32),
    unary main_cst_4 main_v27 (broadcastInDim S2x16384x1 ![] bcast_S_S2x16384x1 : (⟨S_, .f32⟩ : BufTy).Contents (Elt F) → (⟨S2x16384x1, .f32⟩ : BufTy).Contents (Elt F)),
    binary main_v26 main_v27 main_v28 (addf : (⟨S2x16384x1, .f32⟩ : BufTy).Contents (Elt F) → (⟨S2x16384x1, .f32⟩ : BufTy).Contents (Elt F) → (⟨S2x16384x1, .f32⟩ : BufTy).Contents (Elt F)),
    unary main_v28 main_v29 (Host.rsqrt : (⟨S2x16384x1, .f32⟩ : BufTy).Contents (Elt F) → (⟨S2x16384x1, .f32⟩ : BufTy).Contents (Elt F)),
    unary main_v29 main_v30 (broadcastInDim S2x16384x1024 ![0, 1, 2] bcast_S2x16384x1_S2x16384x1024_0_1_2 : (⟨S2x16384x1, .f32⟩ : BufTy).Contents (Elt F) → (⟨S2x16384x1024, .f32⟩ : BufTy).Contents (Elt F)),
    binary main_v21 main_v30 main_v31 (mulf : (⟨S2x16384x1024, .f32⟩ : BufTy).Contents (Elt F) → (⟨S2x16384x1024, .f32⟩ : BufTy).Contents (Elt F) → (⟨S2x16384x1024, .f32⟩ : BufTy).Contents (Elt F)),
    unary main_arg10 main_v32 (broadcastInDim S1x1x1024 ![2] bcast_S1024_S1x1x1024_2 : (⟨S1024, .f32⟩ : BufTy).Contents (Elt F) → (⟨S1x1x1024, .f32⟩ : BufTy).Contents (Elt F)),
    unary main_v32 main_v33 (broadcastInDim S2x16384x1024 ![0, 1, 2] bcast_S1x1x1024_S2x16384x1024_0_1_2 : (⟨S1x1x1024, .f32⟩ : BufTy).Contents (Elt F) → (⟨S2x16384x1024, .f32⟩ : BufTy).Contents (Elt F)),
    binary main_v31 main_v33 main_v34 (mulf : (⟨S2x16384x1024, .f32⟩ : BufTy).Contents (Elt F) → (⟨S2x16384x1024, .f32⟩ : BufTy).Contents (Elt F) → (⟨S2x16384x1024, .f32⟩ : BufTy).Contents (Elt F)),
    nullary main_cst_5 (constant S_ .f32 0x3F800000#32),
    unary main_cst_5 main_v35 (broadcastInDim S2x1x1024 ![] bcast_S_S2x1x1024 : (⟨S_, .f32⟩ : BufTy).Contents (Elt F) → (⟨S2x1x1024, .f32⟩ : BufTy).Contents (Elt F)),
    binary main_v35 main_v1 main_v36 (addf : (⟨S2x1x1024, .f32⟩ : BufTy).Contents (Elt F) → (⟨S2x1x1024, .f32⟩ : BufTy).Contents (Elt F) → (⟨S2x1x1024, .f32⟩ : BufTy).Contents (Elt F)),
    unary main_v36 main_v37 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v34 main_v37 main_v38 (mulf : (⟨S2x16384x1024, .f32⟩ : BufTy).Contents (Elt F) → (⟨S2x16384x1024, .f32⟩ : BufTy).Contents (Elt F) → (⟨S2x16384x1024, .f32⟩ : BufTy).Contents (Elt F)),
    unary main_v2 main_v39 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v38 main_v39 main_v40 (addf : (⟨S2x16384x1024, .f32⟩ : BufTy).Contents (Elt F) → (⟨S2x16384x1024, .f32⟩ : BufTy).Contents (Elt F) → (⟨S2x16384x1024, .f32⟩ : BufTy).Contents (Elt F)) ]

/-- The host operations of stage 4. -/
abbrev st4 : List (HloOp τ sig (Elt F)) :=
  [ binary main_v40 main_arg12 main_v41 ((fun l r => Host.dotGeneral dot_S2x16384x1024_S1024x5632_S2x16384x5632_2_0_01_1_n_n none l r) : (⟨S2x16384x1024, .f32⟩ : BufTy).Contents (Elt F) → (⟨S1024x5632, .f32⟩ : BufTy).Contents (Elt F) → (⟨S2x16384x5632, .f32⟩ : BufTy).Contents (Elt F)),
    unary main_v41 main_v42 ((extractStridedSlice S2x16384x2816 ![0, 0, 0] · slices_S2x16384x5632_S2x16384x2816_0_0_0) : (⟨S2x16384x5632, .f32⟩ : BufTy).Contents (Elt F) → (⟨S2x16384x2816, .f32⟩ : BufTy).Contents (Elt F)),
    unary main_v41 main_v43 ((extractStridedSlice S2x16384x2816 ![0, 0, 2816] · slices_S2x16384x5632_S2x16384x2816_0_0_2816) : (⟨S2x16384x5632, .f32⟩ : BufTy).Contents (Elt F) → (⟨S2x16384x2816, .f32⟩ : BufTy).Contents (Elt F)),
    TRef.unary (TRef.of (T := ⟨S2x16384x2816, .f32⟩) main_v42) (TRef.of (T := ⟨S2x16384x2816, .f32⟩) main_call0_v0) Host.negf,
    TRef.unary (TRef.of (T := ⟨S2x16384x2816, .f32⟩) main_call0_v0) (TRef.of (T := ⟨S2x16384x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S2x16384x2816, .f32⟩) main_call0_v2) (broadcastInDim S2x16384x2816 ![] bcast_S_S2x16384x2816),
    TRef.binary (TRef.of (T := ⟨S2x16384x2816, .f32⟩) main_call0_v2) (TRef.of (T := ⟨S2x16384x2816, .f32⟩) main_call0_v1) (TRef.of (T := ⟨S2x16384x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S2x16384x2816, .f32⟩) main_call0_v4) (broadcastInDim S2x16384x2816 ![] bcast_S_S2x16384x2816),
    TRef.binary (TRef.of (T := ⟨S2x16384x2816, .f32⟩) main_call0_v4) (TRef.of (T := ⟨S2x16384x2816, .f32⟩) main_call0_v3) (TRef.of (T := ⟨S2x16384x2816, .f32⟩) main_call0_v5) Host.divf,
    TRef.binary (TRef.of (T := ⟨S2x16384x2816, .f32⟩) main_v42) (TRef.of (T := ⟨S2x16384x2816, .f32⟩) main_call0_v5) (TRef.of (T := ⟨S2x16384x2816, .f32⟩) main_v44) mulf,
    binary main_v44 main_v43 main_v45 (mulf : (⟨S2x16384x2816, .f32⟩ : BufTy).Contents (Elt F) → (⟨S2x16384x2816, .f32⟩ : BufTy).Contents (Elt F) → (⟨S2x16384x2816, .f32⟩ : BufTy).Contents (Elt F)) ]

/-- The host operations of stage 5. -/
abbrev st5 : List (HloOp τ sig (Elt F)) :=
  [ binary main_v45 main_arg13 main_v46 ((fun l r => Host.dotGeneral dot_S2x16384x2816_S2816x1024_S2x16384x1024_2_0_01_1_n_n none l r) : (⟨S2x16384x2816, .f32⟩ : BufTy).Contents (Elt F) → (⟨S2816x1024, .f32⟩ : BufTy).Contents (Elt F) → (⟨S2x16384x1024, .f32⟩ : BufTy).Contents (Elt F)) ]

/-- The host operations of stage 6. -/
abbrev st6 : List (HloOp τ sig (Elt F)) :=
  [ binary main_v46 main_v46 main_v47 (mulf : (⟨S2x16384x1024, .f32⟩ : BufTy).Contents (Elt F) → (⟨S2x16384x1024, .f32⟩ : BufTy).Contents (Elt F) → (⟨S2x16384x1024, .f32⟩ : BufTy).Contents (Elt F)),
    nullary main_cst_6 (constant S_ .f32 0x00000000#32),
    binary main_v47 main_cst_6 main_v48 ((fun x v => Host.reduceAdd x v reducesTo_S2x16384x1024_S2x16384_d2 h_S_) : (⟨S2x16384x1024, .f32⟩ : BufTy).Contents (Elt F) → (⟨S_, .f32⟩ : BufTy).Contents (Elt F) → (⟨S2x16384, .f32⟩ : BufTy).Contents (Elt F)),
    unary main_v48 main_v49 (broadcastInDim S2x16384x1 ![0, 1] bcast_S2x16384_S2x16384x1_0_1 : (⟨S2x16384, .f32⟩ : BufTy).Contents (Elt F) → (⟨S2x16384x1, .f32⟩ : BufTy).Contents (Elt F)),
    nullary main_cst_7 (constant S_ .f32 0x44800000#32),
    unary main_cst_7 main_v50 (broadcastInDim S2x16384x1 ![] bcast_S_S2x16384x1 : (⟨S_, .f32⟩ : BufTy).Contents (Elt F) → (⟨S2x16384x1, .f32⟩ : BufTy).Contents (Elt F)),
    binary main_v49 main_v50 main_v51 (Host.divf : (⟨S2x16384x1, .f32⟩ : BufTy).Contents (Elt F) → (⟨S2x16384x1, .f32⟩ : BufTy).Contents (Elt F) → (⟨S2x16384x1, .f32⟩ : BufTy).Contents (Elt F)),
    nullary main_cst_8 (constant S_ .f32 0x358637BD#32),
    unary main_cst_8 main_v52 (broadcastInDim S2x16384x1 ![] bcast_S_S2x16384x1 : (⟨S_, .f32⟩ : BufTy).Contents (Elt F) → (⟨S2x16384x1, .f32⟩ : BufTy).Contents (Elt F)),
    binary main_v51 main_v52 main_v53 (addf : (⟨S2x16384x1, .f32⟩ : BufTy).Contents (Elt F) → (⟨S2x16384x1, .f32⟩ : BufTy).Contents (Elt F) → (⟨S2x16384x1, .f32⟩ : BufTy).Contents (Elt F)),
    unary main_v53 main_v54 (Host.rsqrt : (⟨S2x16384x1, .f32⟩ : BufTy).Contents (Elt F) → (⟨S2x16384x1, .f32⟩ : BufTy).Contents (Elt F)),
    unary main_v54 main_v55 (broadcastInDim S2x16384x1024 ![0, 1, 2] bcast_S2x16384x1_S2x16384x1024_0_1_2 : (⟨S2x16384x1, .f32⟩ : BufTy).Contents (Elt F) → (⟨S2x16384x1024, .f32⟩ : BufTy).Contents (Elt F)),
    binary main_v46 main_v55 main_v56 (mulf : (⟨S2x16384x1024, .f32⟩ : BufTy).Contents (Elt F) → (⟨S2x16384x1024, .f32⟩ : BufTy).Contents (Elt F) → (⟨S2x16384x1024, .f32⟩ : BufTy).Contents (Elt F)),
    unary main_arg11 main_v57 (broadcastInDim S1x1x1024 ![2] bcast_S1024_S1x1x1024_2 : (⟨S1024, .f32⟩ : BufTy).Contents (Elt F) → (⟨S1x1x1024, .f32⟩ : BufTy).Contents (Elt F)),
    unary main_v57 main_v58 (broadcastInDim S2x16384x1024 ![0, 1, 2] bcast_S1x1x1024_S2x16384x1024_0_1_2 : (⟨S1x1x1024, .f32⟩ : BufTy).Contents (Elt F) → (⟨S2x16384x1024, .f32⟩ : BufTy).Contents (Elt F)),
    binary main_v56 main_v58 main_v59 (mulf : (⟨S2x16384x1024, .f32⟩ : BufTy).Contents (Elt F) → (⟨S2x16384x1024, .f32⟩ : BufTy).Contents (Elt F) → (⟨S2x16384x1024, .f32⟩ : BufTy).Contents (Elt F)),
    unary main_v3 main_v60 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v60 main_v59 main_v61 (mulf : (⟨S2x16384x1024, .f32⟩ : BufTy).Contents (Elt F) → (⟨S2x16384x1024, .f32⟩ : BufTy).Contents (Elt F) → (⟨S2x16384x1024, .f32⟩ : BufTy).Contents (Elt F)),
    binary main_v21 main_v61 main_v62 (addf : (⟨S2x16384x1024, .f32⟩ : BufTy).Contents (Elt F) → (⟨S2x16384x1024, .f32⟩ : BufTy).Contents (Elt F) → (⟨S2x16384x1024, .f32⟩ : BufTy).Contents (Elt F)) ]

set_option maxHeartbeats 1600000

theorem st1_v5 (V : Valuation τ sig (Elt F)) : after st1 V (Proc.devRef .tc main_v5) = yOf (V (Proc.devRef .tc main_arg0)) (V (Proc.devRef .tc main_arg1)) (V (Proc.devRef .tc main_arg2)) (V (Proc.devRef .tc main_arg3)) := by
  simp only [st1, TRef.binary, TRef.nullary, TRef.unary, TRef.toBuf, TRef.ofBuf, cast_eq]; after_results_simp <;> (first | rfl | (dsimp only [Matrix.cons_val]; after_results_simp; rfl))
theorem st1_v0 (V : Valuation τ sig (Elt F)) : after st1 V (Proc.devRef .tc main_v0) = rowOf (V (Proc.devRef .tc main_arg6)) := by
  simp only [st1, TRef.binary, TRef.nullary, TRef.unary, TRef.toBuf, TRef.ofBuf, cast_eq]; after_results_simp <;> (first | rfl | (dsimp only [Matrix.cons_val]; after_results_simp; rfl))
theorem st1_v1 (V : Valuation τ sig (Elt F)) : after st1 V (Proc.devRef .tc main_v1) = rowOf (V (Proc.devRef .tc main_arg7)) := by
  simp only [st1, TRef.binary, TRef.nullary, TRef.unary, TRef.toBuf, TRef.ofBuf, cast_eq]; after_results_simp <;> (first | rfl | (dsimp only [Matrix.cons_val]; after_results_simp; rfl))
theorem st1_v2 (V : Valuation τ sig (Elt F)) : after st1 V (Proc.devRef .tc main_v2) = rowOf (V (Proc.devRef .tc main_arg8)) := by
  simp only [st1, TRef.binary, TRef.nullary, TRef.unary, TRef.toBuf, TRef.ofBuf, cast_eq]; after_results_simp <;> (first | rfl | (dsimp only [Matrix.cons_val]; after_results_simp; rfl))
theorem st1_v3 (V : Valuation τ sig (Elt F)) : after st1 V (Proc.devRef .tc main_v3) = rowOf (V (Proc.devRef .tc main_arg9)) := by
  simp only [st1, TRef.binary, TRef.nullary, TRef.unary, TRef.toBuf, TRef.ofBuf, cast_eq]; after_results_simp <;> (first | rfl | (dsimp only [Matrix.cons_val]; after_results_simp; rfl))
theorem st2_v21 (V : Valuation τ sig (Elt F)) : after st2 V (Proc.devRef .tc main_v21) = resOf (V (Proc.devRef .tc main_arg4)) (V (Proc.devRef .tc main_v5)) (V (Proc.devRef .tc main_arg5)) (V (Proc.devRef .tc main_v0)) := by
  simp only [st2, TRef.binary, TRef.nullary, TRef.unary, TRef.toBuf, TRef.ofBuf, cast_eq]; after_results_simp <;> (first | rfl | (dsimp only [Matrix.cons_val]; after_results_simp; rfl))
theorem st3_v40 (V : Valuation τ sig (Elt F)) : after st3 V (Proc.devRef .tc main_v40) = hOf (V (Proc.devRef .tc main_v21)) (V (Proc.devRef .tc main_arg10)) (V (Proc.devRef .tc main_v1)) (V (Proc.devRef .tc main_v2)) := by
  simp only [st3, TRef.binary, TRef.nullary, TRef.unary, TRef.toBuf, TRef.ofBuf, cast_eq]; after_results_simp <;> (first | rfl | (dsimp only [Matrix.cons_val]; after_results_simp; rfl))
theorem st4_v45 (V : Valuation τ sig (Elt F)) : after st4 V (Proc.devRef .tc main_v45) = aOf (guOf (V (Proc.devRef .tc main_v40)) (V (Proc.devRef .tc main_arg12))) := by
  simp only [st4, TRef.binary, TRef.nullary, TRef.unary, TRef.toBuf, TRef.ofBuf, cast_eq]; after_results_simp <;> (first | rfl | (dsimp only [Matrix.cons_val]; after_results_simp; rfl))
theorem st5_v46 (V : Valuation τ sig (Elt F)) : after st5 V (Proc.devRef .tc main_v46) = fOf (V (Proc.devRef .tc main_v45)) (V (Proc.devRef .tc main_arg13)) := by
  simp only [st5, TRef.binary, TRef.nullary, TRef.unary, TRef.toBuf, TRef.ofBuf, cast_eq]; after_results_simp <;> (first | rfl | (dsimp only [Matrix.cons_val]; after_results_simp; rfl))
theorem st6_v62 (V : Valuation τ sig (Elt F)) : after st6 V (Proc.devRef .tc main_v62) = resOf (V (Proc.devRef .tc main_v21)) (V (Proc.devRef .tc main_v46)) (V (Proc.devRef .tc main_arg11)) (V (Proc.devRef .tc main_v3)) := by
  simp only [st6, TRef.binary, TRef.nullary, TRef.unary, TRef.toBuf, TRef.ofBuf, cast_eq]; after_results_simp <;> (first | rfl | (dsimp only [Matrix.cons_val]; after_results_simp; rfl))

/-- A stage leaves alone what none of its operations writes. -/
theorem st_keep (l : List (HloOp τ sig (Elt F))) (V : Valuation τ sig (Elt F)) (b : Ref sig .tc)
    (h : ∀ op ∈ l, Proc.devRef .tc b ∉ op.writes) : after l V (Proc.devRef .tc b) = V (Proc.devRef .tc b) :=
  after_of_forall_not_mem (b := Proc.devRef .tc b) _ _ h

theorem st1_arg0 (V : Valuation τ sig (Elt F)) : after st1 V (Proc.devRef .tc main_arg0) = V (Proc.devRef .tc main_arg0) := by
  simp only [st1, TRef.binary, TRef.nullary, TRef.unary, TRef.toBuf, TRef.ofBuf, cast_eq]; after_results_simp
theorem st1_arg1 (V : Valuation τ sig (Elt F)) : after st1 V (Proc.devRef .tc main_arg1) = V (Proc.devRef .tc main_arg1) := by
  simp only [st1, TRef.binary, TRef.nullary, TRef.unary, TRef.toBuf, TRef.ofBuf, cast_eq]; after_results_simp
theorem st1_arg2 (V : Valuation τ sig (Elt F)) : after st1 V (Proc.devRef .tc main_arg2) = V (Proc.devRef .tc main_arg2) := by
  simp only [st1, TRef.binary, TRef.nullary, TRef.unary, TRef.toBuf, TRef.ofBuf, cast_eq]; after_results_simp
theorem st1_arg3 (V : Valuation τ sig (Elt F)) : after st1 V (Proc.devRef .tc main_arg3) = V (Proc.devRef .tc main_arg3) := by
  simp only [st1, TRef.binary, TRef.nullary, TRef.unary, TRef.toBuf, TRef.ofBuf, cast_eq]; after_results_simp
theorem st1_arg4 (V : Valuation τ sig (Elt F)) : after st1 V (Proc.devRef .tc main_arg4) = V (Proc.devRef .tc main_arg4) := by
  simp only [st1, TRef.binary, TRef.nullary, TRef.unary, TRef.toBuf, TRef.ofBuf, cast_eq]; after_results_simp
theorem st1_arg5 (V : Valuation τ sig (Elt F)) : after st1 V (Proc.devRef .tc main_arg5) = V (Proc.devRef .tc main_arg5) := by
  simp only [st1, TRef.binary, TRef.nullary, TRef.unary, TRef.toBuf, TRef.ofBuf, cast_eq]; after_results_simp
theorem st1_arg6 (V : Valuation τ sig (Elt F)) : after st1 V (Proc.devRef .tc main_arg6) = V (Proc.devRef .tc main_arg6) := by
  simp only [st1, TRef.binary, TRef.nullary, TRef.unary, TRef.toBuf, TRef.ofBuf, cast_eq]; after_results_simp
theorem st1_arg7 (V : Valuation τ sig (Elt F)) : after st1 V (Proc.devRef .tc main_arg7) = V (Proc.devRef .tc main_arg7) := by
  simp only [st1, TRef.binary, TRef.nullary, TRef.unary, TRef.toBuf, TRef.ofBuf, cast_eq]; after_results_simp
theorem st1_arg8 (V : Valuation τ sig (Elt F)) : after st1 V (Proc.devRef .tc main_arg8) = V (Proc.devRef .tc main_arg8) := by
  simp only [st1, TRef.binary, TRef.nullary, TRef.unary, TRef.toBuf, TRef.ofBuf, cast_eq]; after_results_simp
theorem st1_arg9 (V : Valuation τ sig (Elt F)) : after st1 V (Proc.devRef .tc main_arg9) = V (Proc.devRef .tc main_arg9) := by
  simp only [st1, TRef.binary, TRef.nullary, TRef.unary, TRef.toBuf, TRef.ofBuf, cast_eq]; after_results_simp
theorem st1_arg10 (V : Valuation τ sig (Elt F)) : after st1 V (Proc.devRef .tc main_arg10) = V (Proc.devRef .tc main_arg10) := by
  simp only [st1, TRef.binary, TRef.nullary, TRef.unary, TRef.toBuf, TRef.ofBuf, cast_eq]; after_results_simp
theorem st1_arg11 (V : Valuation τ sig (Elt F)) : after st1 V (Proc.devRef .tc main_arg11) = V (Proc.devRef .tc main_arg11) := by
  simp only [st1, TRef.binary, TRef.nullary, TRef.unary, TRef.toBuf, TRef.ofBuf, cast_eq]; after_results_simp
theorem st1_arg12 (V : Valuation τ sig (Elt F)) : after st1 V (Proc.devRef .tc main_arg12) = V (Proc.devRef .tc main_arg12) := by
  simp only [st1, TRef.binary, TRef.nullary, TRef.unary, TRef.toBuf, TRef.ofBuf, cast_eq]; after_results_simp
theorem st1_arg13 (V : Valuation τ sig (Elt F)) : after st1 V (Proc.devRef .tc main_arg13) = V (Proc.devRef .tc main_arg13) := by
  simp only [st1, TRef.binary, TRef.nullary, TRef.unary, TRef.toBuf, TRef.ofBuf, cast_eq]; after_results_simp
theorem st2_arg0 (V : Valuation τ sig (Elt F)) : after st2 V (Proc.devRef .tc main_arg0) = V (Proc.devRef .tc main_arg0) := by
  simp only [st2, TRef.binary, TRef.nullary, TRef.unary, TRef.toBuf, TRef.ofBuf, cast_eq]; after_results_simp
theorem st2_arg1 (V : Valuation τ sig (Elt F)) : after st2 V (Proc.devRef .tc main_arg1) = V (Proc.devRef .tc main_arg1) := by
  simp only [st2, TRef.binary, TRef.nullary, TRef.unary, TRef.toBuf, TRef.ofBuf, cast_eq]; after_results_simp
theorem st2_arg2 (V : Valuation τ sig (Elt F)) : after st2 V (Proc.devRef .tc main_arg2) = V (Proc.devRef .tc main_arg2) := by
  simp only [st2, TRef.binary, TRef.nullary, TRef.unary, TRef.toBuf, TRef.ofBuf, cast_eq]; after_results_simp
theorem st2_arg3 (V : Valuation τ sig (Elt F)) : after st2 V (Proc.devRef .tc main_arg3) = V (Proc.devRef .tc main_arg3) := by
  simp only [st2, TRef.binary, TRef.nullary, TRef.unary, TRef.toBuf, TRef.ofBuf, cast_eq]; after_results_simp
theorem st2_arg4 (V : Valuation τ sig (Elt F)) : after st2 V (Proc.devRef .tc main_arg4) = V (Proc.devRef .tc main_arg4) := by
  simp only [st2, TRef.binary, TRef.nullary, TRef.unary, TRef.toBuf, TRef.ofBuf, cast_eq]; after_results_simp
theorem st2_arg5 (V : Valuation τ sig (Elt F)) : after st2 V (Proc.devRef .tc main_arg5) = V (Proc.devRef .tc main_arg5) := by
  simp only [st2, TRef.binary, TRef.nullary, TRef.unary, TRef.toBuf, TRef.ofBuf, cast_eq]; after_results_simp
theorem st2_arg6 (V : Valuation τ sig (Elt F)) : after st2 V (Proc.devRef .tc main_arg6) = V (Proc.devRef .tc main_arg6) := by
  simp only [st2, TRef.binary, TRef.nullary, TRef.unary, TRef.toBuf, TRef.ofBuf, cast_eq]; after_results_simp
theorem st2_arg7 (V : Valuation τ sig (Elt F)) : after st2 V (Proc.devRef .tc main_arg7) = V (Proc.devRef .tc main_arg7) := by
  simp only [st2, TRef.binary, TRef.nullary, TRef.unary, TRef.toBuf, TRef.ofBuf, cast_eq]; after_results_simp
theorem st2_arg8 (V : Valuation τ sig (Elt F)) : after st2 V (Proc.devRef .tc main_arg8) = V (Proc.devRef .tc main_arg8) := by
  simp only [st2, TRef.binary, TRef.nullary, TRef.unary, TRef.toBuf, TRef.ofBuf, cast_eq]; after_results_simp
theorem st2_arg9 (V : Valuation τ sig (Elt F)) : after st2 V (Proc.devRef .tc main_arg9) = V (Proc.devRef .tc main_arg9) := by
  simp only [st2, TRef.binary, TRef.nullary, TRef.unary, TRef.toBuf, TRef.ofBuf, cast_eq]; after_results_simp
theorem st2_arg10 (V : Valuation τ sig (Elt F)) : after st2 V (Proc.devRef .tc main_arg10) = V (Proc.devRef .tc main_arg10) := by
  simp only [st2, TRef.binary, TRef.nullary, TRef.unary, TRef.toBuf, TRef.ofBuf, cast_eq]; after_results_simp
theorem st2_arg11 (V : Valuation τ sig (Elt F)) : after st2 V (Proc.devRef .tc main_arg11) = V (Proc.devRef .tc main_arg11) := by
  simp only [st2, TRef.binary, TRef.nullary, TRef.unary, TRef.toBuf, TRef.ofBuf, cast_eq]; after_results_simp
theorem st2_arg12 (V : Valuation τ sig (Elt F)) : after st2 V (Proc.devRef .tc main_arg12) = V (Proc.devRef .tc main_arg12) := by
  simp only [st2, TRef.binary, TRef.nullary, TRef.unary, TRef.toBuf, TRef.ofBuf, cast_eq]; after_results_simp
theorem st2_arg13 (V : Valuation τ sig (Elt F)) : after st2 V (Proc.devRef .tc main_arg13) = V (Proc.devRef .tc main_arg13) := by
  simp only [st2, TRef.binary, TRef.nullary, TRef.unary, TRef.toBuf, TRef.ofBuf, cast_eq]; after_results_simp
theorem st2_v1 (V : Valuation τ sig (Elt F)) : after st2 V (Proc.devRef .tc main_v1) = V (Proc.devRef .tc main_v1) := by
  simp only [st2, TRef.binary, TRef.nullary, TRef.unary, TRef.toBuf, TRef.ofBuf, cast_eq]; after_results_simp
theorem st2_v2 (V : Valuation τ sig (Elt F)) : after st2 V (Proc.devRef .tc main_v2) = V (Proc.devRef .tc main_v2) := by
  simp only [st2, TRef.binary, TRef.nullary, TRef.unary, TRef.toBuf, TRef.ofBuf, cast_eq]; after_results_simp
theorem st2_v3 (V : Valuation τ sig (Elt F)) : after st2 V (Proc.devRef .tc main_v3) = V (Proc.devRef .tc main_v3) := by
  simp only [st2, TRef.binary, TRef.nullary, TRef.unary, TRef.toBuf, TRef.ofBuf, cast_eq]; after_results_simp
theorem st3_arg0 (V : Valuation τ sig (Elt F)) : after st3 V (Proc.devRef .tc main_arg0) = V (Proc.devRef .tc main_arg0) := by
  simp only [st3, TRef.binary, TRef.nullary, TRef.unary, TRef.toBuf, TRef.ofBuf, cast_eq]; after_results_simp
theorem st3_arg1 (V : Valuation τ sig (Elt F)) : after st3 V (Proc.devRef .tc main_arg1) = V (Proc.devRef .tc main_arg1) := by
  simp only [st3, TRef.binary, TRef.nullary, TRef.unary, TRef.toBuf, TRef.ofBuf, cast_eq]; after_results_simp
theorem st3_arg2 (V : Valuation τ sig (Elt F)) : after st3 V (Proc.devRef .tc main_arg2) = V (Proc.devRef .tc main_arg2) := by
  simp only [st3, TRef.binary, TRef.nullary, TRef.unary, TRef.toBuf, TRef.ofBuf, cast_eq]; after_results_simp
theorem st3_arg3 (V : Valuation τ sig (Elt F)) : after st3 V (Proc.devRef .tc main_arg3) = V (Proc.devRef .tc main_arg3) := by
  simp only [st3, TRef.binary, TRef.nullary, TRef.unary, TRef.toBuf, TRef.ofBuf, cast_eq]; after_results_simp
theorem st3_arg4 (V : Valuation τ sig (Elt F)) : after st3 V (Proc.devRef .tc main_arg4) = V (Proc.devRef .tc main_arg4) := by
  simp only [st3, TRef.binary, TRef.nullary, TRef.unary, TRef.toBuf, TRef.ofBuf, cast_eq]; after_results_simp
theorem st3_arg5 (V : Valuation τ sig (Elt F)) : after st3 V (Proc.devRef .tc main_arg5) = V (Proc.devRef .tc main_arg5) := by
  simp only [st3, TRef.binary, TRef.nullary, TRef.unary, TRef.toBuf, TRef.ofBuf, cast_eq]; after_results_simp
theorem st3_arg6 (V : Valuation τ sig (Elt F)) : after st3 V (Proc.devRef .tc main_arg6) = V (Proc.devRef .tc main_arg6) := by
  simp only [st3, TRef.binary, TRef.nullary, TRef.unary, TRef.toBuf, TRef.ofBuf, cast_eq]; after_results_simp
theorem st3_arg7 (V : Valuation τ sig (Elt F)) : after st3 V (Proc.devRef .tc main_arg7) = V (Proc.devRef .tc main_arg7) := by
  simp only [st3, TRef.binary, TRef.nullary, TRef.unary, TRef.toBuf, TRef.ofBuf, cast_eq]; after_results_simp
theorem st3_arg8 (V : Valuation τ sig (Elt F)) : after st3 V (Proc.devRef .tc main_arg8) = V (Proc.devRef .tc main_arg8) := by
  simp only [st3, TRef.binary, TRef.nullary, TRef.unary, TRef.toBuf, TRef.ofBuf, cast_eq]; after_results_simp
theorem st3_arg9 (V : Valuation τ sig (Elt F)) : after st3 V (Proc.devRef .tc main_arg9) = V (Proc.devRef .tc main_arg9) := by
  simp only [st3, TRef.binary, TRef.nullary, TRef.unary, TRef.toBuf, TRef.ofBuf, cast_eq]; after_results_simp
theorem st3_arg10 (V : Valuation τ sig (Elt F)) : after st3 V (Proc.devRef .tc main_arg10) = V (Proc.devRef .tc main_arg10) := by
  simp only [st3, TRef.binary, TRef.nullary, TRef.unary, TRef.toBuf, TRef.ofBuf, cast_eq]; after_results_simp
theorem st3_arg11 (V : Valuation τ sig (Elt F)) : after st3 V (Proc.devRef .tc main_arg11) = V (Proc.devRef .tc main_arg11) := by
  simp only [st3, TRef.binary, TRef.nullary, TRef.unary, TRef.toBuf, TRef.ofBuf, cast_eq]; after_results_simp
theorem st3_arg12 (V : Valuation τ sig (Elt F)) : after st3 V (Proc.devRef .tc main_arg12) = V (Proc.devRef .tc main_arg12) := by
  simp only [st3, TRef.binary, TRef.nullary, TRef.unary, TRef.toBuf, TRef.ofBuf, cast_eq]; after_results_simp
theorem st3_arg13 (V : Valuation τ sig (Elt F)) : after st3 V (Proc.devRef .tc main_arg13) = V (Proc.devRef .tc main_arg13) := by
  simp only [st3, TRef.binary, TRef.nullary, TRef.unary, TRef.toBuf, TRef.ofBuf, cast_eq]; after_results_simp
theorem st3_v21 (V : Valuation τ sig (Elt F)) : after st3 V (Proc.devRef .tc main_v21) = V (Proc.devRef .tc main_v21) := by
  simp only [st3, TRef.binary, TRef.nullary, TRef.unary, TRef.toBuf, TRef.ofBuf, cast_eq]; after_results_simp
theorem st3_v3 (V : Valuation τ sig (Elt F)) : after st3 V (Proc.devRef .tc main_v3) = V (Proc.devRef .tc main_v3) := by
  simp only [st3, TRef.binary, TRef.nullary, TRef.unary, TRef.toBuf, TRef.ofBuf, cast_eq]; after_results_simp
theorem st4_arg0 (V : Valuation τ sig (Elt F)) : after st4 V (Proc.devRef .tc main_arg0) = V (Proc.devRef .tc main_arg0) := by
  simp only [st4, TRef.binary, TRef.nullary, TRef.unary, TRef.toBuf, TRef.ofBuf, cast_eq]; after_results_simp
theorem st4_arg1 (V : Valuation τ sig (Elt F)) : after st4 V (Proc.devRef .tc main_arg1) = V (Proc.devRef .tc main_arg1) := by
  simp only [st4, TRef.binary, TRef.nullary, TRef.unary, TRef.toBuf, TRef.ofBuf, cast_eq]; after_results_simp
theorem st4_arg2 (V : Valuation τ sig (Elt F)) : after st4 V (Proc.devRef .tc main_arg2) = V (Proc.devRef .tc main_arg2) := by
  simp only [st4, TRef.binary, TRef.nullary, TRef.unary, TRef.toBuf, TRef.ofBuf, cast_eq]; after_results_simp
theorem st4_arg3 (V : Valuation τ sig (Elt F)) : after st4 V (Proc.devRef .tc main_arg3) = V (Proc.devRef .tc main_arg3) := by
  simp only [st4, TRef.binary, TRef.nullary, TRef.unary, TRef.toBuf, TRef.ofBuf, cast_eq]; after_results_simp
theorem st4_arg4 (V : Valuation τ sig (Elt F)) : after st4 V (Proc.devRef .tc main_arg4) = V (Proc.devRef .tc main_arg4) := by
  simp only [st4, TRef.binary, TRef.nullary, TRef.unary, TRef.toBuf, TRef.ofBuf, cast_eq]; after_results_simp
theorem st4_arg5 (V : Valuation τ sig (Elt F)) : after st4 V (Proc.devRef .tc main_arg5) = V (Proc.devRef .tc main_arg5) := by
  simp only [st4, TRef.binary, TRef.nullary, TRef.unary, TRef.toBuf, TRef.ofBuf, cast_eq]; after_results_simp
theorem st4_arg6 (V : Valuation τ sig (Elt F)) : after st4 V (Proc.devRef .tc main_arg6) = V (Proc.devRef .tc main_arg6) := by
  simp only [st4, TRef.binary, TRef.nullary, TRef.unary, TRef.toBuf, TRef.ofBuf, cast_eq]; after_results_simp
theorem st4_arg7 (V : Valuation τ sig (Elt F)) : after st4 V (Proc.devRef .tc main_arg7) = V (Proc.devRef .tc main_arg7) := by
  simp only [st4, TRef.binary, TRef.nullary, TRef.unary, TRef.toBuf, TRef.ofBuf, cast_eq]; after_results_simp
theorem st4_arg8 (V : Valuation τ sig (Elt F)) : after st4 V (Proc.devRef .tc main_arg8) = V (Proc.devRef .tc main_arg8) := by
  simp only [st4, TRef.binary, TRef.nullary, TRef.unary, TRef.toBuf, TRef.ofBuf, cast_eq]; after_results_simp
theorem st4_arg9 (V : Valuation τ sig (Elt F)) : after st4 V (Proc.devRef .tc main_arg9) = V (Proc.devRef .tc main_arg9) := by
  simp only [st4, TRef.binary, TRef.nullary, TRef.unary, TRef.toBuf, TRef.ofBuf, cast_eq]; after_results_simp
theorem st4_arg10 (V : Valuation τ sig (Elt F)) : after st4 V (Proc.devRef .tc main_arg10) = V (Proc.devRef .tc main_arg10) := by
  simp only [st4, TRef.binary, TRef.nullary, TRef.unary, TRef.toBuf, TRef.ofBuf, cast_eq]; after_results_simp
theorem st4_arg11 (V : Valuation τ sig (Elt F)) : after st4 V (Proc.devRef .tc main_arg11) = V (Proc.devRef .tc main_arg11) := by
  simp only [st4, TRef.binary, TRef.nullary, TRef.unary, TRef.toBuf, TRef.ofBuf, cast_eq]; after_results_simp
theorem st4_arg12 (V : Valuation τ sig (Elt F)) : after st4 V (Proc.devRef .tc main_arg12) = V (Proc.devRef .tc main_arg12) := by
  simp only [st4, TRef.binary, TRef.nullary, TRef.unary, TRef.toBuf, TRef.ofBuf, cast_eq]; after_results_simp
theorem st4_arg13 (V : Valuation τ sig (Elt F)) : after st4 V (Proc.devRef .tc main_arg13) = V (Proc.devRef .tc main_arg13) := by
  simp only [st4, TRef.binary, TRef.nullary, TRef.unary, TRef.toBuf, TRef.ofBuf, cast_eq]; after_results_simp
theorem st4_v21 (V : Valuation τ sig (Elt F)) : after st4 V (Proc.devRef .tc main_v21) = V (Proc.devRef .tc main_v21) := by
  simp only [st4, TRef.binary, TRef.nullary, TRef.unary, TRef.toBuf, TRef.ofBuf, cast_eq]; after_results_simp
theorem st4_v3 (V : Valuation τ sig (Elt F)) : after st4 V (Proc.devRef .tc main_v3) = V (Proc.devRef .tc main_v3) := by
  simp only [st4, TRef.binary, TRef.nullary, TRef.unary, TRef.toBuf, TRef.ofBuf, cast_eq]; after_results_simp
theorem st5_arg0 (V : Valuation τ sig (Elt F)) : after st5 V (Proc.devRef .tc main_arg0) = V (Proc.devRef .tc main_arg0) := by
  simp only [st5, TRef.binary, TRef.nullary, TRef.unary, TRef.toBuf, TRef.ofBuf, cast_eq]; after_results_simp
theorem st5_arg1 (V : Valuation τ sig (Elt F)) : after st5 V (Proc.devRef .tc main_arg1) = V (Proc.devRef .tc main_arg1) := by
  simp only [st5, TRef.binary, TRef.nullary, TRef.unary, TRef.toBuf, TRef.ofBuf, cast_eq]; after_results_simp
theorem st5_arg2 (V : Valuation τ sig (Elt F)) : after st5 V (Proc.devRef .tc main_arg2) = V (Proc.devRef .tc main_arg2) := by
  simp only [st5, TRef.binary, TRef.nullary, TRef.unary, TRef.toBuf, TRef.ofBuf, cast_eq]; after_results_simp
theorem st5_arg3 (V : Valuation τ sig (Elt F)) : after st5 V (Proc.devRef .tc main_arg3) = V (Proc.devRef .tc main_arg3) := by
  simp only [st5, TRef.binary, TRef.nullary, TRef.unary, TRef.toBuf, TRef.ofBuf, cast_eq]; after_results_simp
theorem st5_arg4 (V : Valuation τ sig (Elt F)) : after st5 V (Proc.devRef .tc main_arg4) = V (Proc.devRef .tc main_arg4) := by
  simp only [st5, TRef.binary, TRef.nullary, TRef.unary, TRef.toBuf, TRef.ofBuf, cast_eq]; after_results_simp
theorem st5_arg5 (V : Valuation τ sig (Elt F)) : after st5 V (Proc.devRef .tc main_arg5) = V (Proc.devRef .tc main_arg5) := by
  simp only [st5, TRef.binary, TRef.nullary, TRef.unary, TRef.toBuf, TRef.ofBuf, cast_eq]; after_results_simp
theorem st5_arg6 (V : Valuation τ sig (Elt F)) : after st5 V (Proc.devRef .tc main_arg6) = V (Proc.devRef .tc main_arg6) := by
  simp only [st5, TRef.binary, TRef.nullary, TRef.unary, TRef.toBuf, TRef.ofBuf, cast_eq]; after_results_simp
theorem st5_arg7 (V : Valuation τ sig (Elt F)) : after st5 V (Proc.devRef .tc main_arg7) = V (Proc.devRef .tc main_arg7) := by
  simp only [st5, TRef.binary, TRef.nullary, TRef.unary, TRef.toBuf, TRef.ofBuf, cast_eq]; after_results_simp
theorem st5_arg8 (V : Valuation τ sig (Elt F)) : after st5 V (Proc.devRef .tc main_arg8) = V (Proc.devRef .tc main_arg8) := by
  simp only [st5, TRef.binary, TRef.nullary, TRef.unary, TRef.toBuf, TRef.ofBuf, cast_eq]; after_results_simp
theorem st5_arg9 (V : Valuation τ sig (Elt F)) : after st5 V (Proc.devRef .tc main_arg9) = V (Proc.devRef .tc main_arg9) := by
  simp only [st5, TRef.binary, TRef.nullary, TRef.unary, TRef.toBuf, TRef.ofBuf, cast_eq]; after_results_simp
theorem st5_arg10 (V : Valuation τ sig (Elt F)) : after st5 V (Proc.devRef .tc main_arg10) = V (Proc.devRef .tc main_arg10) := by
  simp only [st5, TRef.binary, TRef.nullary, TRef.unary, TRef.toBuf, TRef.ofBuf, cast_eq]; after_results_simp
theorem st5_arg11 (V : Valuation τ sig (Elt F)) : after st5 V (Proc.devRef .tc main_arg11) = V (Proc.devRef .tc main_arg11) := by
  simp only [st5, TRef.binary, TRef.nullary, TRef.unary, TRef.toBuf, TRef.ofBuf, cast_eq]; after_results_simp
theorem st5_arg12 (V : Valuation τ sig (Elt F)) : after st5 V (Proc.devRef .tc main_arg12) = V (Proc.devRef .tc main_arg12) := by
  simp only [st5, TRef.binary, TRef.nullary, TRef.unary, TRef.toBuf, TRef.ofBuf, cast_eq]; after_results_simp
theorem st5_arg13 (V : Valuation τ sig (Elt F)) : after st5 V (Proc.devRef .tc main_arg13) = V (Proc.devRef .tc main_arg13) := by
  simp only [st5, TRef.binary, TRef.nullary, TRef.unary, TRef.toBuf, TRef.ofBuf, cast_eq]; after_results_simp
theorem st5_v21 (V : Valuation τ sig (Elt F)) : after st5 V (Proc.devRef .tc main_v21) = V (Proc.devRef .tc main_v21) := by
  simp only [st5, TRef.binary, TRef.nullary, TRef.unary, TRef.toBuf, TRef.ofBuf, cast_eq]; after_results_simp
theorem st5_v3 (V : Valuation τ sig (Elt F)) : after st5 V (Proc.devRef .tc main_v3) = V (Proc.devRef .tc main_v3) := by
  simp only [st5, TRef.binary, TRef.nullary, TRef.unary, TRef.toBuf, TRef.ofBuf, cast_eq]; after_results_simp
theorem st6_arg0 (V : Valuation τ sig (Elt F)) : after st6 V (Proc.devRef .tc main_arg0) = V (Proc.devRef .tc main_arg0) := by
  simp only [st6, TRef.binary, TRef.nullary, TRef.unary, TRef.toBuf, TRef.ofBuf, cast_eq]; after_results_simp
theorem st6_arg1 (V : Valuation τ sig (Elt F)) : after st6 V (Proc.devRef .tc main_arg1) = V (Proc.devRef .tc main_arg1) := by
  simp only [st6, TRef.binary, TRef.nullary, TRef.unary, TRef.toBuf, TRef.ofBuf, cast_eq]; after_results_simp
theorem st6_arg2 (V : Valuation τ sig (Elt F)) : after st6 V (Proc.devRef .tc main_arg2) = V (Proc.devRef .tc main_arg2) := by
  simp only [st6, TRef.binary, TRef.nullary, TRef.unary, TRef.toBuf, TRef.ofBuf, cast_eq]; after_results_simp
theorem st6_arg3 (V : Valuation τ sig (Elt F)) : after st6 V (Proc.devRef .tc main_arg3) = V (Proc.devRef .tc main_arg3) := by
  simp only [st6, TRef.binary, TRef.nullary, TRef.unary, TRef.toBuf, TRef.ofBuf, cast_eq]; after_results_simp
theorem st6_arg4 (V : Valuation τ sig (Elt F)) : after st6 V (Proc.devRef .tc main_arg4) = V (Proc.devRef .tc main_arg4) := by
  simp only [st6, TRef.binary, TRef.nullary, TRef.unary, TRef.toBuf, TRef.ofBuf, cast_eq]; after_results_simp
theorem st6_arg5 (V : Valuation τ sig (Elt F)) : after st6 V (Proc.devRef .tc main_arg5) = V (Proc.devRef .tc main_arg5) := by
  simp only [st6, TRef.binary, TRef.nullary, TRef.unary, TRef.toBuf, TRef.ofBuf, cast_eq]; after_results_simp
theorem st6_arg6 (V : Valuation τ sig (Elt F)) : after st6 V (Proc.devRef .tc main_arg6) = V (Proc.devRef .tc main_arg6) := by
  simp only [st6, TRef.binary, TRef.nullary, TRef.unary, TRef.toBuf, TRef.ofBuf, cast_eq]; after_results_simp
theorem st6_arg7 (V : Valuation τ sig (Elt F)) : after st6 V (Proc.devRef .tc main_arg7) = V (Proc.devRef .tc main_arg7) := by
  simp only [st6, TRef.binary, TRef.nullary, TRef.unary, TRef.toBuf, TRef.ofBuf, cast_eq]; after_results_simp
theorem st6_arg8 (V : Valuation τ sig (Elt F)) : after st6 V (Proc.devRef .tc main_arg8) = V (Proc.devRef .tc main_arg8) := by
  simp only [st6, TRef.binary, TRef.nullary, TRef.unary, TRef.toBuf, TRef.ofBuf, cast_eq]; after_results_simp
theorem st6_arg9 (V : Valuation τ sig (Elt F)) : after st6 V (Proc.devRef .tc main_arg9) = V (Proc.devRef .tc main_arg9) := by
  simp only [st6, TRef.binary, TRef.nullary, TRef.unary, TRef.toBuf, TRef.ofBuf, cast_eq]; after_results_simp
theorem st6_arg10 (V : Valuation τ sig (Elt F)) : after st6 V (Proc.devRef .tc main_arg10) = V (Proc.devRef .tc main_arg10) := by
  simp only [st6, TRef.binary, TRef.nullary, TRef.unary, TRef.toBuf, TRef.ofBuf, cast_eq]; after_results_simp
theorem st6_arg11 (V : Valuation τ sig (Elt F)) : after st6 V (Proc.devRef .tc main_arg11) = V (Proc.devRef .tc main_arg11) := by
  simp only [st6, TRef.binary, TRef.nullary, TRef.unary, TRef.toBuf, TRef.ofBuf, cast_eq]; after_results_simp
theorem st6_arg12 (V : Valuation τ sig (Elt F)) : after st6 V (Proc.devRef .tc main_arg12) = V (Proc.devRef .tc main_arg12) := by
  simp only [st6, TRef.binary, TRef.nullary, TRef.unary, TRef.toBuf, TRef.ofBuf, cast_eq]; after_results_simp
theorem st6_arg13 (V : Valuation τ sig (Elt F)) : after st6 V (Proc.devRef .tc main_arg13) = V (Proc.devRef .tc main_arg13) := by
  simp only [st6, TRef.binary, TRef.nullary, TRef.unary, TRef.toBuf, TRef.ofBuf, cast_eq]; after_results_simp

theorem after_app (a b : List (HloOp τ sig (Elt F))) (V : Valuation τ sig (Elt F)) : after (a ++ b) V = after b (after a V) := by
  induction a generalizing V with
  | nil => rfl
  | cons o a ih => exact ih _

/-- All six stages in order. -/
abbrev allOps : List (HloOp τ sig (Elt F)) := st1 ++ (st2 ++ (st3 ++ (st4 ++ (st5 ++ st6))))

theorem main_stages (c : Dev nD) : main (F := F) c = seq allOps := rfl

/-- The stream after the mixers' gated residual. -/
def x1Of (u0 : FVec F S2x16384x256 .f32) (u1 : FVec F S2x16384x512 .f32) (u2 : FVec F S2x16384x256 .f32) (w : FVec F S1024x1024 .f32)
    (x : FVec F S2x16384x1024 .f32) (g : FVec F S1024 .f32) (gt : FVec F S2x1024 .f32) : FVec F S2x16384x1024 .f32 :=
  resOf x (yOf u0 u1 u2 w) g (rowOf gt)

/-- The layer's output from the stream after the mixers. -/
def outOf (x1 : FVec F S2x16384x1024 .f32) (sc sh gt : FVec F S2x1024 .f32) (gpre gpost : FVec F S1024 .f32)
    (wgu : FVec F S1024x5632 .f32) (wd : FVec F S2816x1024 .f32) : FVec F S2x16384x1024 .f32 :=
  resOf x1 (fOf (aOf (guOf (hOf x1 gpre (rowOf sc) (rowOf sh)) wgu)) wd) gpost (rowOf gt)

theorem all_v62 (V : Valuation τ sig (Elt F)) : after allOps V (Proc.devRef .tc main_v62)
    = outOf (x1Of (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
        (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [allOps, after_app]
  rw [st6_v62, st5_v46, st5_v21, st5_arg11, st5_v3, st4_v45, st4_arg13, st4_v21, st4_arg11, st4_v3, st3_v40, st3_v21, st3_arg12, st3_arg13, st3_arg11, st3_v3,
    st2_v21, st2_arg10, st2_v1, st2_v2, st2_arg12, st2_arg13, st2_arg11, st2_v3,
    st1_v5, st1_v0, st1_v1, st1_v2, st1_v3, st1_arg4, st1_arg5, st1_arg10, st1_arg11, st1_arg12, st1_arg13]
  rfl

theorem all_arg0 (V : Valuation τ sig (Elt F)) : after allOps V (Proc.devRef .tc main_arg0) = V (Proc.devRef .tc main_arg0) := by
  simp only [allOps, after_app]; rw [st6_arg0, st5_arg0, st4_arg0, st3_arg0, st2_arg0, st1_arg0]
theorem all_arg1 (V : Valuation τ sig (Elt F)) : after allOps V (Proc.devRef .tc main_arg1) = V (Proc.devRef .tc main_arg1) := by
  simp only [allOps, after_app]; rw [st6_arg1, st5_arg1, st4_arg1, st3_arg1, st2_arg1, st1_arg1]
theorem all_arg2 (V : Valuation τ sig (Elt F)) : after allOps V (Proc.devRef .tc main_arg2) = V (Proc.devRef .tc main_arg2) := by
  simp only [allOps, after_app]; rw [st6_arg2, st5_arg2, st4_arg2, st3_arg2, st2_arg2, st1_arg2]
theorem all_arg3 (V : Valuation τ sig (Elt F)) : after allOps V (Proc.devRef .tc main_arg3) = V (Proc.devRef .tc main_arg3) := by
  simp only [allOps, after_app]; rw [st6_arg3, st5_arg3, st4_arg3, st3_arg3, st2_arg3, st1_arg3]
theorem all_arg4 (V : Valuation τ sig (Elt F)) : after allOps V (Proc.devRef .tc main_arg4) = V (Proc.devRef .tc main_arg4) := by
  simp only [allOps, after_app]; rw [st6_arg4, st5_arg4, st4_arg4, st3_arg4, st2_arg4, st1_arg4]
theorem all_arg5 (V : Valuation τ sig (Elt F)) : after allOps V (Proc.devRef .tc main_arg5) = V (Proc.devRef .tc main_arg5) := by
  simp only [allOps, after_app]; rw [st6_arg5, st5_arg5, st4_arg5, st3_arg5, st2_arg5, st1_arg5]
theorem all_arg6 (V : Valuation τ sig (Elt F)) : after allOps V (Proc.devRef .tc main_arg6) = V (Proc.devRef .tc main_arg6) := by
  simp only [allOps, after_app]; rw [st6_arg6, st5_arg6, st4_arg6, st3_arg6, st2_arg6, st1_arg6]
theorem all_arg7 (V : Valuation τ sig (Elt F)) : after allOps V (Proc.devRef .tc main_arg7) = V (Proc.devRef .tc main_arg7) := by
  simp only [allOps, after_app]; rw [st6_arg7, st5_arg7, st4_arg7, st3_arg7, st2_arg7, st1_arg7]
theorem all_arg8 (V : Valuation τ sig (Elt F)) : after allOps V (Proc.devRef .tc main_arg8) = V (Proc.devRef .tc main_arg8) := by
  simp only [allOps, after_app]; rw [st6_arg8, st5_arg8, st4_arg8, st3_arg8, st2_arg8, st1_arg8]
theorem all_arg9 (V : Valuation τ sig (Elt F)) : after allOps V (Proc.devRef .tc main_arg9) = V (Proc.devRef .tc main_arg9) := by
  simp only [allOps, after_app]; rw [st6_arg9, st5_arg9, st4_arg9, st3_arg9, st2_arg9, st1_arg9]
theorem all_arg10 (V : Valuation τ sig (Elt F)) : after allOps V (Proc.devRef .tc main_arg10) = V (Proc.devRef .tc main_arg10) := by
  simp only [allOps, after_app]; rw [st6_arg10, st5_arg10, st4_arg10, st3_arg10, st2_arg10, st1_arg10]
theorem all_arg11 (V : Valuation τ sig (Elt F)) : after allOps V (Proc.devRef .tc main_arg11) = V (Proc.devRef .tc main_arg11) := by
  simp only [allOps, after_app]; rw [st6_arg11, st5_arg11, st4_arg11, st3_arg11, st2_arg11, st1_arg11]
theorem all_arg12 (V : Valuation τ sig (Elt F)) : after allOps V (Proc.devRef .tc main_arg12) = V (Proc.devRef .tc main_arg12) := by
  simp only [allOps, after_app]; rw [st6_arg12, st5_arg12, st4_arg12, st3_arg12, st2_arg12, st1_arg12]
theorem all_arg13 (V : Valuation τ sig (Elt F)) : after allOps V (Proc.devRef .tc main_arg13) = V (Proc.devRef .tc main_arg13) := by
  simp only [allOps, after_app]; rw [st6_arg13, st5_arg13, st4_arg13, st3_arg13, st2_arg13, st1_arg13]

theorem allOps_fresh : ∀ op ∈ (allOps : List (HloOp τ sig (Elt F))), op.fresh = ∅ := by
  refine List.forall_iff_forall_mem.mp ?_
  simp only [allOps, List.forall_append]
  refine ⟨?_, ?_, ?_, ?_, ?_, ?_⟩ <;> (simp only [List.Forall]; repeat' apply And.intro) <;> rfl

set_option maxHeartbeats 4000000 in
theorem allOps_sub : (allOps : List (HloOp τ sig (Elt F))).Forall fun op => op.bufs ⊆ tcRefs τ sig := by
  simp only [allOps, List.forall_append]
  refine ⟨?_, ?_, ?_, ?_, ?_, ?_⟩ <;> (simp only [List.Forall]; repeat' apply And.intro) <;>
    first | exact unary_bufs_sub .. | exact binary_bufs_sub .. | exact nullary_bufs_sub .. | exact nary_bufs_sub .. | trivial

set_option maxHeartbeats 4000000 in
/-- Every run of the reference ends with the named term in its result and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = outOf (x1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine θ_run_mono (run_hlo defs (main (F := F)) (ops := allOps) main_stages (by decide) (by decide) allOps_sub
    allOps_fresh m ρ) fun r h c => ?_
  refine ⟨?_, ?_, ?_, ?_, ?_, ?_, ?_, ?_, ?_, ?_, ?_, ?_, ?_, ?_, ?_⟩
  · rw [h c main_v62, all_v62]
  · rw [h c main_arg0, all_arg0]
  · rw [h c main_arg1, all_arg1]
  · rw [h c main_arg2, all_arg2]
  · rw [h c main_arg3, all_arg3]
  · rw [h c main_arg4, all_arg4]
  · rw [h c main_arg5, all_arg5]
  · rw [h c main_arg6, all_arg6]
  · rw [h c main_arg7, all_arg7]
  · rw [h c main_arg8, all_arg8]
  · rw [h c main_arg9, all_arg9]
  · rw [h c main_arg10, all_arg10]
  · rw [h c main_arg11, all_arg11]
  · rw [h c main_arg12, all_arg12]
  · rw [h c main_arg13, all_arg13]

end Cert.Ffn

end
-- ==== Proof.Ffn.RefRows.lean ====
/-
  The second call's reference at ideal, read at a token and a channel: the layer's row.
-/
module

public import proofs.«01_k».proof.Proof.Ffn.RefRun
public import proofs.«01_k».proof.Proof.Ffn.Rows
public import Idealize.ShloMosaic.Lib.Pointwise

@[expose] public section

set_option maxRecDepth 16384

noncomputable section

namespace Cert.Ffn.Ref

open Cert.Reference2Ideal Cert.Reference2Ideal.Gen Idealize.ShloMosaic Idealize.ShloMosaic.TcCoe Idealize.SL.Sem Cert.Ffn

theorem rowOf_at (a : FVec Ideal S2x1024 .f32) (b : Fin 2) (k : Fin 1024) : rowOf a (ix3 b 0 k) = a (ix2 b k) := by
  pointwise [rowOf]

theorem rmsOf_at (y : FVec Ideal S2x16384x1024 .f32) (g : FVec Ideal S1024 .f32) (b : Fin 2) (r : Fin 16384) (l : Fin 1024) :
    rmsOf y g (ix3 b r l) = rmsRow (fun k => y (ix3 b r k)) (fun k => g (ix1 k)) l := by
  pointwise! [rmsOf, rmsRow, cLen, cEps]

theorem resOf_at (x y : FVec Ideal S2x16384x1024 .f32) (g : FVec Ideal S1024 .f32) (gt : FVec Ideal S2x1x1024 .f32) (b : Fin 2) (r : Fin 16384) (l : Fin 1024) :
    resOf x y g gt (ix3 b r l) = resRow (fun k => x (ix3 b r k)) (fun k => y (ix3 b r k)) (fun k => g (ix1 k)) (fun k => gt (ix3 b 0 k)) l := by
  pointwise! [resOf, rmsOf_at, resRow]

theorem hOf_at (x : FVec Ideal S2x16384x1024 .f32) (g : FVec Ideal S1024 .f32) (sc sh : FVec Ideal S2x1x1024 .f32) (b : Fin 2) (r : Fin 16384) (l : Fin 1024) :
    hOf x g sc sh (ix3 b r l) = hRow (fun k => x (ix3 b r k)) (fun k => g (ix1 k)) (fun k => sc (ix3 b 0 k)) (fun k => sh (ix3 b 0 k)) l := by
  pointwise! [hOf, rmsOf_at, hRow]

/-- A sum over the joined channels is the sum over each mixer's. -/
theorem sum_split (f : Fin 1024 → EReal) : ∑ k, f k = (∑ k : Fin 256, f ⟨k, by omega⟩) + (∑ k : Fin 512, f ⟨256 + k, by omega⟩) + ∑ k : Fin 256, f ⟨768 + k, by omega⟩ := by
  have h1 : ∑ k, f k = (∑ k : Fin 768, f ⟨k, by omega⟩) + ∑ k : Fin 256, f ⟨768 + k, by omega⟩ := Fin.sum_univ_add (a := 768) (b := 256) f
  have h2 : (∑ k : Fin 768, f ⟨k, by omega⟩) = (∑ k : Fin 256, f ⟨k, by omega⟩) + ∑ k : Fin 512, f ⟨256 + k, by omega⟩ :=
    Fin.sum_univ_add (a := 256) (b := 512) fun k : Fin 768 => f ⟨k, by omega⟩
  rw [h1, h2]

theorem yOf_at (u0 : FVec Ideal S2x16384x256 .f32) (u1 : FVec Ideal S2x16384x512 .f32) (u2 : FVec Ideal S2x16384x256 .f32) (w : FVec Ideal S1024x1024 .f32)
    (b : Fin 2) (r : Fin 16384) (l : Fin 1024) :
    yOf u0 u1 u2 w (ix3 b r l) = yRow (fun k => u0 (ix3 b r k)) (fun k => u1 (ix3 b r k)) (fun k => u2 (ix3 b r k)) (fun k l => w (ix2 k l)) l := by
  pointwise! [yOf, catOf, yRow]
  rw [sum_split]
  have e2 : ∀ k : Fin 512, ¬ 256 + (k : ℕ) < 256 := fun k => by omega
  have e3 : ∀ k : Fin 512, 256 + (k : ℕ) - 256 < 512 := fun k => by omega
  have e4 : ∀ k : Fin 256, ¬ 768 + (k : ℕ) < 256 := fun k => by omega
  have e5 : ∀ k : Fin 256, ¬ 768 + (k : ℕ) - 256 < 512 := fun k => by omega
  have e6 : ∀ k : Fin 512, 256 + (k : ℕ) - 256 = k := fun k => by omega
  have e7 : ∀ k : Fin 256, 768 + (k : ℕ) - 256 - 512 = k := fun k => by omega
  simp only [e2, e3, e4, e5, e6, e7, dif_pos, dif_neg, not_false_eq_true, Fin.is_lt, Fin.eta]

theorem guOf_at (h : FVec Ideal S2x16384x1024 .f32) (w : FVec Ideal S1024x5632 .f32) (b : Fin 2) (r : Fin 16384) (n : Fin 5632) :
    guOf h w (ix3 b r n) = ∑ k : Fin 1024, h (ix3 b r k) * w (ix2 k n) := by
  pointwise! [guOf]

theorem aOf_at (u : FVec Ideal S2x16384x5632 .f32) (b : Fin 2) (r : Fin 16384) (n : Fin 2816) :
    aOf u (ix3 b r n) = u (ix3 b r ⟨n, by omega⟩) * Ideal.logistic (u (ix3 b r ⟨n, by omega⟩)) * u (ix3 b r ⟨2816 + n, by omega⟩) := by
  pointwise! [aOf, Ideal.logistic]

theorem fOf_at (a : FVec Ideal S2x16384x2816 .f32) (w : FVec Ideal S2816x1024 .f32) (b : Fin 2) (r : Fin 16384) (l : Fin 1024) :
    fOf a w (ix3 b r l) = ∑ n : Fin 2816, a (ix3 b r n) * w (ix2 n l) := by
  pointwise! [fOf]

theorem x1Of_at (u0 : FVec Ideal S2x16384x256 .f32) (u1 : FVec Ideal S2x16384x512 .f32) (u2 : FVec Ideal S2x16384x256 .f32) (w : FVec Ideal S1024x1024 .f32)
    (x : FVec Ideal S2x16384x1024 .f32) (g : FVec Ideal S1024 .f32) (gt : FVec Ideal S2x1024 .f32) (b : Fin 2) (r : Fin 16384) (l : Fin 1024) :
    x1Of u0 u1 u2 w x g gt (ix3 b r l) = x1Row (fun k => u0 (ix3 b r k)) (fun k => u1 (ix3 b r k)) (fun k => u2 (ix3 b r k)) (fun k l => w (ix2 k l))
      (fun k => x (ix3 b r k)) (fun k => g (ix1 k)) (fun k => gt (ix2 b k)) l := by
  simp only [x1Of, resOf_at, yOf_at, rowOf_at, x1Row]

theorem outOf_at (x1 : FVec Ideal S2x16384x1024 .f32) (sc sh gt : FVec Ideal S2x1024 .f32) (gpre gpost : FVec Ideal S1024 .f32)
    (wgu : FVec Ideal S1024x5632 .f32) (wd : FVec Ideal S2816x1024 .f32) (b : Fin 2) (r : Fin 16384) (l : Fin 1024) :
    outOf x1 sc sh gt gpre gpost wgu wd (ix3 b r l) = outRow (fun k => x1 (ix3 b r k)) (fun k => sc (ix2 b k)) (fun k => sh (ix2 b k)) (fun k => gt (ix2 b k))
      (fun k => gpre (ix1 k)) (fun k => gpost (ix1 k)) (fun k n => wgu (ix2 k n)) (fun n l => wd (ix2 n l)) l := by
  simp only [outOf, resOf_at, fOf_at, aOf_at, guOf_at, hOf_at, rowOf_at, outRow, ffRow, actRow]
  rfl

end Cert.Ffn.Ref
-- ==== Proof.Ffn.Final.lean ====
/-
  The second call's kernel at ideal: its output array after the run is the reference's term over the arguments.
-/
module

public import proofs.«01_k».proof.Proof.Ffn.Value
public import proofs.«01_k».proof.Proof.Ffn.RefRows
public import Idealize.ShloMosaic.Lib.Claim

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ Cert.Kernel2Ideal.sig) → Buf (Elt Ideal) ℓ)

/-- The blocks of the grid's points: point `t` is batch entry `t / 16`, rows `t % 16 * 1024` on. -/
theorem idx : ∀ t : Fin cfg0.N, win0_0.index t = ![t.val / 16, 0, 0, t.val % 16, 0] ∧ win0_1.index t = ![t.val / 16, t.val % 16, 0]
    ∧ win0_2.index t = ![t.val / 16, t.val % 16, 0] ∧ win0_3.index t = ![0, 0] ∧ win0_4.index t = ![t.val / 16, t.val % 16, 0]
    ∧ win0_5.index t = ![0, 0] ∧ win0_6.index t = ![t.val / 16, 0, 0] ∧ win0_7.index t = ![t.val / 16, 0, 0] ∧ win0_8.index t = ![t.val / 16, 0, 0]
    ∧ win0_9.index t = ![t.val / 16, 0, 0] ∧ win0_10.index t = ![0, 0] ∧ win0_11.index t = ![0, 0] ∧ win0_12.index t = ![0, 0] ∧ win0_13.index t = ![0, 0]
    ∧ win0_14.index t = ![t.val / 16, t.val % 16, 0] ∧ t.val / 16 < 2 :=
  (by decide +kernel : ∀ t : Fin grid0.N, _)

/-- The batch entry and the row of the array at a point. -/
def bOf (t : Fin cfg0.N) : Fin 2 := ⟨t.val / 16, by have := idx t; omega⟩
def rOf (t : Fin cfg0.N) (r : Fin 1024) : Fin 16384 := ⟨t.val % 16 * 1024 + r, by omega⟩

theorem rd1 (c : Dev nD) (t : Fin cfg0.N) (r : Fin 1024) (k : Fin 512) :
    (iblk m c 1 t : Vec Ideal S1x1024x512 .bf16) (ix3 0 r k) = m ((c : Thread nD τ).loc main_arg1) (ix3 (bOf t) (rOf t r) k) := by
  blk_point [iblk, V, idx t, bOf, rOf]

theorem rd5 (c : Dev nD) (t : Fin cfg0.N) (k : Fin 1024) :
    (iblk m c 5 t : Vec Ideal S1x1024 .f32) (ix2 0 k) = m ((c : Thread nD τ).loc main_arg5) (ix1 k) := by
  blk_point [iblk, V, idx t, bOf, rOf]

theorem rd6 (c : Dev nD) (t : Fin cfg0.N) (k : Fin 1024) :
    (iblk m c 6 t : Vec Ideal S1x1x1024 .f32) (ix3 0 0 k) = m ((c : Thread nD τ).loc main_arg6) (ix2 (bOf t) k) := by
  blk_point [iblk, V, idx t, bOf, rOf]

theorem rd4 (c : Dev nD) (t : Fin cfg0.N) (r : Fin 1024) (k : Fin 1024) :
    (iblk m c 4 t : Vec Ideal S1x1024x1024 .f32) (ix3 0 r k) = m ((c : Thread nD τ).loc main_arg4) (ix3 (bOf t) (rOf t r) k) := by
  blk_point [iblk, V, idx t, bOf, rOf]

theorem rd12 (c : Dev nD) (t : Fin cfg0.N) (k : Fin 1024) (n : Fin 5632) :
    (iblk m c 12 t : Vec Ideal S1024x5632 .bf16) (ix2 k n) = m ((c : Thread nD τ).loc main_arg12) (ix2 k n) := by
  blk_point [iblk, V, idx t, bOf, rOf]

theorem rd2 (c : Dev nD) (t : Fin cfg0.N) (r : Fin 1024) (k : Fin 256) :
    (iblk m c 2 t : Vec Ideal S1x1024x256 .bf16) (ix3 0 r k) = m ((c : Thread nD τ).loc main_arg2) (ix3 (bOf t) (rOf t r) k) := by
  blk_point [iblk, V, idx t, bOf, rOf]

theorem rd3 (c : Dev nD) (t : Fin cfg0.N) (k l : Fin 1024) :
    (iblk m c 3 t : Vec Ideal S1024x1024 .bf16) (ix2 k l) = m ((c : Thread nD τ).loc main_arg3) (ix2 k l) := by
  blk_point [iblk, V, idx t, bOf, rOf]

theorem rd13 (c : Dev nD) (t : Fin cfg0.N) (n : Fin 2816) (l : Fin 1024) :
    (iblk m c 13 t : Vec Ideal S2816x1024 .bf16) (ix2 n l) = m ((c : Thread nD τ).loc main_arg13) (ix2 n l) := by
  blk_point [iblk, V, idx t, bOf, rOf]

theorem rd7 (c : Dev nD) (t : Fin cfg0.N) (k : Fin 1024) :
    (iblk m c 7 t : Vec Ideal S1x1x1024 .f32) (ix3 0 0 k) = m ((c : Thread nD τ).loc main_arg7) (ix2 (bOf t) k) := by
  blk_point [iblk, V, idx t, bOf, rOf]

theorem rd8 (c : Dev nD) (t : Fin cfg0.N) (k : Fin 1024) :
    (iblk m c 8 t : Vec Ideal S1x1x1024 .f32) (ix3 0 0 k) = m ((c : Thread nD τ).loc main_arg8) (ix2 (bOf t) k) := by
  blk_point [iblk, V, idx t, bOf, rOf]

theorem rd9 (c : Dev nD) (t : Fin cfg0.N) (k : Fin 1024) :
    (iblk m c 9 t : Vec Ideal S1x1x1024 .f32) (ix3 0 0 k) = m ((c : Thread nD τ).loc main_arg9) (ix2 (bOf t) k) := by
  blk_point [iblk, V, idx t, bOf, rOf]

theorem rd10 (c : Dev nD) (t : Fin cfg0.N) (k : Fin 1024) :
    (iblk m c 10 t : Vec Ideal S1x1024 .f32) (ix2 0 k) = m ((c : Thread nD τ).loc main_arg10) (ix1 k) := by
  blk_point [iblk, V, idx t, bOf, rOf]

theorem rd11 (c : Dev nD) (t : Fin cfg0.N) (k : Fin 1024) :
    (iblk m c 11 t : Vec Ideal S1x1024 .f32) (ix2 0 k) = m ((c : Thread nD τ).loc main_arg11) (ix1 k) := by
  blk_point [iblk, V, idx t, bOf, rOf]

/-- The host's layout of Hyena's output by groups of eight channels, read at an index. -/
theorem host_at (A : Vec Ideal S2x16384x256 .f32) (b : Fin 2) (g : Fin 32) (h : Fin 2) (u : Fin 512) (v : Fin 128) :
    (shapeCast S2x32x2x512x128 (transpose S2x32x2x64x8x128 [0, 4, 2, 1, 5, 3]
        (shapeCast S2x64x2x128x32x8 A shapeCasts_S2x16384x256_S2x64x2x128x32x8 : Vec Ideal S2x64x2x128x32x8 .f32)
        transposes_S2x64x2x128x32x8_S2x32x2x64x8x128_0_4_2_1_5_3)
      shapeCasts_S2x32x2x64x8x128_S2x32x2x512x128 : Vec Ideal S2x32x2x512x128 .f32) (ix5 b g h u v)
      = A (ix3 b ⟨u / 8 * 256 + h * 128 + v, by omega⟩ ⟨g * 8 + u % 8, by omega⟩) := by
  pointwise

theorem rd0 (c : Dev nD) (t : Fin cfg0.N) (r : Fin 1024) (q : Fin 256) :
    vX (iblk m c 0 t) ⟨q / 8, by omega⟩ ⟨q % 8, by omega⟩ r = m ((c : Thread nD τ).loc main_arg0) (ix3 (bOf t) (rOf t r) q) := by
  unfold vX
  have e : ((cfg0.win 0).blk t).view.emb (ix5 0 ⟨(q : ℕ) / 8, by omega⟩ ⟨(r : ℕ) % 256 / 128, by omega⟩ ⟨(r : ℕ) / 256 * 8 + (q : ℕ) % 8, by omega⟩ ⟨(r : ℕ) % 128, by omega⟩)
      = ix5 (bOf t) ⟨q / 8, by omega⟩ ⟨r % 256 / 128, by omega⟩ ⟨t.val % 16 * 32 + (r / 256 * 8 + q % 8), by omega⟩ ⟨r % 128, by omega⟩ := by
    blk_ext [idx t, bOf]
  blk_simp [iblk]
  entry_read
  refine (congrArg _ e).trans ((host_at (m ((c : Thread nD τ).loc main_arg0)) _ _ _ _ _).trans ?_)
  unfold rOf
  congr 2
  · refine Fin.ext ?_
    show (t.val % 16 * 32 + ((r : ℕ) / 256 * 8 + (q : ℕ) % 8)) / 8 * 256 + (r : ℕ) % 256 / 128 * 128 + (r : ℕ) % 128 = t.val % 16 * 1024 + r
    omega
  · refine Fin.ext ?_
    show (q : ℕ) / 8 * 8 + (t.val % 16 * 32 + ((r : ℕ) / 256 * 8 + (q : ℕ) % 8)) % 8 = q
    omega

set_option maxHeartbeats 1000000 in
/-- The output array after the run is the reference's term over the arguments. -/
theorem final (c : Dev nD) : (dats m 0 c).arrAt 14 cfg0.N
    = outOf (F := Ideal) (x1Of (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)))
      (m ((c : Thread nD τ).loc main_arg7)) (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  idx_vars y
  obtain rfl : y0 = 0 := Subsingleton.elim _ _
  refine (after_at m c t y1 y2).trans ?_
  have e : ((cfg0.win 14).blk t).view.emb (ix3 0 y1 y2) = ix3 (bOf t) (rOf t y1) y2 := by
    blk_ext [idx t, bOf, rOf]
  refine Eq.trans ?_ (congrArg _ e).symm
  refine Eq.trans ?_ (Ref.outOf_at _ _ _ _ _ _ _ _ (bOf t) (rOf t y1) y2).symm
  simp only [Ref.x1Of_at]
  unfold blkRow
  simp only [rd0, rd1, rd2, rd3, rd4, rd5, rd6, rd7, rd8, rd9, rd10, rd11, rd12, rd13]

end Cert.Ffn
-- ==== Proof.Ffn.Claims.lean ====
/- The claims about the output projection with the feed-forward. -/
module

public import proofs.«01_k».proof.Defs
public import proofs.«01_k».proof.Proof.Gen.Kernel2.Frame
public import proofs.«01_k».proof.Proof.Gen.Kernel2Ideal.Value
public import proofs.«01_k».proof.Proof.Gen.Reference2Ideal
public import proofs.«01_k».proof.Proof.Ffn.Final
public import Idealize.ShloMosaic.Adequacy
public import Idealize.ShloMosaic.Init

@[expose] public section

set_option maxRecDepth 16384

noncomputable section

namespace Cert.Ffn.Claims

open Idealize.ShloMosaic Idealize.ShloMosaic.TcCoe Idealize.SL.Sem

/-- The kernel at bits leaves its arguments and its counters. -/
theorem frame_k : Cert.quiescent_Kernel2 (hKernel2 := Cert.Kernel2.Gen.facts) := fun m g _ => Cert.Kernel2.Gen.frame m g

/-- The kernel at the reals leaves its arguments and its counters. -/
theorem frame_ki : Cert.quiescent_Kernel2Ideal (hKernel2Ideal := Cert.Kernel2Ideal.Gen.facts) := fun m g _ => Cert.Kernel2Ideal.Gen.frame m g

/-- The reference at the reals leaves its arguments; it has no counters. -/
theorem frame_ri : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Ffn.run (F := Ideal) m g)

/-- The kernel computes the reference. -/
theorem value : Cert.algebraic_Kernel2Ideal_Reference2Ideal (hKernel2Ideal := Cert.Kernel2Ideal.Gen.facts)
    (hReference2Ideal := Cert.Reference2Ideal.Gen.facts) := by
  intro m g m' g' _ hagree
  refine ⟨_, Cert.Kernel2Ideal.Value.run_blocks m g, θ_run_mono (Cert.Ffn.run (F := Ideal) m' g') fun r h c => ?_⟩
  obtain ⟨e0, e1, e2, e3, e4, e5, e6, e7, e8, e9, e10, e11, e12, e13⟩ := hagree c
  refine ⟨(h c).1.trans ?_, (h c).2⟩
  rw [e0, e1, e2, e3, e4, e5, e6, e7, e8, e9, e10, e11, e12, e13]
  exact (Cert.Ffn.final m c).symm

end Cert.Ffn.Claims
-- ==== Proof.Inp.RefRun.lean ====
/-
  The run of the input projection's reference: four stages of host operations, the projection, the Hyena's convolution,
  the other parts of its result and the recurrence's convolution, and what they leave in the results as named functions of the arguments.
-/
module

public import proofs.«01_k».proof.Proof.Gen.Reference3Ideal
public import Idealize.ShloMosaic.Lib.Claim
public import Idealize.ShloMosaic.Lib.Pointwise

@[expose] public section

set_option maxRecDepth 16384

noncomputable section

namespace Cert.Inp

open Cert.Reference3Ideal Cert.Reference3Ideal.Gen Idealize.ShloMosaic Idealize.ShloMosaic.TcCoe Idealize.SL.Sem Idealize.ShloMosaic.StableHlo

variable {F : FTy → Type} [FloatOps F]

/-- A row vector of each batch entry as an array with a unit row axis. -/
def rowOf (a : FVec F S2x1024 .f32) : FVec F S2x1x1024 .f32 := broadcastInDim S2x1x1024 ![0, 2] bcast_S2x1024_S2x1x1024_0_2 a

/-- Root mean square normalisation of every row, with a gain per channel. -/
def rmsOf (y : FVec F S2x16384x1024 .f32) (g : FVec F S1024 .f32) : FVec F S2x16384x1024 .f32 :=
  mulf (mulf y (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf y y) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The projection's input: normalised, scaled and shifted. -/
def hOf (x : FVec F S2x16384x1024 .f32) (g : FVec F S1024 .f32) (sc sh : FVec F S2x1024 .f32) : FVec F S2x16384x1024 .f32 :=
  addf (mulf (rmsOf x g) (broadcastInDim S2x16384x1024 ![0, 1, 2] bcast_S2x1x1024_S2x16384x1024_0_1_2 (addf (broadcastInDim S2x1x1024 ![] bcast_S_S2x1x1024 (constant S_ .f32 0x3F800000#32)) (rowOf sc))))
    (broadcastInDim S2x16384x1024 ![0, 1, 2] bcast_S2x1x1024_S2x16384x1024_0_1_2 (rowOf sh))

/-- The projection. -/
def pOf (x : FVec F S2x16384x1024 .f32) (g : FVec F S1024 .f32) (sc sh : FVec F S2x1024 .f32) (w : FVec F S1024x2816 .f32) : FVec F S2x16384x2816 .f32 :=
  Host.dotGeneral dot_S2x16384x1024_S1024x2816_S2x16384x2816_2_0_01_1_n_n none (hOf x g sc sh) w

/-- The attention's columns of the projection, and of them the queries with the scores' factor, the keys and the values. -/
def qkvOf (p : FVec F S2x16384x2816 .f32) : FVec F S2x16384x1536 .f32 := extractStridedSlice S2x16384x1536 ![0, 0, 768] p slices_S2x16384x2816_S2x16384x1536_0_0_768
def qOf (p : FVec F S2x16384x2816 .f32) : FVec F S2x16384x512 .f32 :=
  mulf (extractStridedSlice S2x16384x512 ![0, 0, 0] (qkvOf p) slices_S2x16384x1536_S2x16384x512_0_0_0) (broadcastInDim S2x16384x512 ![] bcast_S_S2x16384x512 (constant S_ .f32 0x3E38AA3B#32))
def kOf (p : FVec F S2x16384x2816 .f32) : FVec F S2x16384x512 .f32 := extractStridedSlice S2x16384x512 ![0, 0, 512] (qkvOf p) slices_S2x16384x1536_S2x16384x512_0_0_512
def vOf (p : FVec F S2x16384x2816 .f32) : FVec F S2x16384x512 .f32 := extractStridedSlice S2x16384x512 ![0, 0, 1024] (qkvOf p) slices_S2x16384x1536_S2x16384x512_0_0_1024

/-- The gate of the recurrence. -/
def lgOf (p : FVec F S2x16384x2816 .f32) : FVec F S2x16384x256 .f32 :=
  extractStridedSlice S2x16384x256 ![0, 0, 256] (extractStridedSlice S2x16384x512 ![0, 0, 2304] p slices_S2x16384x2816_S2x16384x512_0_0_2304) slices_S2x16384x512_S2x16384x256_0_0_256

/-- The recurrence's columns of the projection. -/
def xrOf (p : FVec F S2x16384x2816 .f32) : FVec F S2x16384x256 .f32 :=
  extractStridedSlice S2x16384x256 ![0, 0, 0] (extractStridedSlice S2x16384x512 ![0, 0, 2304] p slices_S2x16384x2816_S2x16384x512_0_0_2304) slices_S2x16384x512_S2x16384x256_0_0_0

/-- Them with two rows of zeros before and one behind. -/
def padOf (x : FVec F S2x16384x256 .f32) : FVec F S2x16387x256 .f32 :=
  pad S2x16387x256 ![0, 2, 0] ![0, 1, 0] ![0, 0, 0] x (sitofp .f32 (constantI S_ 32 0#32)) pads_S2x16384x256_S2x16387x256_000_210_000 h_S_

/-- A row of coefficients for every token. -/
def chanOf (a : FVec F S256 .f32) : FVec F S2x16384x256 .f32 :=
  broadcastInDim S2x16384x256 ![0, 1, 2] bcast_S1x1x256_S2x16384x256_0_1_2 (broadcastInDim S1x1x256 ![2] bcast_S256_S1x1x256_2 a)

/-- The recurrence's input: its columns, convolved along the sequence over four tokens. -/
def luOf (x : FVec F S2x16384x256 .f32) (w : FVec F S4x256 .f32) (b : FVec F S256 .f32) : FVec F S2x16384x256 .f32 :=
  addf (addf (addf (addf (chanOf b)
    (mulf (chanOf (shapeCast S256 (extractStridedSlice S1x256 ![0, 0] w slices_S4x256_S1x256_0_0) shapeCasts_S1x256_S256)) (extractStridedSlice S2x16384x256 ![0, 0, 0] (padOf x) slices_S2x16387x256_S2x16384x256_0_0_0)))
    (mulf (chanOf (shapeCast S256 (extractStridedSlice S1x256 ![1, 0] w slices_S4x256_S1x256_1_0) shapeCasts_S1x256_S256)) (extractStridedSlice S2x16384x256 ![0, 1, 0] (padOf x) slices_S2x16387x256_S2x16384x256_0_1_0)))
    (mulf (chanOf (shapeCast S256 (extractStridedSlice S1x256 ![2, 0] w slices_S4x256_S1x256_2_0) shapeCasts_S1x256_S256)) (extractStridedSlice S2x16384x256 ![0, 2, 0] (padOf x) slices_S2x16387x256_S2x16384x256_0_2_0)))
    (mulf (chanOf (shapeCast S256 (extractStridedSlice S1x256 ![3, 0] w slices_S4x256_S1x256_3_0) shapeCasts_S1x256_S256)) (extractStridedSlice S2x16384x256 ![0, 3, 0] (padOf x) slices_S2x16387x256_S2x16384x256_0_3_0))

/-- The Hyena's columns of the projection, with a row of zeros before and one behind. -/
def hcOf (p : FVec F S2x16384x2816 .f32) : FVec F S2x16384x768 .f32 := extractStridedSlice S2x16384x768 ![0, 0, 0] p slices_S2x16384x2816_S2x16384x768_0_0_0
def padHOf (x : FVec F S2x16384x768 .f32) : FVec F S2x16386x768 .f32 :=
  pad S2x16386x768 ![0, 1, 0] ![0, 1, 0] ![0, 0, 0] x (sitofp .f32 (constantI S_ 32 0#32)) pads_S2x16384x768_S2x16386x768_000_110_000 h_S_

/-- A row of coefficients for every token, over the Hyena's columns. -/
def chanHOf (a : FVec F S768 .f32) : FVec F S2x16384x768 .f32 :=
  broadcastInDim S2x16384x768 ![0, 1, 2] bcast_S1x1x768_S2x16384x768_0_1_2 (broadcastInDim S1x1x768 ![2] bcast_S768_S1x1x768_2 a)

/-- The Hyena's columns, convolved along the sequence over three tokens, and its three streams. -/
def uOf (x : FVec F S2x16384x768 .f32) (w : FVec F S3x768 .f32) (b : FVec F S768 .f32) : FVec F S2x16384x768 .f32 :=
  addf (addf (addf (chanHOf b)
    (mulf (chanHOf (shapeCast S768 (extractStridedSlice S1x768 ![0, 0] w slices_S3x768_S1x768_0_0) shapeCasts_S1x768_S768)) (extractStridedSlice S2x16384x768 ![0, 0, 0] (padHOf x) slices_S2x16386x768_S2x16384x768_0_0_0)))
    (mulf (chanHOf (shapeCast S768 (extractStridedSlice S1x768 ![1, 0] w slices_S3x768_S1x768_1_0) shapeCasts_S1x768_S768)) (extractStridedSlice S2x16384x768 ![0, 1, 0] (padHOf x) slices_S2x16386x768_S2x16384x768_0_1_0)))
    (mulf (chanHOf (shapeCast S768 (extractStridedSlice S1x768 ![2, 0] w slices_S3x768_S1x768_2_0) shapeCasts_S1x768_S768)) (extractStridedSlice S2x16384x768 ![0, 2, 0] (padHOf x) slices_S2x16386x768_S2x16384x768_0_2_0))
def hy0Of (u : FVec F S2x16384x768 .f32) : FVec F S2x16384x256 .f32 := extractStridedSlice S2x16384x256 ![0, 0, 0] u slices_S2x16384x768_S2x16384x256_0_0_0
def hy1Of (u : FVec F S2x16384x768 .f32) : FVec F S2x16384x256 .f32 := extractStridedSlice S2x16384x256 ![0, 0, 256] u slices_S2x16384x768_S2x16384x256_0_0_256
def hy2Of (u : FVec F S2x16384x768 .f32) : FVec F S2x16384x256 .f32 := extractStridedSlice S2x16384x256 ![0, 0, 512] u slices_S2x16384x768_S2x16384x256_0_0_512

/-- The host operations of the projection. -/
abbrev st1 : List (HloOp τ sig (Elt F)) :=
  [ binary main_arg0 main_arg0 main_v0 (mulf : (⟨S2x16384x1024, .f32⟩ : BufTy).Contents (Elt F) → (⟨S2x16384x1024, .f32⟩ : BufTy).Contents (Elt F) → (⟨S2x16384x1024, .f32⟩ : BufTy).Contents (Elt F)),
    nullary main_cst (constant S_ .f32 0x00000000#32),
    binary main_v0 main_cst main_v1 ((fun x v => Host.reduceAdd x v reducesTo_S2x16384x1024_S2x16384_d2 h_S_) : (⟨S2x16384x1024, .f32⟩ : BufTy).Contents (Elt F) → (⟨S_, .f32⟩ : BufTy).Contents (Elt F) → (⟨S2x16384, .f32⟩ : BufTy).Contents (Elt F)),
    unary main_v1 main_v2 (broadcastInDim S2x16384x1 ![0, 1] bcast_S2x16384_S2x16384x1_0_1 : (⟨S2x16384, .f32⟩ : BufTy).Contents (Elt F) → (⟨S2x16384x1, .f32⟩ : BufTy).Contents (Elt F)),
    nullary main_cst_0 (constant S_ .f32 0x44800000#32),
    unary main_cst_0 main_v3 (broadcastInDim S2x16384x1 ![] bcast_S_S2x16384x1 : (⟨S_, .f32⟩ : BufTy).Contents (Elt F) → (⟨S2x16384x1, .f32⟩ : BufTy).Contents (Elt F)),
    binary main_v2 main_v3 main_v4 (Host.divf : (⟨S2x16384x1, .f32⟩ : BufTy).Contents (Elt F) → (⟨S2x16384x1, .f32⟩ : BufTy).Contents (Elt F) → (⟨S2x16384x1, .f32⟩ : BufTy).Contents (Elt F)),
    nullary main_cst_1 (constant S_ .f32 0x358637BD#32),
    unary main_cst_1 main_v5 (broadcastInDim S2x16384x1 ![] bcast_S_S2x16384x1 : (⟨S_, .f32⟩ : BufTy).Contents (Elt F) → (⟨S2x16384x1, .f32⟩ : BufTy).Contents (Elt F)),
    binary main_v4 main_v5 main_v6 (addf : (⟨S2x16384x1, .f32⟩ : BufTy).Contents (Elt F) → (⟨S2x16384x1, .f32⟩ : BufTy).Contents (Elt F) → (⟨S2x16384x1, .f32⟩ : BufTy).Contents (Elt F)),
    unary main_v6 main_v7 (Host.rsqrt : (⟨S2x16384x1, .f32⟩ : BufTy).Contents (Elt F) → (⟨S2x16384x1, .f32⟩ : BufTy).Contents (Elt F)),
    unary main_v7 main_v8 (broadcastInDim S2x16384x1024 ![0, 1, 2] bcast_S2x16384x1_S2x16384x1024_0_1_2 : (⟨S2x16384x1, .f32⟩ : BufTy).Contents (Elt F) → (⟨S2x16384x1024, .f32⟩ : BufTy).Contents (Elt F)),
    binary main_arg0 main_v8 main_v9 (mulf : (⟨S2x16384x1024, .f32⟩ : BufTy).Contents (Elt F) → (⟨S2x16384x1024, .f32⟩ : BufTy).Contents (Elt F) → (⟨S2x16384x1024, .f32⟩ : BufTy).Contents (Elt F)),
    unary main_arg1 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S2x16384x1024 ![0, 1, 2] bcast_S1x1x1024_S2x16384x1024_0_1_2 : (⟨S1x1x1024, .f32⟩ : BufTy).Contents (Elt F) → (⟨S2x16384x1024, .f32⟩ : BufTy).Contents (Elt F)),
    binary main_v9 main_v11 main_v12 (mulf : (⟨S2x16384x1024, .f32⟩ : BufTy).Contents (Elt F) → (⟨S2x16384x1024, .f32⟩ : BufTy).Contents (Elt F) → (⟨S2x16384x1024, .f32⟩ : BufTy).Contents (Elt F)),
    unary main_arg2 main_v13 (broadcastInDim S2x1x1024 ![0, 2] bcast_S2x1024_S2x1x1024_0_2 : (⟨S2x1024, .f32⟩ : BufTy).Contents (Elt F) → (⟨S2x1x1024, .f32⟩ : BufTy).Contents (Elt F)),
    nullary main_cst_2 (constant S_ .f32 0x3F800000#32),
    unary main_cst_2 main_v14 (broadcastInDim S2x1x1024 ![] bcast_S_S2x1x1024 : (⟨S_, .f32⟩ : BufTy).Contents (Elt F) → (⟨S2x1x1024, .f32⟩ : BufTy).Contents (Elt F)),
    binary main_v14 main_v13 main_v15 (addf : (⟨S2x1x1024, .f32⟩ : BufTy).Contents (Elt F) → (⟨S2x1x1024, .f32⟩ : BufTy).Contents (Elt F) → (⟨S2x1x1024, .f32⟩ : BufTy).Contents (Elt F)),
    unary main_v15 main_v16 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v12 main_v16 main_v17 (mulf : (⟨S2x16384x1024, .f32⟩ : BufTy).Contents (Elt F) → (⟨S2x16384x1024, .f32⟩ : BufTy).Contents (Elt F) → (⟨S2x16384x1024, .f32⟩ : BufTy).Contents (Elt F)),
    unary main_arg3 main_v18 (broadcastInDim S2x1x1024 ![0, 2] bcast_S2x1024_S2x1x1024_0_2 : (⟨S2x1024, .f32⟩ : BufTy).Contents (Elt F) → (⟨S2x1x1024, .f32⟩ : BufTy).Contents (Elt F)),
    unary main_v18 main_v19 (broadcastInDim S2x16384x1024 ![0, 1, 2] bcast_S2x1x1024_S2x16384x1024_0_1_2 : (⟨S2x1x1024, .f32⟩ : BufTy).Contents (Elt F) → (⟨S2x16384x1024, .f32⟩ : BufTy).Contents (Elt F)),
    binary main_v17 main_v19 main_v20 (addf : (⟨S2x16384x1024, .f32⟩ : BufTy).Contents (Elt F) → (⟨S2x16384x1024, .f32⟩ : BufTy).Contents (Elt F) → (⟨S2x16384x1024, .f32⟩ : BufTy).Contents (Elt F)),
    binary main_v20 main_arg4 main_v21 ((fun l r => Host.dotGeneral dot_S2x16384x1024_S1024x2816_S2x16384x2816_2_0_01_1_n_n none l r) : (⟨S2x16384x1024, .f32⟩ : BufTy).Contents (Elt F) → (⟨S1024x2816, .f32⟩ : BufTy).Contents (Elt F) → (⟨S2x16384x2816, .f32⟩ : BufTy).Contents (Elt F)) ]

/-- The host operations of the Hyena's convolution. -/
abbrev stH : List (HloOp τ sig (Elt F)) :=
  [ unary main_v21 main_v22 ((extractStridedSlice S2x16384x768 ![0, 0, 0] · slices_S2x16384x2816_S2x16384x768_0_0_0) : (⟨S2x16384x2816, .f32⟩ : BufTy).Contents (Elt F) → (⟨S2x16384x768, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x16384x768, .f32⟩) main_v22) (TRef.of (T := ⟨S_, .f32⟩) main_call0_v0) (TRef.of (T := ⟨S2x16386x768, .f32⟩) main_v23) (fun x v => pad S2x16386x768 ![0, 1, 0] ![0, 1, 0] ![0, 0, 0] x v pads_S2x16384x768_S2x16386x768_000_110_000 h_S_),
    unary main_arg5 main_v24 ((extractStridedSlice S1x768 ![0, 0] · slices_S3x768_S1x768_0_0) : (⟨S3x768, .f32⟩ : BufTy).Contents (Elt F) → (⟨S1x768, .f32⟩ : BufTy).Contents (Elt F)),
    reshape main_v24 main_v25 (rfl : (.f32 : EltTy) = .f32) shapeCasts_S1x768_S768,
    unary main_v23 main_v26 ((extractStridedSlice S2x16384x768 ![0, 0, 0] · slices_S2x16386x768_S2x16384x768_0_0_0) : (⟨S2x16386x768, .f32⟩ : BufTy).Contents (Elt F) → (⟨S2x16384x768, .f32⟩ : BufTy).Contents (Elt F)),
    unary main_v25 main_v27 (broadcastInDim S1x1x768 ![2] bcast_S768_S1x1x768_2 : (⟨S768, .f32⟩ : BufTy).Contents (Elt F) → (⟨S1x1x768, .f32⟩ : BufTy).Contents (Elt F)),
    unary main_v27 main_v28 (broadcastInDim S2x16384x768 ![0, 1, 2] bcast_S1x1x768_S2x16384x768_0_1_2 : (⟨S1x1x768, .f32⟩ : BufTy).Contents (Elt F) → (⟨S2x16384x768, .f32⟩ : BufTy).Contents (Elt F)),
    binary main_v28 main_v26 main_v29 (mulf : (⟨S2x16384x768, .f32⟩ : BufTy).Contents (Elt F) → (⟨S2x16384x768, .f32⟩ : BufTy).Contents (Elt F) → (⟨S2x16384x768, .f32⟩ : BufTy).Contents (Elt F)),
    unary main_arg6 main_v30 (broadcastInDim S1x1x768 ![2] bcast_S768_S1x1x768_2 : (⟨S768, .f32⟩ : BufTy).Contents (Elt F) → (⟨S1x1x768, .f32⟩ : BufTy).Contents (Elt F)),
    unary main_v30 main_v31 (broadcastInDim S2x16384x768 ![0, 1, 2] bcast_S1x1x768_S2x16384x768_0_1_2 : (⟨S1x1x768, .f32⟩ : BufTy).Contents (Elt F) → (⟨S2x16384x768, .f32⟩ : BufTy).Contents (Elt F)),
    binary main_v31 main_v29 main_v32 (addf : (⟨S2x16384x768, .f32⟩ : BufTy).Contents (Elt F) → (⟨S2x16384x768, .f32⟩ : BufTy).Contents (Elt F) → (⟨S2x16384x768, .f32⟩ : BufTy).Contents (Elt F)),
    unary main_arg5 main_v33 ((extractStridedSlice S1x768 ![1, 0] · slices_S3x768_S1x768_1_0) : (⟨S3x768, .f32⟩ : BufTy).Contents (Elt F) → (⟨S1x768, .f32⟩ : BufTy).Contents (Elt F)),
    reshape main_v33 main_v34 (rfl : (.f32 : EltTy) = .f32) shapeCasts_S1x768_S768,
    unary main_v23 main_v35 ((extractStridedSlice S2x16384x768 ![0, 1, 0] · slices_S2x16386x768_S2x16384x768_0_1_0) : (⟨S2x16386x768, .f32⟩ : BufTy).Contents (Elt F) → (⟨S2x16384x768, .f32⟩ : BufTy).Contents (Elt F)),
    unary main_v34 main_v36 (broadcastInDim S1x1x768 ![2] bcast_S768_S1x1x768_2 : (⟨S768, .f32⟩ : BufTy).Contents (Elt F) → (⟨S1x1x768, .f32⟩ : BufTy).Contents (Elt F)),
    unary main_v36 main_v37 (broadcastInDim S2x16384x768 ![0, 1, 2] bcast_S1x1x768_S2x16384x768_0_1_2 : (⟨S1x1x768, .f32⟩ : BufTy).Contents (Elt F) → (⟨S2x16384x768, .f32⟩ : BufTy).Contents (Elt F)),
    binary main_v37 main_v35 main_v38 (mulf : (⟨S2x16384x768, .f32⟩ : BufTy).Contents (Elt F) → (⟨S2x16384x768, .f32⟩ : BufTy).Contents (Elt F) → (⟨S2x16384x768, .f32⟩ : BufTy).Contents (Elt F)),
    binary main_v32 main_v38 main_v39 (addf : (⟨S2x16384x768, .f32⟩ : BufTy).Contents (Elt F) → (⟨S2x16384x768, .f32⟩ : BufTy).Contents (Elt F) → (⟨S2x16384x768, .f32⟩ : BufTy).Contents (Elt F)),
    unary main_arg5 main_v40 ((extractStridedSlice S1x768 ![2, 0] · slices_S3x768_S1x768_2_0) : (⟨S3x768, .f32⟩ : BufTy).Contents (Elt F) → (⟨S1x768, .f32⟩ : BufTy).Contents (Elt F)),
    reshape main_v40 main_v41 (rfl : (.f32 : EltTy) = .f32) shapeCasts_S1x768_S768,
    unary main_v23 main_v42 ((extractStridedSlice S2x16384x768 ![0, 2, 0] · slices_S2x16386x768_S2x16384x768_0_2_0) : (⟨S2x16386x768, .f32⟩ : BufTy).Contents (Elt F) → (⟨S2x16384x768, .f32⟩ : BufTy).Contents (Elt F)),
    unary main_v41 main_v43 (broadcastInDim S1x1x768 ![2] bcast_S768_S1x1x768_2 : (⟨S768, .f32⟩ : BufTy).Contents (Elt F) → (⟨S1x1x768, .f32⟩ : BufTy).Contents (Elt F)),
    unary main_v43 main_v44 (broadcastInDim S2x16384x768 ![0, 1, 2] bcast_S1x1x768_S2x16384x768_0_1_2 : (⟨S1x1x768, .f32⟩ : BufTy).Contents (Elt F) → (⟨S2x16384x768, .f32⟩ : BufTy).Contents (Elt F)),
    binary main_v44 main_v42 main_v45 (mulf : (⟨S2x16384x768, .f32⟩ : BufTy).Contents (Elt F) → (⟨S2x16384x768, .f32⟩ : BufTy).Contents (Elt F) → (⟨S2x16384x768, .f32⟩ : BufTy).Contents (Elt F)),
    binary main_v39 main_v45 main_v46 (addf : (⟨S2x16384x768, .f32⟩ : BufTy).Contents (Elt F) → (⟨S2x16384x768, .f32⟩ : BufTy).Contents (Elt F) → (⟨S2x16384x768, .f32⟩ : BufTy).Contents (Elt F)),
    unary main_v46 main_v47 ((extractStridedSlice S2x16384x256 ![0, 0, 0] · slices_S2x16384x768_S2x16384x256_0_0_0) : (⟨S2x16384x768, .f32⟩ : BufTy).Contents (Elt F) → (⟨S2x16384x256, .f32⟩ : BufTy).Contents (Elt F)),
    unary main_v46 main_v48 ((extractStridedSlice S2x16384x256 ![0, 0, 256] · slices_S2x16384x768_S2x16384x256_0_0_256) : (⟨S2x16384x768, .f32⟩ : BufTy).Contents (Elt F) → (⟨S2x16384x256, .f32⟩ : BufTy).Contents (Elt F)),
    unary main_v46 main_v49 ((extractStridedSlice S2x16384x256 ![0, 0, 512] · slices_S2x16384x768_S2x16384x256_0_0_512) : (⟨S2x16384x768, .f32⟩ : BufTy).Contents (Elt F) → (⟨S2x16384x256, .f32⟩ : BufTy).Contents (Elt F)) ]

/-- The host operations of the parts. -/
abbrev st2 : List (HloOp τ sig (Elt F)) :=
  [ unary main_v21 main_v50 ((extractStridedSlice S2x16384x1536 ![0, 0, 768] · slices_S2x16384x2816_S2x16384x1536_0_0_768) : (⟨S2x16384x2816, .f32⟩ : BufTy).Contents (Elt F) → (⟨S2x16384x1536, .f32⟩ : BufTy).Contents (Elt F)),
    unary main_v50 main_v51 ((extractStridedSlice S2x16384x512 ![0, 0, 0] · slices_S2x16384x1536_S2x16384x512_0_0_0) : (⟨S2x16384x1536, .f32⟩ : BufTy).Contents (Elt F) → (⟨S2x16384x512, .f32⟩ : BufTy).Contents (Elt F)),
    unary main_v50 main_v52 ((extractStridedSlice S2x16384x512 ![0, 0, 512] · slices_S2x16384x1536_S2x16384x512_0_0_512) : (⟨S2x16384x1536, .f32⟩ : BufTy).Contents (Elt F) → (⟨S2x16384x512, .f32⟩ : BufTy).Contents (Elt F)),
    unary main_v50 main_v53 ((extractStridedSlice S2x16384x512 ![0, 0, 1024] · slices_S2x16384x1536_S2x16384x512_0_0_1024) : (⟨S2x16384x1536, .f32⟩ : BufTy).Contents (Elt F) → (⟨S2x16384x512, .f32⟩ : BufTy).Contents (Elt F)),
    unary main_v21 main_v54 ((extractStridedSlice S2x16384x512 ![0, 0, 2304] · slices_S2x16384x2816_S2x16384x512_0_0_2304) : (⟨S2x16384x2816, .f32⟩ : BufTy).Contents (Elt F) → (⟨S2x16384x512, .f32⟩ : BufTy).Contents (Elt F)),
    unary main_v54 main_v55 ((extractStridedSlice S2x16384x256 ![0, 0, 0] · slices_S2x16384x512_S2x16384x256_0_0_0) : (⟨S2x16384x512, .f32⟩ : BufTy).Contents (Elt F) → (⟨S2x16384x256, .f32⟩ : BufTy).Contents (Elt F)),
    unary main_v54 main_v56 ((extractStridedSlice S2x16384x256 ![0, 0, 256] · slices_S2x16384x512_S2x16384x256_0_0_256) : (⟨S2x16384x512, .f32⟩ : BufTy).Contents (Elt F) → (⟨S2x16384x256, .f32⟩ : BufTy).Contents (Elt F)),
    nullary main_cst_3 (constant S_ .f32 0x3E38AA3B#32),
    unary main_cst_3 main_v57 (broadcastInDim S2x16384x512 ![] bcast_S_S2x16384x512 : (⟨S_, .f32⟩ : BufTy).Contents (Elt F) → (⟨S2x16384x512, .f32⟩ : BufTy).Contents (Elt F)),
    binary main_v51 main_v57 main_v58 (mulf : (⟨S2x16384x512, .f32⟩ : BufTy).Contents (Elt F) → (⟨S2x16384x512, .f32⟩ : BufTy).Contents (Elt F) → (⟨S2x16384x512, .f32⟩ : BufTy).Contents (Elt F)) ]

/-- The host operations of the recurrence's convolution. -/
abbrev st3 : List (HloOp τ sig (Elt F)) :=
  [ nullary main_c_4 (constantI S_ 32 0#32),
    TRef.unary (TRef.of (T := ⟨S_, .i32⟩) main_c_4) (TRef.of (T := ⟨S_, .f32⟩) main_call1_v0) (sitofp .f32),
    TRef.binary (TRef.of (T := ⟨S2x16384x256, .f32⟩) main_v55) (TRef.of (T := ⟨S_, .f32⟩) main_call1_v0) (TRef.of (T := ⟨S2x16387x256, .f32⟩) main_v59) (fun x v => pad S2x16387x256 ![0, 2, 0] ![0, 1, 0] ![0, 0, 0] x v pads_S2x16384x256_S2x16387x256_000_210_000 h_S_),
    unary main_arg7 main_v60 ((extractStridedSlice S1x256 ![0, 0] · slices_S4x256_S1x256_0_0) : (⟨S4x256, .f32⟩ : BufTy).Contents (Elt F) → (⟨S1x256, .f32⟩ : BufTy).Contents (Elt F)),
    reshape main_v60 main_v61 (rfl : (.f32 : EltTy) = .f32) shapeCasts_S1x256_S256,
    unary main_v59 main_v62 ((extractStridedSlice S2x16384x256 ![0, 0, 0] · slices_S2x16387x256_S2x16384x256_0_0_0) : (⟨S2x16387x256, .f32⟩ : BufTy).Contents (Elt F) → (⟨S2x16384x256, .f32⟩ : BufTy).Contents (Elt F)),
    unary main_v61 main_v63 (broadcastInDim S1x1x256 ![2] bcast_S256_S1x1x256_2 : (⟨S256, .f32⟩ : BufTy).Contents (Elt F) → (⟨S1x1x256, .f32⟩ : BufTy).Contents (Elt F)),
    unary main_v63 main_v64 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v64 main_v62 main_v65 (mulf : (⟨S2x16384x256, .f32⟩ : BufTy).Contents (Elt F) → (⟨S2x16384x256, .f32⟩ : BufTy).Contents (Elt F) → (⟨S2x16384x256, .f32⟩ : BufTy).Contents (Elt F)),
    unary main_arg8 main_v66 (broadcastInDim S1x1x256 ![2] bcast_S256_S1x1x256_2 : (⟨S256, .f32⟩ : BufTy).Contents (Elt F) → (⟨S1x1x256, .f32⟩ : BufTy).Contents (Elt F)),
    unary main_v66 main_v67 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v67 main_v65 main_v68 (addf : (⟨S2x16384x256, .f32⟩ : BufTy).Contents (Elt F) → (⟨S2x16384x256, .f32⟩ : BufTy).Contents (Elt F) → (⟨S2x16384x256, .f32⟩ : BufTy).Contents (Elt F)),
    unary main_arg7 main_v69 ((extractStridedSlice S1x256 ![1, 0] · slices_S4x256_S1x256_1_0) : (⟨S4x256, .f32⟩ : BufTy).Contents (Elt F) → (⟨S1x256, .f32⟩ : BufTy).Contents (Elt F)),
    reshape main_v69 main_v70 (rfl : (.f32 : EltTy) = .f32) shapeCasts_S1x256_S256,
    unary main_v59 main_v71 ((extractStridedSlice S2x16384x256 ![0, 1, 0] · slices_S2x16387x256_S2x16384x256_0_1_0) : (⟨S2x16387x256, .f32⟩ : BufTy).Contents (Elt F) → (⟨S2x16384x256, .f32⟩ : BufTy).Contents (Elt F)),
    unary main_v70 main_v72 (broadcastInDim S1x1x256 ![2] bcast_S256_S1x1x256_2 : (⟨S256, .f32⟩ : BufTy).Contents (Elt F) → (⟨S1x1x256, .f32⟩ : BufTy).Contents (Elt F)),
    unary main_v72 main_v73 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v73 main_v71 main_v74 (mulf : (⟨S2x16384x256, .f32⟩ : BufTy).Contents (Elt F) → (⟨S2x16384x256, .f32⟩ : BufTy).Contents (Elt F) → (⟨S2x16384x256, .f32⟩ : BufTy).Contents (Elt F)),
    binary main_v68 main_v74 main_v75 (addf : (⟨S2x16384x256, .f32⟩ : BufTy).Contents (Elt F) → (⟨S2x16384x256, .f32⟩ : BufTy).Contents (Elt F) → (⟨S2x16384x256, .f32⟩ : BufTy).Contents (Elt F)),
    unary main_arg7 main_v76 ((extractStridedSlice S1x256 ![2, 0] · slices_S4x256_S1x256_2_0) : (⟨S4x256, .f32⟩ : BufTy).Contents (Elt F) → (⟨S1x256, .f32⟩ : BufTy).Contents (Elt F)),
    reshape main_v76 main_v77 (rfl : (.f32 : EltTy) = .f32) shapeCasts_S1x256_S256,
    unary main_v59 main_v78 ((extractStridedSlice S2x16384x256 ![0, 2, 0] · slices_S2x16387x256_S2x16384x256_0_2_0) : (⟨S2x16387x256, .f32⟩ : BufTy).Contents (Elt F) → (⟨S2x16384x256, .f32⟩ : BufTy).Contents (Elt F)),
    unary main_v77 main_v79 (broadcastInDim S1x1x256 ![2] bcast_S256_S1x1x256_2 : (⟨S256, .f32⟩ : BufTy).Contents (Elt F) → (⟨S1x1x256, .f32⟩ : BufTy).Contents (Elt F)),
    unary main_v79 main_v80 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v80 main_v78 main_v81 (mulf : (⟨S2x16384x256, .f32⟩ : BufTy).Contents (Elt F) → (⟨S2x16384x256, .f32⟩ : BufTy).Contents (Elt F) → (⟨S2x16384x256, .f32⟩ : BufTy).Contents (Elt F)),
    binary main_v75 main_v81 main_v82 (addf : (⟨S2x16384x256, .f32⟩ : BufTy).Contents (Elt F) → (⟨S2x16384x256, .f32⟩ : BufTy).Contents (Elt F) → (⟨S2x16384x256, .f32⟩ : BufTy).Contents (Elt F)),
    unary main_arg7 main_v83 ((extractStridedSlice S1x256 ![3, 0] · slices_S4x256_S1x256_3_0) : (⟨S4x256, .f32⟩ : BufTy).Contents (Elt F) → (⟨S1x256, .f32⟩ : BufTy).Contents (Elt F)),
    reshape main_v83 main_v84 (rfl : (.f32 : EltTy) = .f32) shapeCasts_S1x256_S256,
    unary main_v59 main_v85 ((extractStridedSlice S2x16384x256 ![0, 3, 0] · slices_S2x16387x256_S2x16384x256_0_3_0) : (⟨S2x16387x256, .f32⟩ : BufTy).Contents (Elt F) → (⟨S2x16384x256, .f32⟩ : BufTy).Contents (Elt F)),
    unary main_v84 main_v86 (broadcastInDim S1x1x256 ![2] bcast_S256_S1x1x256_2 : (⟨S256, .f32⟩ : BufTy).Contents (Elt F) → (⟨S1x1x256, .f32⟩ : BufTy).Contents (Elt F)),
    unary main_v86 main_v87 (broadcastInDim S2x16384x256 ![0, 1, 2] bcast_S1x1x256_S2x16384x256_0_1_2 : (⟨S1x1x256, .f32⟩ : BufTy).Contents (Elt F) → (⟨S2x16384x256, .f32⟩ : BufTy).Contents (Elt F)),
    binary main_v87 main_v85 main_v88 (mulf : (⟨S2x16384x256, .f32⟩ : BufTy).Contents (Elt F) → (⟨S2x16384x256, .f32⟩ : BufTy).Contents (Elt F) → (⟨S2x16384x256, .f32⟩ : BufTy).Contents (Elt F)),
    binary main_v82 main_v88 main_v89 (addf : (⟨S2x16384x256, .f32⟩ : BufTy).Contents (Elt F) → (⟨S2x16384x256, .f32⟩ : BufTy).Contents (Elt F) → (⟨S2x16384x256, .f32⟩ : BufTy).Contents (Elt F)) ]

set_option maxHeartbeats 1600000

theorem st1_v21 (V : Valuation τ sig (Elt F)) : after st1 V (Proc.devRef .tc main_v21) = pOf (V (Proc.devRef .tc main_arg0)) (V (Proc.devRef .tc main_arg1)) (V (Proc.devRef .tc main_arg2)) (V (Proc.devRef .tc main_arg3)) (V (Proc.devRef .tc main_arg4)) := by
  simp only [st1, TRef.binary, TRef.nullary, TRef.unary, TRef.toBuf, TRef.ofBuf, cast_eq]; after_results_simp <;> (first | rfl | (dsimp only [Matrix.cons_val]; after_results_simp; rfl))
theorem st2_v58 (V : Valuation τ sig (Elt F)) : after st2 V (Proc.devRef .tc main_v58) = qOf (V (Proc.devRef .tc main_v21)) := by
  simp only [st2, TRef.binary, TRef.nullary, TRef.unary, TRef.toBuf, TRef.ofBuf, cast_eq]; after_results_simp <;> (first | rfl | (dsimp only [Matrix.cons_val]; after_results_simp; rfl))
theorem st2_v52 (V : Valuation τ sig (Elt F)) : after st2 V (Proc.devRef .tc main_v52) = kOf (V (Proc.devRef .tc main_v21)) := by
  simp only [st2, TRef.binary, TRef.nullary, TRef.unary, TRef.toBuf, TRef.ofBuf, cast_eq]; after_results_simp <;> (first | rfl | (dsimp only [Matrix.cons_val]; after_results_simp; rfl))
theorem st2_v53 (V : Valuation τ sig (Elt F)) : after st2 V (Proc.devRef .tc main_v53) = vOf (V (Proc.devRef .tc main_v21)) := by
  simp only [st2, TRef.binary, TRef.nullary, TRef.unary, TRef.toBuf, TRef.ofBuf, cast_eq]; after_results_simp <;> (first | rfl | (dsimp only [Matrix.cons_val]; after_results_simp; rfl))
theorem st2_v56 (V : Valuation τ sig (Elt F)) : after st2 V (Proc.devRef .tc main_v56) = lgOf (V (Proc.devRef .tc main_v21)) := by
  simp only [st2, TRef.binary, TRef.nullary, TRef.unary, TRef.toBuf, TRef.ofBuf, cast_eq]; after_results_simp <;> (first | rfl | (dsimp only [Matrix.cons_val]; after_results_simp; rfl))
theorem st2_v55 (V : Valuation τ sig (Elt F)) : after st2 V (Proc.devRef .tc main_v55) = xrOf (V (Proc.devRef .tc main_v21)) := by
  simp only [st2, TRef.binary, TRef.nullary, TRef.unary, TRef.toBuf, TRef.ofBuf, cast_eq]; after_results_simp <;> (first | rfl | (dsimp only [Matrix.cons_val]; after_results_simp; rfl))
set_option maxHeartbeats 4000000 in
theorem st3_v89 (V : Valuation τ sig (Elt F)) : after st3 V (Proc.devRef .tc main_v89) = luOf (V (Proc.devRef .tc main_v55)) (V (Proc.devRef .tc main_arg7)) (V (Proc.devRef .tc main_arg8)) := by
  simp only [st3, TRef.binary, TRef.nullary, TRef.unary, TRef.toBuf, TRef.ofBuf, cast_eq]; after_results_simp <;> (first | rfl | (dsimp only [Matrix.cons_val]; after_results_simp; rfl))
theorem st3_v58 (V : Valuation τ sig (Elt F)) : after st3 V (Proc.devRef .tc main_v58) = V (Proc.devRef .tc main_v58) := by
  simp only [st3, TRef.binary, TRef.nullary, TRef.unary, TRef.toBuf, TRef.ofBuf, cast_eq]; after_results_simp
theorem st3_v52 (V : Valuation τ sig (Elt F)) : after st3 V (Proc.devRef .tc main_v52) = V (Proc.devRef .tc main_v52) := by
  simp only [st3, TRef.binary, TRef.nullary, TRef.unary, TRef.toBuf, TRef.ofBuf, cast_eq]; after_results_simp
theorem st3_v53 (V : Valuation τ sig (Elt F)) : after st3 V (Proc.devRef .tc main_v53) = V (Proc.devRef .tc main_v53) := by
  simp only [st3, TRef.binary, TRef.nullary, TRef.unary, TRef.toBuf, TRef.ofBuf, cast_eq]; after_results_simp
theorem st3_v56 (V : Valuation τ sig (Elt F)) : after st3 V (Proc.devRef .tc main_v56) = V (Proc.devRef .tc main_v56) := by
  simp only [st3, TRef.binary, TRef.nullary, TRef.unary, TRef.toBuf, TRef.ofBuf, cast_eq]; after_results_simp
theorem st3_arg0 (V : Valuation τ sig (Elt F)) : after st3 V (Proc.devRef .tc main_arg0) = V (Proc.devRef .tc main_arg0) := by
  simp only [st3, TRef.binary, TRef.nullary, TRef.unary, TRef.toBuf, TRef.ofBuf, cast_eq]; after_results_simp
theorem st3_arg1 (V : Valuation τ sig (Elt F)) : after st3 V (Proc.devRef .tc main_arg1) = V (Proc.devRef .tc main_arg1) := by
  simp only [st3, TRef.binary, TRef.nullary, TRef.unary, TRef.toBuf, TRef.ofBuf, cast_eq]; after_results_simp
theorem st3_arg2 (V : Valuation τ sig (Elt F)) : after st3 V (Proc.devRef .tc main_arg2) = V (Proc.devRef .tc main_arg2) := by
  simp only [st3, TRef.binary, TRef.nullary, TRef.unary, TRef.toBuf, TRef.ofBuf, cast_eq]; after_results_simp
theorem st3_arg3 (V : Valuation τ sig (Elt F)) : after st3 V (Proc.devRef .tc main_arg3) = V (Proc.devRef .tc main_arg3) := by
  simp only [st3, TRef.binary, TRef.nullary, TRef.unary, TRef.toBuf, TRef.ofBuf, cast_eq]; after_results_simp
theorem st3_arg4 (V : Valuation τ sig (Elt F)) : after st3 V (Proc.devRef .tc main_arg4) = V (Proc.devRef .tc main_arg4) := by
  simp only [st3, TRef.binary, TRef.nullary, TRef.unary, TRef.toBuf, TRef.ofBuf, cast_eq]; after_results_simp
theorem st3_arg5 (V : Valuation τ sig (Elt F)) : after st3 V (Proc.devRef .tc main_arg5) = V (Proc.devRef .tc main_arg5) := by
  simp only [st3, TRef.binary, TRef.nullary, TRef.unary, TRef.toBuf, TRef.ofBuf, cast_eq]; after_results_simp
theorem st3_arg6 (V : Valuation τ sig (Elt F)) : after st3 V (Proc.devRef .tc main_arg6) = V (Proc.devRef .tc main_arg6) := by
  simp only [st3, TRef.binary, TRef.nullary, TRef.unary, TRef.toBuf, TRef.ofBuf, cast_eq]; after_results_simp
theorem st3_arg7 (V : Valuation τ sig (Elt F)) : after st3 V (Proc.devRef .tc main_arg7) = V (Proc.devRef .tc main_arg7) := by
  simp only [st3, TRef.binary, TRef.nullary, TRef.unary, TRef.toBuf, TRef.ofBuf, cast_eq]; after_results_simp
theorem st3_arg8 (V : Valuation τ sig (Elt F)) : after st3 V (Proc.devRef .tc main_arg8) = V (Proc.devRef .tc main_arg8) := by
  simp only [st3, TRef.binary, TRef.nullary, TRef.unary, TRef.toBuf, TRef.ofBuf, cast_eq]; after_results_simp
theorem st1_arg0 (V : Valuation τ sig (Elt F)) : after st1 V (Proc.devRef .tc main_arg0) = V (Proc.devRef .tc main_arg0) := by
  simp only [st1, TRef.binary, TRef.nullary, TRef.unary, TRef.toBuf, TRef.ofBuf, cast_eq]; after_results_simp
theorem st2_arg0 (V : Valuation τ sig (Elt F)) : after st2 V (Proc.devRef .tc main_arg0) = V (Proc.devRef .tc main_arg0) := by
  simp only [st2, TRef.binary, TRef.nullary, TRef.unary, TRef.toBuf, TRef.ofBuf, cast_eq]; after_results_simp
theorem st1_arg1 (V : Valuation τ sig (Elt F)) : after st1 V (Proc.devRef .tc main_arg1) = V (Proc.devRef .tc main_arg1) := by
  simp only [st1, TRef.binary, TRef.nullary, TRef.unary, TRef.toBuf, TRef.ofBuf, cast_eq]; after_results_simp
theorem st2_arg1 (V : Valuation τ sig (Elt F)) : after st2 V (Proc.devRef .tc main_arg1) = V (Proc.devRef .tc main_arg1) := by
  simp only [st2, TRef.binary, TRef.nullary, TRef.unary, TRef.toBuf, TRef.ofBuf, cast_eq]; after_results_simp
theorem st1_arg2 (V : Valuation τ sig (Elt F)) : after st1 V (Proc.devRef .tc main_arg2) = V (Proc.devRef .tc main_arg2) := by
  simp only [st1, TRef.binary, TRef.nullary, TRef.unary, TRef.toBuf, TRef.ofBuf, cast_eq]; after_results_simp
theorem st2_arg2 (V : Valuation τ sig (Elt F)) : after st2 V (Proc.devRef .tc main_arg2) = V (Proc.devRef .tc main_arg2) := by
  simp only [st2, TRef.binary, TRef.nullary, TRef.unary, TRef.toBuf, TRef.ofBuf, cast_eq]; after_results_simp
theorem st1_arg3 (V : Valuation τ sig (Elt F)) : after st1 V (Proc.devRef .tc main_arg3) = V (Proc.devRef .tc main_arg3) := by
  simp only [st1, TRef.binary, TRef.nullary, TRef.unary, TRef.toBuf, TRef.ofBuf, cast_eq]; after_results_simp
theorem st2_arg3 (V : Valuation τ sig (Elt F)) : after st2 V (Proc.devRef .tc main_arg3) = V (Proc.devRef .tc main_arg3) := by
  simp only [st2, TRef.binary, TRef.nullary, TRef.unary, TRef.toBuf, TRef.ofBuf, cast_eq]; after_results_simp
theorem st1_arg4 (V : Valuation τ sig (Elt F)) : after st1 V (Proc.devRef .tc main_arg4) = V (Proc.devRef .tc main_arg4) := by
  simp only [st1, TRef.binary, TRef.nullary, TRef.unary, TRef.toBuf, TRef.ofBuf, cast_eq]; after_results_simp
theorem st2_arg4 (V : Valuation τ sig (Elt F)) : after st2 V (Proc.devRef .tc main_arg4) = V (Proc.devRef .tc main_arg4) := by
  simp only [st2, TRef.binary, TRef.nullary, TRef.unary, TRef.toBuf, TRef.ofBuf, cast_eq]; after_results_simp
theorem st1_arg5 (V : Valuation τ sig (Elt F)) : after st1 V (Proc.devRef .tc main_arg5) = V (Proc.devRef .tc main_arg5) := by
  simp only [st1, TRef.binary, TRef.nullary, TRef.unary, TRef.toBuf, TRef.ofBuf, cast_eq]; after_results_simp
theorem st2_arg5 (V : Valuation τ sig (Elt F)) : after st2 V (Proc.devRef .tc main_arg5) = V (Proc.devRef .tc main_arg5) := by
  simp only [st2, TRef.binary, TRef.nullary, TRef.unary, TRef.toBuf, TRef.ofBuf, cast_eq]; after_results_simp
theorem st1_arg6 (V : Valuation τ sig (Elt F)) : after st1 V (Proc.devRef .tc main_arg6) = V (Proc.devRef .tc main_arg6) := by
  simp only [st1, TRef.binary, TRef.nullary, TRef.unary, TRef.toBuf, TRef.ofBuf, cast_eq]; after_results_simp
theorem st2_arg6 (V : Valuation τ sig (Elt F)) : after st2 V (Proc.devRef .tc main_arg6) = V (Proc.devRef .tc main_arg6) := by
  simp only [st2, TRef.binary, TRef.nullary, TRef.unary, TRef.toBuf, TRef.ofBuf, cast_eq]; after_results_simp
theorem st1_arg7 (V : Valuation τ sig (Elt F)) : after st1 V (Proc.devRef .tc main_arg7) = V (Proc.devRef .tc main_arg7) := by
  simp only [st1, TRef.binary, TRef.nullary, TRef.unary, TRef.toBuf, TRef.ofBuf, cast_eq]; after_results_simp
theorem st2_arg7 (V : Valuation τ sig (Elt F)) : after st2 V (Proc.devRef .tc main_arg7) = V (Proc.devRef .tc main_arg7) := by
  simp only [st2, TRef.binary, TRef.nullary, TRef.unary, TRef.toBuf, TRef.ofBuf, cast_eq]; after_results_simp
theorem st1_arg8 (V : Valuation τ sig (Elt F)) : after st1 V (Proc.devRef .tc main_arg8) = V (Proc.devRef .tc main_arg8) := by
  simp only [st1, TRef.binary, TRef.nullary, TRef.unary, TRef.toBuf, TRef.ofBuf, cast_eq]; after_results_simp
theorem st2_arg8 (V : Valuation τ sig (Elt F)) : after st2 V (Proc.devRef .tc main_arg8) = V (Proc.devRef .tc main_arg8) := by
  simp only [st2, TRef.binary, TRef.nullary, TRef.unary, TRef.toBuf, TRef.ofBuf, cast_eq]; after_results_simp

set_option maxHeartbeats 4000000 in
theorem stH_v47 (V : Valuation τ sig (Elt F)) : after stH V (Proc.devRef .tc main_v47) = hy0Of (uOf (hcOf (V (Proc.devRef .tc main_v21))) (V (Proc.devRef .tc main_arg5)) (V (Proc.devRef .tc main_arg6))) := by
  simp only [stH, TRef.binary, TRef.nullary, TRef.unary, TRef.toBuf, TRef.ofBuf, cast_eq]; after_results_simp <;> (first | rfl | (dsimp only [Matrix.cons_val]; after_results_simp; rfl))
theorem st2_v47 (V : Valuation τ sig (Elt F)) : after st2 V (Proc.devRef .tc main_v47) = V (Proc.devRef .tc main_v47) := by
  simp only [st2, TRef.binary, TRef.nullary, TRef.unary, TRef.toBuf, TRef.ofBuf, cast_eq]; after_results_simp
theorem st3_v47 (V : Valuation τ sig (Elt F)) : after st3 V (Proc.devRef .tc main_v47) = V (Proc.devRef .tc main_v47) := by
  simp only [st3, TRef.binary, TRef.nullary, TRef.unary, TRef.toBuf, TRef.ofBuf, cast_eq]; after_results_simp
set_option maxHeartbeats 4000000 in
theorem stH_v48 (V : Valuation τ sig (Elt F)) : after stH V (Proc.devRef .tc main_v48) = hy1Of (uOf (hcOf (V (Proc.devRef .tc main_v21))) (V (Proc.devRef .tc main_arg5)) (V (Proc.devRef .tc main_arg6))) := by
  simp only [stH, TRef.binary, TRef.nullary, TRef.unary, TRef.toBuf, TRef.ofBuf, cast_eq]; after_results_simp <;> (first | rfl | (dsimp only [Matrix.cons_val]; after_results_simp; rfl))
theorem st2_v48 (V : Valuation τ sig (Elt F)) : after st2 V (Proc.devRef .tc main_v48) = V (Proc.devRef .tc main_v48) := by
  simp only [st2, TRef.binary, TRef.nullary, TRef.unary, TRef.toBuf, TRef.ofBuf, cast_eq]; after_results_simp
theorem st3_v48 (V : Valuation τ sig (Elt F)) : after st3 V (Proc.devRef .tc main_v48) = V (Proc.devRef .tc main_v48) := by
  simp only [st3, TRef.binary, TRef.nullary, TRef.unary, TRef.toBuf, TRef.ofBuf, cast_eq]; after_results_simp
set_option maxHeartbeats 4000000 in
theorem stH_v49 (V : Valuation τ sig (Elt F)) : after stH V (Proc.devRef .tc main_v49) = hy2Of (uOf (hcOf (V (Proc.devRef .tc main_v21))) (V (Proc.devRef .tc main_arg5)) (V (Proc.devRef .tc main_arg6))) := by
  simp only [stH, TRef.binary, TRef.nullary, TRef.unary, TRef.toBuf, TRef.ofBuf, cast_eq]; after_results_simp <;> (first | rfl | (dsimp only [Matrix.cons_val]; after_results_simp; rfl))
theorem st2_v49 (V : Valuation τ sig (Elt F)) : after st2 V (Proc.devRef .tc main_v49) = V (Proc.devRef .tc main_v49) := by
  simp only [st2, TRef.binary, TRef.nullary, TRef.unary, TRef.toBuf, TRef.ofBuf, cast_eq]; after_results_simp
theorem st3_v49 (V : Valuation τ sig (Elt F)) : after st3 V (Proc.devRef .tc main_v49) = V (Proc.devRef .tc main_v49) := by
  simp only [st3, TRef.binary, TRef.nullary, TRef.unary, TRef.toBuf, TRef.ofBuf, cast_eq]; after_results_simp
theorem stH_v21 (V : Valuation τ sig (Elt F)) : after stH V (Proc.devRef .tc main_v21) = V (Proc.devRef .tc main_v21) := by
  simp only [stH, TRef.binary, TRef.nullary, TRef.unary, TRef.toBuf, TRef.ofBuf, cast_eq]; after_results_simp
theorem stH_arg0 (V : Valuation τ sig (Elt F)) : after stH V (Proc.devRef .tc main_arg0) = V (Proc.devRef .tc main_arg0) := by
  simp only [stH, TRef.binary, TRef.nullary, TRef.unary, TRef.toBuf, TRef.ofBuf, cast_eq]; after_results_simp
theorem stH_arg1 (V : Valuation τ sig (Elt F)) : after stH V (Proc.devRef .tc main_arg1) = V (Proc.devRef .tc main_arg1) := by
  simp only [stH, TRef.binary, TRef.nullary, TRef.unary, TRef.toBuf, TRef.ofBuf, cast_eq]; after_results_simp
theorem stH_arg2 (V : Valuation τ sig (Elt F)) : after stH V (Proc.devRef .tc main_arg2) = V (Proc.devRef .tc main_arg2) := by
  simp only [stH, TRef.binary, TRef.nullary, TRef.unary, TRef.toBuf, TRef.ofBuf, cast_eq]; after_results_simp
theorem stH_arg3 (V : Valuation τ sig (Elt F)) : after stH V (Proc.devRef .tc main_arg3) = V (Proc.devRef .tc main_arg3) := by
  simp only [stH, TRef.binary, TRef.nullary, TRef.unary, TRef.toBuf, TRef.ofBuf, cast_eq]; after_results_simp
theorem stH_arg4 (V : Valuation τ sig (Elt F)) : after stH V (Proc.devRef .tc main_arg4) = V (Proc.devRef .tc main_arg4) := by
  simp only [stH, TRef.binary, TRef.nullary, TRef.unary, TRef.toBuf, TRef.ofBuf, cast_eq]; after_results_simp
theorem stH_arg5 (V : Valuation τ sig (Elt F)) : after stH V (Proc.devRef .tc main_arg5) = V (Proc.devRef .tc main_arg5) := by
  simp only [stH, TRef.binary, TRef.nullary, TRef.unary, TRef.toBuf, TRef.ofBuf, cast_eq]; after_results_simp
theorem stH_arg6 (V : Valuation τ sig (Elt F)) : after stH V (Proc.devRef .tc main_arg6) = V (Proc.devRef .tc main_arg6) := by
  simp only [stH, TRef.binary, TRef.nullary, TRef.unary, TRef.toBuf, TRef.ofBuf, cast_eq]; after_results_simp
theorem stH_arg7 (V : Valuation τ sig (Elt F)) : after stH V (Proc.devRef .tc main_arg7) = V (Proc.devRef .tc main_arg7) := by
  simp only [stH, TRef.binary, TRef.nullary, TRef.unary, TRef.toBuf, TRef.ofBuf, cast_eq]; after_results_simp
theorem stH_arg8 (V : Valuation τ sig (Elt F)) : after stH V (Proc.devRef .tc main_arg8) = V (Proc.devRef .tc main_arg8) := by
  simp only [stH, TRef.binary, TRef.nullary, TRef.unary, TRef.toBuf, TRef.ofBuf, cast_eq]; after_results_simp

theorem after_app (a b : List (HloOp τ sig (Elt F))) (V : Valuation τ sig (Elt F)) : after (a ++ b) V = after b (after a V) := by
  induction a generalizing V with
  | nil => rfl
  | cons o a ih => exact ih _

/-- The stages in order. -/
abbrev allOps : List (HloOp τ sig (Elt F)) := st1 ++ (stH ++ (st2 ++ st3))

theorem main_stages (c : Dev nD) : main (F := F) c = seq allOps := rfl

theorem all_v58 (V : Valuation τ sig (Elt F)) : after allOps V (Proc.devRef .tc main_v58) = qOf (pOf (V (Proc.devRef .tc main_arg0)) (V (Proc.devRef .tc main_arg1)) (V (Proc.devRef .tc main_arg2)) (V (Proc.devRef .tc main_arg3)) (V (Proc.devRef .tc main_arg4))) := by
  simp only [allOps, after_app]; rw [st3_v58, st2_v58, stH_v21, st1_v21]
theorem all_v52 (V : Valuation τ sig (Elt F)) : after allOps V (Proc.devRef .tc main_v52) = kOf (pOf (V (Proc.devRef .tc main_arg0)) (V (Proc.devRef .tc main_arg1)) (V (Proc.devRef .tc main_arg2)) (V (Proc.devRef .tc main_arg3)) (V (Proc.devRef .tc main_arg4))) := by
  simp only [allOps, after_app]; rw [st3_v52, st2_v52, stH_v21, st1_v21]
theorem all_v53 (V : Valuation τ sig (Elt F)) : after allOps V (Proc.devRef .tc main_v53) = vOf (pOf (V (Proc.devRef .tc main_arg0)) (V (Proc.devRef .tc main_arg1)) (V (Proc.devRef .tc main_arg2)) (V (Proc.devRef .tc main_arg3)) (V (Proc.devRef .tc main_arg4))) := by
  simp only [allOps, after_app]; rw [st3_v53, st2_v53, stH_v21, st1_v21]
theorem all_v56 (V : Valuation τ sig (Elt F)) : after allOps V (Proc.devRef .tc main_v56) = lgOf (pOf (V (Proc.devRef .tc main_arg0)) (V (Proc.devRef .tc main_arg1)) (V (Proc.devRef .tc main_arg2)) (V (Proc.devRef .tc main_arg3)) (V (Proc.devRef .tc main_arg4))) := by
  simp only [allOps, after_app]; rw [st3_v56, st2_v56, stH_v21, st1_v21]
theorem all_v89 (V : Valuation τ sig (Elt F)) : after allOps V (Proc.devRef .tc main_v89) = luOf (xrOf (pOf (V (Proc.devRef .tc main_arg0)) (V (Proc.devRef .tc main_arg1)) (V (Proc.devRef .tc main_arg2)) (V (Proc.devRef .tc main_arg3)) (V (Proc.devRef .tc main_arg4)))) (V (Proc.devRef .tc main_arg7)) (V (Proc.devRef .tc main_arg8)) := by
  simp only [allOps, after_app]; rw [st3_v89, st2_v55, st2_arg7, st2_arg8, stH_v21, st1_v21, stH_arg7, stH_arg8, st1_arg7, st1_arg8]
theorem all_arg0 (V : Valuation τ sig (Elt F)) : after allOps V (Proc.devRef .tc main_arg0) = V (Proc.devRef .tc main_arg0) := by
  simp only [allOps, after_app]; rw [st3_arg0, st2_arg0, stH_arg0, st1_arg0]
theorem all_arg1 (V : Valuation τ sig (Elt F)) : after allOps V (Proc.devRef .tc main_arg1) = V (Proc.devRef .tc main_arg1) := by
  simp only [allOps, after_app]; rw [st3_arg1, st2_arg1, stH_arg1, st1_arg1]
theorem all_arg2 (V : Valuation τ sig (Elt F)) : after allOps V (Proc.devRef .tc main_arg2) = V (Proc.devRef .tc main_arg2) := by
  simp only [allOps, after_app]; rw [st3_arg2, st2_arg2, stH_arg2, st1_arg2]
theorem all_arg3 (V : Valuation τ sig (Elt F)) : after allOps V (Proc.devRef .tc main_arg3) = V (Proc.devRef .tc main_arg3) := by
  simp only [allOps, after_app]; rw [st3_arg3, st2_arg3, stH_arg3, st1_arg3]
theorem all_arg4 (V : Valuation τ sig (Elt F)) : after allOps V (Proc.devRef .tc main_arg4) = V (Proc.devRef .tc main_arg4) := by
  simp only [allOps, after_app]; rw [st3_arg4, st2_arg4, stH_arg4, st1_arg4]
theorem all_arg5 (V : Valuation τ sig (Elt F)) : after allOps V (Proc.devRef .tc main_arg5) = V (Proc.devRef .tc main_arg5) := by
  simp only [allOps, after_app]; rw [st3_arg5, st2_arg5, stH_arg5, st1_arg5]
theorem all_arg6 (V : Valuation τ sig (Elt F)) : after allOps V (Proc.devRef .tc main_arg6) = V (Proc.devRef .tc main_arg6) := by
  simp only [allOps, after_app]; rw [st3_arg6, st2_arg6, stH_arg6, st1_arg6]
theorem all_arg7 (V : Valuation τ sig (Elt F)) : after allOps V (Proc.devRef .tc main_arg7) = V (Proc.devRef .tc main_arg7) := by
  simp only [allOps, after_app]; rw [st3_arg7, st2_arg7, stH_arg7, st1_arg7]
theorem all_arg8 (V : Valuation τ sig (Elt F)) : after allOps V (Proc.devRef .tc main_arg8) = V (Proc.devRef .tc main_arg8) := by
  simp only [allOps, after_app]; rw [st3_arg8, st2_arg8, stH_arg8, st1_arg8]

theorem all_v47 (V : Valuation τ sig (Elt F)) : after allOps V (Proc.devRef .tc main_v47) = hy0Of (uOf (hcOf (pOf (V (Proc.devRef .tc main_arg0)) (V (Proc.devRef .tc main_arg1)) (V (Proc.devRef .tc main_arg2)) (V (Proc.devRef .tc main_arg3)) (V (Proc.devRef .tc main_arg4)))) (V (Proc.devRef .tc main_arg5)) (V (Proc.devRef .tc main_arg6))) := by
  simp only [allOps, after_app]; rw [st3_v47, st2_v47, stH_v47, st1_v21, st1_arg5, st1_arg6]
theorem all_v48 (V : Valuation τ sig (Elt F)) : after allOps V (Proc.devRef .tc main_v48) = hy1Of (uOf (hcOf (pOf (V (Proc.devRef .tc main_arg0)) (V (Proc.devRef .tc main_arg1)) (V (Proc.devRef .tc main_arg2)) (V (Proc.devRef .tc main_arg3)) (V (Proc.devRef .tc main_arg4)))) (V (Proc.devRef .tc main_arg5)) (V (Proc.devRef .tc main_arg6))) := by
  simp only [allOps, after_app]; rw [st3_v48, st2_v48, stH_v48, st1_v21, st1_arg5, st1_arg6]
theorem all_v49 (V : Valuation τ sig (Elt F)) : after allOps V (Proc.devRef .tc main_v49) = hy2Of (uOf (hcOf (pOf (V (Proc.devRef .tc main_arg0)) (V (Proc.devRef .tc main_arg1)) (V (Proc.devRef .tc main_arg2)) (V (Proc.devRef .tc main_arg3)) (V (Proc.devRef .tc main_arg4)))) (V (Proc.devRef .tc main_arg5)) (V (Proc.devRef .tc main_arg6))) := by
  simp only [allOps, after_app]; rw [st3_v49, st2_v49, stH_v49, st1_v21, st1_arg5, st1_arg6]

theorem allOps_fresh : ∀ op ∈ (allOps : List (HloOp τ sig (Elt F))), op.fresh = ∅ := by
  refine List.forall_iff_forall_mem.mp ?_
  simp only [allOps, List.forall_append]
  refine ⟨?_, ?_, ?_, ?_⟩ <;> (simp only [List.Forall]; repeat' apply And.intro) <;> rfl

set_option maxHeartbeats 4000000 in
theorem allOps_sub : (allOps : List (HloOp τ sig (Elt F))).Forall fun op => op.bufs ⊆ tcRefs τ sig := by
  simp only [allOps, List.forall_append]
  refine ⟨?_, ?_, ?_, ?_⟩ <;> (simp only [List.Forall]; repeat' apply And.intro) <;>
    first | exact unary_bufs_sub .. | exact binary_bufs_sub .. | exact nullary_bufs_sub .. | exact reshape_bufs_sub .. | trivial

set_option maxHeartbeats 4000000 in
/-- Every run of the reference ends with the named terms in its results and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = hy0Of (uOf (hcOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6)))
      ∧ r.2.mem ((c.tc : Thread nD τ).loc main_v48) = hy1Of (uOf (hcOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6)))
      ∧ r.2.mem ((c.tc : Thread nD τ).loc main_v49) = hy2Of (uOf (hcOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) (m ((c.tc : Thread nD τ).loc main_arg6)))
      ∧ r.2.mem ((c.tc : Thread nD τ).loc main_v58) = qOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v52) = kOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v53) = vOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v89) = luOf (xrOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg7)) (m ((c.tc : Thread nD τ).loc main_arg8))
      ∧ r.2.mem ((c.tc : Thread nD τ).loc main_v56) = lgOf (pOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine θ_run_mono (run_hlo defs (main (F := F)) (ops := allOps) main_stages (by decide) (by decide) allOps_sub
    allOps_fresh m ρ) fun r h c => ?_
  refine ⟨?_, ?_, ?_, ?_, ?_, ?_, ?_, ?_, ?_, ?_, ?_, ?_, ?_, ?_, ?_, ?_, ?_⟩
  · rw [h c main_v47, all_v47]
  · rw [h c main_v48, all_v48]
  · rw [h c main_v49, all_v49]
  · rw [h c main_v58, all_v58]
  · rw [h c main_v52, all_v52]
  · rw [h c main_v53, all_v53]
  · rw [h c main_v89, all_v89]
  · rw [h c main_v56, all_v56]
  · rw [h c main_arg0, all_arg0]
  · rw [h c main_arg1, all_arg1]
  · rw [h c main_arg2, all_arg2]
  · rw [h c main_arg3, all_arg3]
  · rw [h c main_arg4, all_arg4]
  · rw [h c main_arg5, all_arg5]
  · rw [h c main_arg6, all_arg6]
  · rw [h c main_arg7, all_arg7]
  · rw [h c main_arg8, all_arg8]

end Cert.Inp

end
-- ==== Proof.Inp.RefRows.lean ====
/-
  The input projection's reference at ideal, read at a token and a channel: a row of the projection.
-/
module

public import proofs.«01_k».proof.Proof.Inp.RefRun
public import proofs.«01_k».proof.Proof.Ffn.Rows
public import Idealize.ShloMosaic.Lib.Pointwise

@[expose] public section

set_option maxRecDepth 16384

noncomputable section

namespace Cert.Inp

open Idealize.ShloMosaic Cert.Ffn

/-- A row of the projection: the normalised, scaled and shifted row times a column of the weights. -/
def pRow (x g sc sh : Fin 1024 → EReal) (w : Fin 1024 → Fin 2816 → EReal) (n : Fin 2816) : EReal := ∑ k, hRow x g sc sh k * w k n

/-- The factor of the scores, as the programs write it. -/
def cScale : EReal := Ideal.ofBits .f32 0x3E38AA3B#32

/-- The four products of the convolution, added to the bias one after another. -/
def conv4 (b : EReal) (w x : Fin 4 → EReal) : EReal := b + w 0 * x 0 + w 1 * x 1 + w 2 * x 2 + w 3 * x 3

/-- The same of three products. -/
def conv3 (b : EReal) (w x : Fin 3 → EReal) : EReal := b + w 0 * x 0 + w 1 * x 1 + w 2 * x 2

/-- A row of a sequence with zeros before it and behind it, the sequence starting at row `o`. -/
def padded (o : ℕ) (x : Fin 16384 → EReal) (s : ℕ) : EReal := if h : o ≤ s ∧ s - o < 16384 then x ⟨s - o, h.2⟩ else 0

end Cert.Inp

namespace Cert.Inp.Ref

open Cert.Reference3Ideal Cert.Reference3Ideal.Gen Idealize.ShloMosaic Idealize.ShloMosaic.TcCoe Idealize.SL.Sem Cert.Ffn

theorem zero_word : FloatOps.sitofp (F := Ideal) FTy.f32 0#32 = 0 := by
  simp [FloatOps.sitofp]

theorem row_at (a : FVec Ideal S2x1024 .f32) (b : Fin 2) (k : Fin 1024) : rowOf a (ix3 b 0 k) = a (ix2 b k) := by
  pointwise [rowOf]

theorem rms_at (y : FVec Ideal S2x16384x1024 .f32) (g : FVec Ideal S1024 .f32) (b : Fin 2) (r : Fin 16384) (l : Fin 1024) :
    rmsOf y g (ix3 b r l) = rmsRow (fun k => y (ix3 b r k)) (fun k => g (ix1 k)) l := by
  pointwise! [rmsOf, rmsRow, cLen, cEps]

theorem h_at (x : FVec Ideal S2x16384x1024 .f32) (g : FVec Ideal S1024 .f32) (sc sh : FVec Ideal S2x1024 .f32) (b : Fin 2) (r : Fin 16384) (l : Fin 1024) :
    hOf x g sc sh (ix3 b r l) = hRow (fun k => x (ix3 b r k)) (fun k => g (ix1 k)) (fun k => sc (ix2 b k)) (fun k => sh (ix2 b k)) l := by
  pointwise! [hOf, rms_at, row_at, hRow]

theorem p_at (x : FVec Ideal S2x16384x1024 .f32) (g : FVec Ideal S1024 .f32) (sc sh : FVec Ideal S2x1024 .f32) (w : FVec Ideal S1024x2816 .f32)
    (b : Fin 2) (r : Fin 16384) (n : Fin 2816) :
    pOf x g sc sh w (ix3 b r n) = pRow (fun k => x (ix3 b r k)) (fun k => g (ix1 k)) (fun k => sc (ix2 b k)) (fun k => sh (ix2 b k)) (fun k n => w (ix2 k n)) n := by
  pointwise! [pOf, h_at, pRow]

theorem q_at (p : FVec Ideal S2x16384x2816 .f32) (b : Fin 2) (r : Fin 16384) (l : Fin 512) :
    qOf p (ix3 b r l) = p (ix3 b r ⟨768 + l, by omega⟩) * cScale := by
  pointwise [qOf, qkvOf, cScale]

theorem k_at (p : FVec Ideal S2x16384x2816 .f32) (b : Fin 2) (r : Fin 16384) (l : Fin 512) :
    kOf p (ix3 b r l) = p (ix3 b r ⟨1280 + l, by omega⟩) := by
  pointwise [kOf, qkvOf]
  exact congrArg (fun j => p (ix3 b r j)) (Fin.ext (show 768 + (512 + (l : ℕ)) = 1280 + l by omega))

theorem v_at (p : FVec Ideal S2x16384x2816 .f32) (b : Fin 2) (r : Fin 16384) (l : Fin 512) :
    vOf p (ix3 b r l) = p (ix3 b r ⟨1792 + l, by omega⟩) := by
  pointwise [vOf, qkvOf]
  exact congrArg (fun j => p (ix3 b r j)) (Fin.ext (show 768 + (1024 + (l : ℕ)) = 1792 + l by omega))

theorem lg_at (p : FVec Ideal S2x16384x2816 .f32) (b : Fin 2) (r : Fin 16384) (l : Fin 256) :
    lgOf p (ix3 b r l) = p (ix3 b r ⟨2560 + l, by omega⟩) := by
  pointwise [lgOf]
  exact congrArg (fun j => p (ix3 b r j)) (Fin.ext (show 2304 + (256 + (l : ℕ)) = 2560 + l by omega))

theorem xr_at (p : FVec Ideal S2x16384x2816 .f32) (b : Fin 2) (r : Fin 16384) (l : Fin 256) :
    xrOf p (ix3 b r l) = p (ix3 b r ⟨2304 + l, by omega⟩) := by
  pointwise [xrOf]

theorem pad_at (x : FVec Ideal S2x16384x256 .f32) (b : Fin 2) (r : Fin 16387) (l : Fin 256) :
    padOf x (ix3 b r l) = padded 2 (fun s => x (ix3 b s l)) r := by
  pointwise [padOf, padded]
  have e : FloatOps.sitofp (F := Ideal) FTy.f32 0#32 = 0 := zero_word
  rw [e]

theorem lu_at (x : FVec Ideal S2x16384x256 .f32) (w : FVec Ideal S4x256 .f32) (c : FVec Ideal S256 .f32) (b : Fin 2) (r : Fin 16384) (l : Fin 256) :
    luOf x w c (ix3 b r l) = conv4 (c (ix1 l)) (fun k => w (ix2 k l)) (fun k => padded 2 (fun s => x (ix3 b s l)) (r + k)) := by
  pointwise [luOf, chanOf, pad_at, conv4]
  rw [Nat.add_comm 1 r.val, Nat.add_comm 2 r.val, Nat.add_comm 3 r.val]

theorem hc_at (p : FVec Ideal S2x16384x2816 .f32) (b : Fin 2) (r : Fin 16384) (l : Fin 768) :
    hcOf p (ix3 b r l) = p (ix3 b r ⟨l, by omega⟩) := by
  pointwise [hcOf]

theorem padH_at (x : FVec Ideal S2x16384x768 .f32) (b : Fin 2) (r : Fin 16386) (l : Fin 768) :
    padHOf x (ix3 b r l) = padded 1 (fun s => x (ix3 b s l)) r := by
  pointwise [padHOf, padded]
  have e : FloatOps.sitofp (F := Ideal) FTy.f32 0#32 = 0 := zero_word
  rw [e]

theorem u_at (x : FVec Ideal S2x16384x768 .f32) (w : FVec Ideal S3x768 .f32) (c : FVec Ideal S768 .f32) (b : Fin 2) (r : Fin 16384) (l : Fin 768) :
    uOf x w c (ix3 b r l) = conv3 (c (ix1 l)) (fun k => w (ix2 k l)) (fun k => padded 1 (fun s => x (ix3 b s l)) (r + k)) := by
  pointwise [uOf, chanHOf, padH_at, conv3]
  rw [Nat.add_comm 1 r.val, Nat.add_comm 2 r.val]

theorem hy0_at (u : FVec Ideal S2x16384x768 .f32) (b : Fin 2) (r : Fin 16384) (l : Fin 256) :
    hy0Of u (ix3 b r l) = u (ix3 b r ⟨0 + l, by omega⟩) := by
  pointwise [hy0Of]
theorem hy1_at (u : FVec Ideal S2x16384x768 .f32) (b : Fin 2) (r : Fin 16384) (l : Fin 256) :
    hy1Of u (ix3 b r l) = u (ix3 b r ⟨256 + l, by omega⟩) := by
  pointwise [hy1Of]
theorem hy2_at (u : FVec Ideal S2x16384x768 .f32) (b : Fin 2) (r : Fin 16384) (l : Fin 256) :
    hy2Of u (ix3 b r l) = u (ix3 b r ⟨512 + l, by omega⟩) := by
  pointwise [hy2Of]

end Cert.Inp.Ref
-- ==== Proof.Inp.Pay.lean ====
/-
  The input projection's kernel at ideal: the values its body stores in the attention's blocks and in the gate's, read at a
  row and a channel.
-/
module

public import proofs.«01_k».proof.Proof.Gen.Kernel3Ideal.Skeleton
public import proofs.«01_k».proof.Proof.Inp.RefRows
public import Idealize.ShloMosaic.Lib.Pointwise

@[expose] public section

set_option maxRecDepth 16384

noncomputable section

namespace Cert.Inp

open Cert.Kernel3Ideal Cert.Kernel3Ideal.Gen Idealize.ShloMosaic Idealize.ShloMosaic.TcCoe Idealize.SL.Sem Cert.Ffn

theorem gain_at (v : Vec Ideal S1x1024 .f32) (k : Fin 1024) : k0_pay2 v (ix2 0 k) = v (ix2 0 k) := by
  pointwise [k0_pay2]

theorem scale_at (v : Vec Ideal S1x1x1024 .f32) (k : Fin 1024) : k0_pay3 v (ix2 0 k) = 1 + v (ix3 0 0 k) := by
  pointwise [k0_pay3]

theorem shift_at (v : Vec Ideal S1x1x1024 .f32) (k : Fin 1024) : k0_pay4 v (ix2 0 k) = v (ix3 0 0 k) := by
  pointwise [k0_pay4]

/-- The rows between the halos: the block's own rows, normalised, scaled and shifted. -/
theorem mid_at (a : BitVec 32) (v1 v5 v7 : FVec Ideal S1x1024 .f32) (v30 v32 : FVec Ideal S8x1024 .f32) (v35 v36 : FVec Ideal S8x1 .f32)
    (v54 : Vec Ideal S1x1024x1024 .f32) (r l : Fin 1024) :
    k0_pay9 a v1 v5 v7 v30 v32 v35 v36 v54 (ix2 ⟨8 + r, by omega⟩ l)
      = rmsRow (fun k => v54 (ix3 0 r k)) (fun k => v1 (ix2 0 k)) l * v5 (ix2 0 l) + v7 (ix2 0 l) := by
  pointwise! [k0_pay9, rmsRow, cLen, cEps]

theorem qkv_at (h : FVec Ideal S1040x1024 .bf16) (w : Vec Ideal S1024x1536 .bf16) (r : Fin 1024) (n : Fin 1536) :
    k0_pay13 h w (ix2 r n) = ∑ k : Fin 1024, h (ix2 ⟨8 + r, by omega⟩ k) * w (ix2 k n) := by
  pointwise! [k0_pay13, k0_pay12]

theorem payq_at (h : FVec Ideal S1040x1024 .bf16) (w : Vec Ideal S1024x1536 .bf16) (r : Fin 1024) (n : Fin 512) :
    k0_pay14 h w (ix3 0 r n) = (∑ k : Fin 1024, h (ix2 ⟨8 + r, by omega⟩ k) * w (ix2 k ⟨n, by omega⟩)) * cScale := by
  pointwise! [k0_pay14, qkv_at, cScale]

theorem payk_at (h : FVec Ideal S1040x1024 .bf16) (w : Vec Ideal S1024x1536 .bf16) (r : Fin 1024) (n : Fin 512) :
    k0_pay15 h w (ix3 0 n r) = ∑ k : Fin 1024, h (ix2 ⟨8 + r, by omega⟩ k) * w (ix2 k ⟨512 + n, by omega⟩) := by
  pointwise! [k0_pay15, qkv_at]

theorem payv_at (h : FVec Ideal S1040x1024 .bf16) (w : Vec Ideal S1024x1536 .bf16) (r : Fin 1024) (n : Fin 512) :
    k0_pay16 h w (ix3 0 r n) = ∑ k : Fin 1024, h (ix2 ⟨8 + r, by omega⟩ k) * w (ix2 k ⟨1024 + n, by omega⟩) := by
  pointwise! [k0_pay16, qkv_at]

theorem paylg_at (h : FVec Ideal S1040x1024 .bf16) (w : Vec Ideal S1024x256 .bf16) (r : Fin 1024) (n : Fin 256) :
    k0_pay17 h w (ix3 0 r n) = ∑ k : Fin 1024, h (ix2 ⟨8 + r, by omega⟩ k) * w (ix2 k n) := by
  pointwise! [k0_pay17, k0_pay12]

/-- The mark of a block that is not the first, and of one that is not the last. -/
def fMark (i : grid0.Coords) : EReal := FloatOps.sitofp (F := Ideal) FTy.f32 (Scalar.extui (Scalar.cmpi .sgt (BitVec.ofNat 32 (i 1).val) 0#32) : BitVec 32)
def lMark (a : BitVec 32) : EReal := FloatOps.sitofp (F := Ideal) FTy.f32 (Scalar.extui (Scalar.cmpi .slt a 15#32) : BitVec 32)

/-- The halo's rows before the block: zero in the first block. -/
theorem pre_at (i : grid0.Coords) (v0 : Vec Ideal S1x1024 .f32) (v2 v6 : Vec Ideal S1x1x1024 .f32) (v8 : Vec Ideal S1x8x1024 .f32) (r : Fin 8) (l : Fin 1024) :
    k0_pay5 i v0 v2 v6 v8 (ix2 r l) = (rmsRow (fun k => v8 (ix3 0 r k)) (fun k => v0 (ix2 0 k)) l * (1 + v2 (ix3 0 0 l)) + v6 (ix3 0 0 l)) * fMark i := by
  pointwise! [k0_pay5, gain_at, scale_at, shift_at, rmsRow, cLen, cEps, fMark]

theorem top_at (a : BitVec 32) (v1 v5 v7 : FVec Ideal S1x1024 .f32) (v30 v32 : FVec Ideal S8x1024 .f32) (v35 v36 : FVec Ideal S8x1 .f32)
    (v54 : Vec Ideal S1x1024x1024 .f32) (r : Fin 8) (l : Fin 1024) :
    k0_pay9 a v1 v5 v7 v30 v32 v35 v36 v54 (ix2 ⟨r, by omega⟩ l) = v30 (ix2 r l) := by
  pointwise! [k0_pay9]

/-- The halo's rows behind the block: zero in the last block. -/
theorem bot_at (a : BitVec 32) (v1 v5 v7 : FVec Ideal S1x1024 .f32) (v30 : FVec Ideal S8x1024 .f32) (v31 : Vec Ideal S1x8x1024 .f32)
    (v54 : Vec Ideal S1x1024x1024 .f32) (r : Fin 8) (l : Fin 1024) :
    k0_pay9 a v1 v5 v7 v30 (k0_pay6 v31) (k0_pay7 v31) k0_pay8 v54 (ix2 ⟨1032 + r, by omega⟩ l)
      = (rmsRow (fun k => v31 (ix3 0 r k)) (fun k => v1 (ix2 0 k)) l * v5 (ix2 0 l) + v7 (ix2 0 l)) * lMark a := by
  pointwise! [k0_pay9, k0_pay6, k0_pay7, k0_pay8, rmsRow, cLen, cEps, lMark]

theorem paypl_at (h : FVec Ideal S1040x1024 .bf16) (w : Vec Ideal S1024x256 .bf16) (q : Fin 1040) (n : Fin 256) :
    k0_pay11 h w (ix2 q n) = ∑ k : Fin 1024, h (ix2 q k) * w (ix2 k n) := by
  pointwise! [k0_pay11]

theorem paylu_at (b w0 w1 w2 w3 : Vec Ideal S1x256 .f32) (x0 x1 x2 x3 : Vec Ideal S1024x256 .f32) (r : Fin 1024) (n : Fin 256) :
    k0_pay1 (k0_pay918 b w0 x0) (k0_pay919 w1 x1) w2 x2 w3 x3 (ix3 0 r n)
      = conv4 (b (ix2 0 n)) ![w0 (ix2 0 n), w1 (ix2 0 n), w2 (ix2 0 n), w3 (ix2 0 n)] ![x0 (ix2 r n), x1 (ix2 r n), x2 (ix2 r n), x3 (ix2 r n)] := by
  pointwise! [k0_pay1, k0_pay918, k0_pay919, conv4]

/-- The block's and the halos' rows times the Hyena's columns of the weights. -/
theorem payhy_at (a : BitVec 32) (v1 v5 v7 : FVec Ideal S1x1024 .f32) (v30 v32 : FVec Ideal S8x1024 .f32) (v35 v36 : FVec Ideal S8x1 .f32)
    (v54 : Vec Ideal S1x1024x1024 .f32) (w : Vec Ideal S1024x768 .bf16) (q : Fin 1040) (n : Fin 768) :
    k0_pay10 a v1 v5 v7 v30 v32 v35 v36 v54 w (ix2 q n) = ∑ k : Fin 1024, k0_pay9 a v1 v5 v7 v30 v32 v35 v36 v54 (ix2 q k) * w (ix2 k n) := by
  pointwise! [k0_pay10]

theorem payu_at (v114 v116 : Vec Ideal S1x768 .f32) (v117 : Vec Ideal S1024x768 .f32) (v122 : Vec Ideal S1x768 .f32) (v123 : Vec Ideal S1024x768 .f32) (v127 : Vec Ideal S1x768 .f32) (v128 : Vec Ideal S1024x768 .f32) (r : Fin 1024) (n : Fin 768) :
    k0_pay18 v114 v116 v117 v122 v123 v127 v128 (ix2 r n)
      = conv3 (v114 (ix2 0 n)) ![v116 (ix2 0 n), v122 (ix2 0 n), v127 (ix2 0 n)] ![v117 (ix2 r n), v123 (ix2 r n), v128 (ix2 r n)] := by
  pointwise! [k0_pay18, conv3]

theorem payT0_at (v114 v116 : Vec Ideal S1x768 .f32) (v117 : Vec Ideal S1024x768 .f32) (v122 : Vec Ideal S1x768 .f32) (v123 : Vec Ideal S1024x768 .f32) (v127 : Vec Ideal S1x768 .f32) (v128 : Vec Ideal S1024x768 .f32) (q : Fin 256) (r : Fin 1024) :
    k0_pay19 v114 v116 v117 v122 v123 v127 v128 (ix2 q r) = k0_pay18 v114 v116 v117 v122 v123 v127 v128 (ix2 r ⟨0 + q, by omega⟩) := by
  pointwise! [k0_pay19]
theorem payT1_at (u : FVec Ideal S1024x768 .f32) (q : Fin 256) (r : Fin 1024) : k0_pay319 u (ix2 q r) = u (ix2 r ⟨256 + q, by omega⟩) := by
  pointwise! [k0_pay319]
theorem payT2_at (u : FVec Ideal S1024x768 .f32) (q : Fin 256) (r : Fin 1024) : k0_pay618 u (ix2 q r) = u (ix2 r ⟨512 + q, by omega⟩) := by
  pointwise! [k0_pay618]

/-- A stored tile: eight channels and 128 tokens of the transposed columns. -/
theorem tile_at (T : FVec Ideal S256x1024 .f32) (o : Fin 2 → ℕ) (h : S256x1024.Slices o S8x128) (hc : S8x128.ShapeCasts S1x1x1x8x128) (x : S1x1x1x8x128.Idx) (q : Fin 256) (r : Fin 1024)
    (hq : (q : ℕ) = o 0 + (x 3).val) (hr : (r : ℕ) = o 1 + (x 4).val) :
    shapeCast S1x1x1x8x128 (extractStridedSlice S8x128 o T h) hc x = T (ix2 q r) := by
  pointwise
  exact congrArg T (congrArg₂ ix2 (Fin.ext hq.symm) (Fin.ext hr.symm))

/-- The streams' array as the call leaves it, in the tokens' order. -/
theorem lay_at (x : FVec Ideal S2x32x2x512x128 .f32) (b : Fin 2) (r : Fin 16384) (l : Fin 256) :
    shapeCast S2x16384x256 (transpose S2x64x2x128x32x8 [0, 3, 2, 5, 1, 4] (shapeCast S2x32x2x64x8x128 x shapeCasts_S2x32x2x512x128_S2x32x2x64x8x128) transposes_S2x32x2x64x8x128_S2x64x2x128x32x8_0_3_2_5_1_4) shapeCasts_S2x64x2x128x32x8_S2x16384x256 (ix3 b r l)
      = x (ix5 b ⟨l / 8, by omega⟩ ⟨r / 128 % 2, by omega⟩ ⟨r / 256 * 8 + l % 8, by omega⟩ ⟨r % 128, by omega⟩) := by
  pointwise

end Cert.Inp
-- ==== Proof.Inp.Value.lean ====
/-
  The input projection's kernel at ideal: what its body leaves in the attention's and the recurrence's blocks and in its scratch, read at a row
  and a channel.
-/
module

public import proofs.«01_k».proof.Proof.Gen.Kernel3Ideal.Frame
public import proofs.«01_k».proof.Proof.Inp.Pay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Inp

open Cert.Kernel3Ideal Cert.Kernel3Ideal.Gen Idealize.ShloMosaic Idealize.ShloMosaic.TcCoe Idealize.SL.Sem Cert.Ffn

variable (m : (ℓ : Loc nD τ Cert.Kernel3Ideal.sig) → Buf (Elt Ideal) ℓ)

/-- One row of the projection's rows in the block, from the input blocks. -/
def blkP (X1 : Vec Ideal S1x1024x1024 .f32) (X3 X4 : Vec Ideal S1x1x1024 .f32) (X5 : Vec Ideal S1x1024 .f32) (X6 : Vec Ideal S1024x2816 .bf16)
    (r : Fin 1024) (n : Fin 2816) : EReal :=
  pRow (fun k => X1 (ix3 0 r k)) (fun k => X5 (ix2 0 k)) (fun k => X3 (ix3 0 0 k)) (fun k => X4 (ix3 0 0 k)) (fun k n => X6 (ix2 k n)) n

/-- The product of the modulated rows with some of the weight's columns is the projection's row at those columns. -/
theorem row_of (h : FVec Ideal S1040x1024 .bf16) (X1 : Vec Ideal S1x1024x1024 .f32) (X3 X4 : Vec Ideal S1x1x1024 .f32) (X5 : Vec Ideal S1x1024 .f32)
    (X6 : Vec Ideal S1024x2816 .bf16) (w : Fin 1024 → EReal) (r : Fin 1024) (n : Fin 2816) (hw : ∀ k, w k = X6 (ix2 k n))
    (a : BitVec 32) (v30 v32 : FVec Ideal S8x1024 .f32) (v35 v36 : FVec Ideal S8x1 .f32)
    (hh : h = k0_pay9 a (k0_pay2 X5) (k0_pay3 X3) (k0_pay4 X4) v30 v32 v35 v36 X1) :
    (∑ k : Fin 1024, h (ix2 ⟨8 + r, by omega⟩ k) * w k) = blkP X1 X3 X4 X5 X6 r n := by
  subst hh
  unfold blkP pRow hRow
  refine Finset.sum_congr rfl fun k _ => ?_
  rw [hw k, mid_at]
  simp only [gain_at, scale_at, shift_at]

/-- A block of the weight's columns, read at an index. -/
theorem ldw_at (X6 : Vec Ideal S1024x2816 .bf16) (k : Fin 1024) (n : Fin 1536) :
    View.ld X6 (Rect.unit (s := S1024x2816) ![0, 768] S1024x1536.size inb_S1024x2816_S1024x1536_0_768) (ix2 k n) = X6 (ix2 k ⟨768 + n, by omega⟩) :=
  congrArg X6 (by pointwise)
theorem ldg_at (X6 : Vec Ideal S1024x2816 .bf16) (k : Fin 1024) (n : Fin 256) :
    View.ld X6 (Rect.unit (s := S1024x2816) ![0, 2560] S1024x256.size inb_S1024x2816_S1024x256_0_2560) (ix2 k n) = X6 (ix2 k ⟨2560 + n, by omega⟩) :=
  congrArg X6 (by pointwise)

theorem after14_at (c : Dev nD) (t : Fin cfg0.N) (r : Fin 1024) (n : Fin 512) :
    ((dats m 0 c).after 14 t : Vec Ideal S1x1024x512 .bf16) (ix3 0 r n)
      = blkP (iblk m c 1 t) (iblk m c 3 t) (iblk m c 4 t) (iblk m c 5 t) (iblk m c 6 t) r ⟨768 + n, by omega⟩ * cScale := by
  rw [after0_14]
  unfold outsAt0
  dsimp only
  unfold out0_A_14
  frame_open
  simp (disch := decide) only [View.readAt_eq_ld, Memref.IsWhole.read_unread, View.read_writes_junk_eq_canon, View.canon_cons_unit_lit', View.ld_unit_lit']
  refine (payq_at _ _ r n).trans ?_
  refine congrArg (· * cScale) ?_
  exact row_of _ _ _ _ _ _ _ r _ (fun k => (ldw_at _ k _).trans (congrArg (fun j => (iblk m c 6 t : Vec Ideal S1024x2816 .bf16) (ix2 k j)) rfl)) _ _ _ _ _ rfl

theorem after15_at (c : Dev nD) (t : Fin cfg0.N) (r : Fin 1024) (n : Fin 512) :
    ((dats m 0 c).after 15 t : Vec Ideal S1x512x1024 .bf16) (ix3 0 n r)
      = blkP (iblk m c 1 t) (iblk m c 3 t) (iblk m c 4 t) (iblk m c 5 t) (iblk m c 6 t) r ⟨1280 + n, by omega⟩ := by
  rw [after0_15]
  unfold outsAt0
  dsimp only
  unfold out0_A_15
  frame_open
  simp (disch := decide) only [View.readAt_eq_ld, Memref.IsWhole.read_unread, View.read_writes_junk_eq_canon, View.canon_cons_unit_lit', View.ld_unit_lit']
  refine (payk_at _ _ r n).trans ?_
  exact row_of _ _ _ _ _ _ _ r _ (fun k => (ldw_at _ k _).trans (congrArg (fun j => (iblk m c 6 t : Vec Ideal S1024x2816 .bf16) (ix2 k j)) (Fin.ext (by simp only [Fin.val_mk]; omega)))) _ _ _ _ _ rfl

theorem after16_at (c : Dev nD) (t : Fin cfg0.N) (r : Fin 1024) (n : Fin 512) :
    ((dats m 0 c).after 16 t : Vec Ideal S1x1024x512 .bf16) (ix3 0 r n)
      = blkP (iblk m c 1 t) (iblk m c 3 t) (iblk m c 4 t) (iblk m c 5 t) (iblk m c 6 t) r ⟨1792 + n, by omega⟩ := by
  rw [after0_16]
  unfold outsAt0
  dsimp only
  unfold out0_A_16
  frame_open
  simp (disch := decide) only [View.readAt_eq_ld, Memref.IsWhole.read_unread, View.read_writes_junk_eq_canon, View.canon_cons_unit_lit', View.ld_unit_lit']
  refine (payv_at _ _ r n).trans ?_
  exact row_of _ _ _ _ _ _ _ r _ (fun k => (ldw_at _ k _).trans (congrArg (fun j => (iblk m c 6 t : Vec Ideal S1024x2816 .bf16) (ix2 k j)) (Fin.ext (by simp only [Fin.val_mk]; omega)))) _ _ _ _ _ rfl

theorem after18_at (c : Dev nD) (t : Fin cfg0.N) (r : Fin 1024) (n : Fin 256) :
    ((dats m 0 c).after 18 t : Vec Ideal S1x1024x256 .f32) (ix3 0 r n)
      = blkP (iblk m c 1 t) (iblk m c 3 t) (iblk m c 4 t) (iblk m c 5 t) (iblk m c 6 t) r ⟨2560 + n, by omega⟩ := by
  rw [after0_18]
  unfold outsAt0
  dsimp only
  unfold out0_A_18
  frame_open
  simp (disch := decide) only [View.readAt_eq_ld, Memref.IsWhole.read_unread, View.read_writes_junk_eq_canon, View.canon_cons_unit_lit', View.ld_unit_lit']
  refine (paylg_at _ _ r n).trans ?_
  exact row_of _ _ _ _ _ _ _ r _ (fun k => (ldg_at _ k _).trans (congrArg (fun j => (iblk m c 6 t : Vec Ideal S1024x2816 .bf16) (ix2 k j)) rfl)) _ _ _ _ _ rfl

/-- The modulated rows of a block, between its halos' rows. -/
def hBlk (c : Dev nD) (t : Fin cfg0.N) : FVec Ideal S1040x1024 .bf16 :=
  k0_pay9 (BitVec.ofNat 32 (grid0.coords t 1).val) (k0_pay2 (iblk m c 5 t)) (k0_pay3 (iblk m c 3 t)) (k0_pay4 (iblk m c 4 t))
    (k0_pay5 (grid0.coords t) (iblk m c 5 t) (iblk m c 3 t) (iblk m c 4 t) (iblk m c 0 t)) (k0_pay6 (iblk m c 2 t)) (k0_pay7 (iblk m c 2 t)) k0_pay8 (iblk m c 1 t)

/-- A row of the block and of its halos times a column of the weights. -/
def blkR (c : Dev nD) (t : Fin cfg0.N) (q : Fin 1040) (n : Fin 2816) : EReal :=
  ∑ k : Fin 1024, hBlk m c t (ix2 q k) * (iblk m c 6 t : Vec Ideal S1024x2816 .bf16) (ix2 k n)

/-- The same at a column that makes the RG-LRU's input. -/
def blkQ (c : Dev nD) (t : Fin cfg0.N) (q : Fin 1040) (n : Fin 256) : EReal := blkR m c t q ⟨2304 + n, by omega⟩

theorem ldx_at (X6 : Vec Ideal S1024x2816 .bf16) (k : Fin 1024) (n : Fin 256) :
    View.ld X6 (Rect.unit (s := S1024x2816) ![0, 2304] S1024x256.size inb_S1024x2816_S1024x256_0_2304) (ix2 k n) = X6 (ix2 k ⟨2304 + n, by omega⟩) :=
  congrArg X6 (by pointwise)

/-- The scratch's last columns hold the product stored last. -/
theorem scr_at (w : FVec Ideal S1040x256 .f32) (L : List (View.Piece (Elt Ideal) S1040x1024 .f32)) (q : Fin 1040) (n : Fin 256) :
    View.canon ((⟨Rect.unit (s := S1040x1024) ![0, 768] S1040x256.size inb_S1040x1024_S1040x256_0_768, w⟩ : View.Piece (Elt Ideal) S1040x1024 .f32) :: L) (ix2 q ⟨768 + n, by omega⟩) = w (ix2 q n) := by
  have e : (Rect.unit (s := S1040x1024) ![0, 768] S1040x256.size inb_S1040x1024_S1040x256_0_768).emb (ix2 q n) = ix2 q ⟨768 + n, by omega⟩ := by
    show (Rect.unit (s := S1040x1024) ![0, 768] S1040x256.size inb_S1040x1024_S1040x256_0_768).idx (ix2 q n) = _
    pointwise
  have h := View.canon_cons_emb (Val := Elt Ideal) (s := S1040x1024) (e := .f32) (Rect.unit (s := S1040x1024) ![0, 768] S1040x256.size inb_S1040x1024_S1040x256_0_768) w L (ix2 q n)
  rw [e] at h
  exact h

/-- The convolution's four weights and four rows, one by one. -/
theorem conv4_eq (b : EReal) (w x : Fin 4 → EReal) (w0 w1 w2 w3 x0 x1 x2 x3 : EReal) (a0 : w0 = w 0) (a1 : w1 = w 1) (a2 : w2 = w 2) (a3 : w3 = w 3)
    (e0 : x0 = x 0) (e1 : x1 = x 1) (e2 : x2 = x 2) (e3 : x3 = x 3) : conv4 b ![w0, w1, w2, w3] ![x0, x1, x2, x3] = conv4 b w x := by
  subst a0 a1 a2 a3 e0 e1 e2 e3
  rfl

theorem tap0 (X : Vec Ideal S4x256 .f32) (n : Fin 256) :
    View.ld X (Rect.unit (s := S4x256) ![0, 0] S1x256.size inb_S4x256_S1x256_0_0) (ix2 0 n) = X (ix2 0 n) :=
  congrArg X (by pointwise)
theorem tap1 (X : Vec Ideal S4x256 .f32) (n : Fin 256) :
    View.ld X (Rect.unit (s := S4x256) ![1, 0] S1x256.size inb_S4x256_S1x256_1_0) (ix2 0 n) = X (ix2 1 n) :=
  congrArg X (by pointwise)
theorem tap2 (X : Vec Ideal S4x256 .f32) (n : Fin 256) :
    View.ld X (Rect.unit (s := S4x256) ![2, 0] S1x256.size inb_S4x256_S1x256_2_0) (ix2 0 n) = X (ix2 2 n) :=
  congrArg X (by pointwise)
theorem tap3 (X : Vec Ideal S4x256 .f32) (n : Fin 256) :
    View.ld X (Rect.unit (s := S4x256) ![3, 0] S1x256.size inb_S4x256_S1x256_3_0) (ix2 0 n) = X (ix2 3 n) :=
  congrArg X (by pointwise)

theorem scr6 (w : FVec Ideal S1040x256 .f32) (L : List (View.Piece (Elt Ideal) S1040x1024 .f32)) (r : Fin 1024) (n : Fin 256) :
    View.canon ((⟨Rect.unit (s := S1040x1024) ![0, 768] S1040x256.size inb_S1040x1024_S1040x256_0_768, w⟩ : View.Piece (Elt Ideal) S1040x1024 .f32) :: L)
      ((Rect.unit (s := S1040x1024) ![6, 768] S1024x256.size inb_S1040x1024_S1024x256_6_768).idx (ix2 r n)) = w (ix2 ⟨6 + r, by omega⟩ n) := by
  have e : (Rect.unit (s := S1040x1024) ![6, 768] S1024x256.size inb_S1040x1024_S1024x256_6_768).idx (ix2 r n) = ix2 ⟨6 + r, by omega⟩ ⟨768 + n, by omega⟩ := by
    pointwise
  rw [e]
  exact scr_at w L _ n
theorem scr7 (w : FVec Ideal S1040x256 .f32) (L : List (View.Piece (Elt Ideal) S1040x1024 .f32)) (r : Fin 1024) (n : Fin 256) :
    View.canon ((⟨Rect.unit (s := S1040x1024) ![0, 768] S1040x256.size inb_S1040x1024_S1040x256_0_768, w⟩ : View.Piece (Elt Ideal) S1040x1024 .f32) :: L)
      ((Rect.unit (s := S1040x1024) ![7, 768] S1024x256.size inb_S1040x1024_S1024x256_7_768).idx (ix2 r n)) = w (ix2 ⟨7 + r, by omega⟩ n) := by
  have e : (Rect.unit (s := S1040x1024) ![7, 768] S1024x256.size inb_S1040x1024_S1024x256_7_768).idx (ix2 r n) = ix2 ⟨7 + r, by omega⟩ ⟨768 + n, by omega⟩ := by
    pointwise
  rw [e]
  exact scr_at w L _ n
theorem scr8 (w : FVec Ideal S1040x256 .f32) (L : List (View.Piece (Elt Ideal) S1040x1024 .f32)) (r : Fin 1024) (n : Fin 256) :
    View.canon ((⟨Rect.unit (s := S1040x1024) ![0, 768] S1040x256.size inb_S1040x1024_S1040x256_0_768, w⟩ : View.Piece (Elt Ideal) S1040x1024 .f32) :: L)
      ((Rect.unit (s := S1040x1024) ![8, 768] S1024x256.size inb_S1040x1024_S1024x256_8_768).idx (ix2 r n)) = w (ix2 ⟨8 + r, by omega⟩ n) := by
  have e : (Rect.unit (s := S1040x1024) ![8, 768] S1024x256.size inb_S1040x1024_S1024x256_8_768).idx (ix2 r n) = ix2 ⟨8 + r, by omega⟩ ⟨768 + n, by omega⟩ := by
    pointwise
  rw [e]
  exact scr_at w L _ n
theorem scr9 (w : FVec Ideal S1040x256 .f32) (L : List (View.Piece (Elt Ideal) S1040x1024 .f32)) (r : Fin 1024) (n : Fin 256) :
    View.canon ((⟨Rect.unit (s := S1040x1024) ![0, 768] S1040x256.size inb_S1040x1024_S1040x256_0_768, w⟩ : View.Piece (Elt Ideal) S1040x1024 .f32) :: L)
      ((Rect.unit (s := S1040x1024) ![9, 768] S1024x256.size inb_S1040x1024_S1024x256_9_768).idx (ix2 r n)) = w (ix2 ⟨9 + r, by omega⟩ n) := by
  have e : (Rect.unit (s := S1040x1024) ![9, 768] S1024x256.size inb_S1040x1024_S1024x256_9_768).idx (ix2 r n) = ix2 ⟨9 + r, by omega⟩ ⟨768 + n, by omega⟩ := by
    pointwise
  rw [e]
  exact scr_at w L _ n

theorem blkQ_eq (c : Dev nD) (t : Fin cfg0.N) (q : Fin 1040) (n : Fin 256) :
    k0_pay11 (hBlk m c t) (View.ld (iblk m c 6 t) (Rect.unit (s := S1024x2816) ![0, 2304] S1024x256.size inb_S1024x2816_S1024x256_0_2304)) (ix2 q n) = blkQ m c t q n := by
  rw [paypl_at]
  exact Finset.sum_congr rfl fun k _ => congrArg (hBlk m c t (ix2 q k) * ·) (ldx_at _ k n)

theorem after17_at (c : Dev nD) (t : Fin cfg0.N) (r : Fin 1024) (n : Fin 256) :
    ((dats m 0 c).after 17 t : Vec Ideal S1x1024x256 .f32) (ix3 0 r n)
      = conv4 ((iblk m c 10 t : Vec Ideal S1x256 .f32) (ix2 0 n)) (fun k => (iblk m c 9 t : Vec Ideal S4x256 .f32) (ix2 k n))
          (fun k => blkQ m c t ⟨6 + k + r, by omega⟩ n) := by
  rw [after0_17]
  unfold outsAt0
  dsimp only
  unfold out0_A_17
  frame_open
  simp (disch := decide) only [View.readAt_eq_ld, Memref.IsWhole.read_unread, View.read_writes_junk_eq_canon, View.canon_cons_unit_lit', View.ld_unit_lit', View.readCov_eq_canon']
  refine (paylu_at _ _ _ _ _ _ _ _ _ r n).trans ?_
  refine conv4_eq _ _ _ _ _ _ _ _ _ _ _ (tap0 _ n) (tap1 _ n) (tap2 _ n) (tap3 _ n) ?_ ?_ ?_ ?_
  · refine (scr6 _ _ r n).trans ((blkQ_eq m c t _ n).trans (congrArg (fun q => blkQ m c t q n) (Fin.ext ?_)))
    show 6 + r.val = 6 + 0 + r.val
    omega
  · refine (scr7 _ _ r n).trans ((blkQ_eq m c t _ n).trans (congrArg (fun q => blkQ m c t q n) (Fin.ext ?_)))
    show 7 + r.val = 6 + 1 + r.val
    omega
  · refine (scr8 _ _ r n).trans ((blkQ_eq m c t _ n).trans (congrArg (fun q => blkQ m c t q n) (Fin.ext ?_)))
    show 8 + r.val = 6 + 2 + r.val
    omega
  · refine (scr9 _ _ r n).trans ((blkQ_eq m c t _ n).trans (congrArg (fun q => blkQ m c t q n) (Fin.ext ?_)))
    show 9 + r.val = 6 + 3 + r.val
    omega

theorem ldh_at (X6 : Vec Ideal S1024x2816 .bf16) (k : Fin 1024) (n : Fin 768) :
    View.ld X6 (Rect.unit (s := S1024x2816) ![0, 0] S1024x768.size inb_S1024x2816_S1024x768_0_0) (ix2 k n) = X6 (ix2 k ⟨n, by omega⟩) :=
  congrArg X6 (by pointwise)

theorem blkH_eq (c : Dev nD) (t : Fin cfg0.N) (q : Fin 1040) (n : Fin 768) :
    k0_pay10 (BitVec.ofNat 32 (grid0.coords t 1).val) (k0_pay2 (iblk m c 5 t)) (k0_pay3 (iblk m c 3 t)) (k0_pay4 (iblk m c 4 t))
        (k0_pay5 (grid0.coords t) (iblk m c 5 t) (iblk m c 3 t) (iblk m c 4 t) (iblk m c 0 t)) (k0_pay6 (iblk m c 2 t)) (k0_pay7 (iblk m c 2 t)) k0_pay8 (iblk m c 1 t)
        (View.ld (iblk m c 6 t) (Rect.unit (s := S1024x2816) ![0, 0] S1024x768.size inb_S1024x2816_S1024x768_0_0)) (ix2 q n)
      = blkR m c t q ⟨n, by omega⟩ := by
  rw [payhy_at]
  exact Finset.sum_congr rfl fun k _ => congrArg (hBlk m c t (ix2 q k) * ·) (ldh_at _ k n)

/-- The scratch's first columns hold the product stored first. -/
theorem scrh_at (w' : FVec Ideal S1040x256 .f32) (w : FVec Ideal S1040x768 .f32) (L : List (View.Piece (Elt Ideal) S1040x1024 .f32)) (q : Fin 1040) (n : Fin 768) :
    View.canon ((⟨Rect.unit (s := S1040x1024) ![0, 768] S1040x256.size inb_S1040x1024_S1040x256_0_768, w'⟩ : View.Piece (Elt Ideal) S1040x1024 .f32)
      :: (⟨Rect.unit (s := S1040x1024) ![0, 0] S1040x768.size inb_S1040x1024_S1040x768_0_0, w⟩ : View.Piece (Elt Ideal) S1040x1024 .f32) :: L) (ix2 q ⟨n, by omega⟩) = w (ix2 q n) := by
  rw [View.canon_cons_of_not_mem _ _ (by
    intro h
    have h1 := ((Rect.mem_set_unit (s := S1040x1024) (off := ![0, 768]) (size := S1040x256.size) (inb := inb_S1040x1024_S1040x256_0_768)).mp h 1).1
    have h2 : 768 ≤ n.val := h1
    omega)]
  have e : (Rect.unit (s := S1040x1024) ![0, 0] S1040x768.size inb_S1040x1024_S1040x768_0_0).emb (ix2 q n) = ix2 q ⟨n, by omega⟩ := by
    show (Rect.unit (s := S1040x1024) ![0, 0] S1040x768.size inb_S1040x1024_S1040x768_0_0).idx (ix2 q n) = _
    pointwise
  have h := View.canon_cons_emb (Val := Elt Ideal) (s := S1040x1024) (e := .f32) (Rect.unit (s := S1040x1024) ![0, 0] S1040x768.size inb_S1040x1024_S1040x768_0_0) w L (ix2 q n)
  rw [e] at h
  exact h

/-- The convolution's three weights and three rows, one by one. -/
theorem conv3_eq (b : EReal) (w x : Fin 3 → EReal) (w0 w1 w2 x0 x1 x2 : EReal) (a0 : w0 = w 0) (a1 : w1 = w 1) (a2 : w2 = w 2)
    (e0 : x0 = x 0) (e1 : x1 = x 1) (e2 : x2 = x 2) : conv3 b ![w0, w1, w2] ![x0, x1, x2] = conv3 b w x := by
  subst a0 a1 a2 e0 e1 e2
  rfl

theorem taph0 (X : Vec Ideal S3x768 .f32) (n : Fin 768) :
    View.ld X (Rect.unit (s := S3x768) ![0, 0] S1x768.size inb_S3x768_S1x768_0_0) (ix2 0 n) = X (ix2 0 n) :=
  congrArg X (by pointwise)
theorem taph1 (X : Vec Ideal S3x768 .f32) (n : Fin 768) :
    View.ld X (Rect.unit (s := S3x768) ![1, 0] S1x768.size inb_S3x768_S1x768_1_0) (ix2 0 n) = X (ix2 1 n) :=
  congrArg X (by pointwise)
theorem taph2 (X : Vec Ideal S3x768 .f32) (n : Fin 768) :
    View.ld X (Rect.unit (s := S3x768) ![2, 0] S1x768.size inb_S3x768_S1x768_2_0) (ix2 0 n) = X (ix2 2 n) :=
  congrArg X (by pointwise)
theorem scrh7 (w' : FVec Ideal S1040x256 .f32) (w : FVec Ideal S1040x768 .f32) (L : List (View.Piece (Elt Ideal) S1040x1024 .f32)) (r : Fin 1024) (n : Fin 768) :
    View.canon ((⟨Rect.unit (s := S1040x1024) ![0, 768] S1040x256.size inb_S1040x1024_S1040x256_0_768, w'⟩ : View.Piece (Elt Ideal) S1040x1024 .f32)
      :: (⟨Rect.unit (s := S1040x1024) ![0, 0] S1040x768.size inb_S1040x1024_S1040x768_0_0, w⟩ : View.Piece (Elt Ideal) S1040x1024 .f32) :: L)
      ((Rect.unit (s := S1040x1024) ![7, 0] S1024x768.size inb_S1040x1024_S1024x768_7_0).idx (ix2 r n)) = w (ix2 ⟨7 + r, by omega⟩ n) := by
  have e : (Rect.unit (s := S1040x1024) ![7, 0] S1024x768.size inb_S1040x1024_S1024x768_7_0).idx (ix2 r n) = ix2 ⟨7 + r, by omega⟩ ⟨n, by omega⟩ := by
    pointwise
  rw [e]
  exact scrh_at w' w L _ n
theorem scrh8 (w' : FVec Ideal S1040x256 .f32) (w : FVec Ideal S1040x768 .f32) (L : List (View.Piece (Elt Ideal) S1040x1024 .f32)) (r : Fin 1024) (n : Fin 768) :
    View.canon ((⟨Rect.unit (s := S1040x1024) ![0, 768] S1040x256.size inb_S1040x1024_S1040x256_0_768, w'⟩ : View.Piece (Elt Ideal) S1040x1024 .f32)
      :: (⟨Rect.unit (s := S1040x1024) ![0, 0] S1040x768.size inb_S1040x1024_S1040x768_0_0, w⟩ : View.Piece (Elt Ideal) S1040x1024 .f32) :: L)
      ((Rect.unit (s := S1040x1024) ![8, 0] S1024x768.size inb_S1040x1024_S1024x768_8_0).idx (ix2 r n)) = w (ix2 ⟨8 + r, by omega⟩ n) := by
  have e : (Rect.unit (s := S1040x1024) ![8, 0] S1024x768.size inb_S1040x1024_S1024x768_8_0).idx (ix2 r n) = ix2 ⟨8 + r, by omega⟩ ⟨n, by omega⟩ := by
    pointwise
  rw [e]
  exact scrh_at w' w L _ n
theorem scrh9 (w' : FVec Ideal S1040x256 .f32) (w : FVec Ideal S1040x768 .f32) (L : List (View.Piece (Elt Ideal) S1040x1024 .f32)) (r : Fin 1024) (n : Fin 768) :
    View.canon ((⟨Rect.unit (s := S1040x1024) ![0, 768] S1040x256.size inb_S1040x1024_S1040x256_0_768, w'⟩ : View.Piece (Elt Ideal) S1040x1024 .f32)
      :: (⟨Rect.unit (s := S1040x1024) ![0, 0] S1040x768.size inb_S1040x1024_S1040x768_0_0, w⟩ : View.Piece (Elt Ideal) S1040x1024 .f32) :: L)
      ((Rect.unit (s := S1040x1024) ![9, 0] S1024x768.size inb_S1040x1024_S1024x768_9_0).idx (ix2 r n)) = w (ix2 ⟨9 + r, by omega⟩ n) := by
  have e : (Rect.unit (s := S1040x1024) ![9, 0] S1024x768.size inb_S1040x1024_S1024x768_9_0).idx (ix2 r n) = ix2 ⟨9 + r, by omega⟩ ⟨n, by omega⟩ := by
    pointwise
  rw [e]
  exact scrh_at w' w L _ n

/-- The convolved Hyena columns of the block, at a token and a channel. -/
def blkU (c : Dev nD) (t : Fin cfg0.N) (r : Fin 1024) (n : Fin 768) : EReal :=
  conv3 ((iblk m c 8 t : Vec Ideal S1x768 .f32) (ix2 0 n)) (fun k => (iblk m c 7 t : Vec Ideal S3x768 .f32) (ix2 k n))
    (fun k => blkR m c t ⟨7 + k + r, by omega⟩ ⟨n, by omega⟩)

end Cert.Inp
-- ==== Proof.Inp.Hy0.lean ====
/-
  The input projection's kernel at ideal: what its body leaves in the Hyena stream 0's block.
-/
module

public import proofs.«01_k».proof.Proof.Inp.Value

@[expose] public section

set_option maxRecDepth 16384

noncomputable section

namespace Cert.Inp

open Cert.Kernel3Ideal Cert.Kernel3Ideal.Gen Idealize.ShloMosaic Idealize.ShloMosaic.TcCoe Idealize.SL.Sem Cert.Ffn

variable (m : (ℓ : Loc nD τ Cert.Kernel3Ideal.sig) → Buf (Elt Ideal) ℓ)

set_option maxHeartbeats 40000000 in
theorem after11_at (c : Dev nD) (t : Fin cfg0.N) (y : S1x32x2x32x128.Idx) (r : Fin 1024) (q : Fin 256)
    (hr : r.val = 256 * ((y 3).val / 8) + 128 * (y 2).val + (y 4).val) (hq : q.val = 8 * (y 1).val + (y 3).val % 8) :
    ((dats m 0 c).after 11 t : Vec Ideal S1x32x2x32x128 .f32) y = blkU m c t r ⟨0 + q, by omega⟩ := by
  rw [after0_11]
  unfold outsAt0
  dsimp only
  unfold out0_A_11
  frame_open
  rw [View.read_writes_junk_eq_canon]
  unfold k0_pay20 k0_pay21 k0_pay22
  generalize hT : k0_pay19 (F := Ideal) _ _ _ _ _ _ _ = T
  refine Eq.trans (b := T (ix2 q r)) ?_ ?_
  · clear hT
    canon_tiles x h
    all_goals (open_payloads; refine tile_at T _ _ _ _ q r ?_ ?_ <;> simp only [Matrix.cons_val] <;> omega)
  · subst hT
    rw [payT0_at]
    simp (disch := decide) only [View.readAt_eq_ld, Memref.IsWhole.read_unread, View.canon_cons_unit_lit', View.ld_unit_lit', View.readCov_eq_canon']
    refine (payu_at _ _ _ _ _ _ _ r _).trans ?_
    refine conv3_eq _ _ _ _ _ _ _ _ _ (taph0 _ _) (taph1 _ _) (taph2 _ _) ?_ ?_ ?_
    · refine (scrh7 _ _ _ r _).trans ((blkH_eq m c t _ _).trans (congrArg (fun q => blkR m c t q _) (Fin.ext ?_)))
      show 7 + r.val = 7 + 0 + r.val
      omega
    · refine (scrh8 _ _ _ r _).trans ((blkH_eq m c t _ _).trans (congrArg (fun q => blkR m c t q _) (Fin.ext ?_)))
      show 8 + r.val = 7 + 1 + r.val
      omega
    · refine (scrh9 _ _ _ r _).trans ((blkH_eq m c t _ _).trans (congrArg (fun q => blkR m c t q _) (Fin.ext ?_)))
      show 9 + r.val = 7 + 2 + r.val
      omega

end Cert.Inp
-- ==== Proof.Inp.Hy1.lean ====
/-
  The input projection's kernel at ideal: what its body leaves in the Hyena stream 1's block.
-/
module

public import proofs.«01_k».proof.Proof.Inp.Value

@[expose] public section

set_option maxRecDepth 16384

noncomputable section

namespace Cert.Inp

open Cert.Kernel3Ideal Cert.Kernel3Ideal.Gen Idealize.ShloMosaic Idealize.ShloMosaic.TcCoe Idealize.SL.Sem Cert.Ffn

variable (m : (ℓ : Loc nD τ Cert.Kernel3Ideal.sig) → Buf (Elt Ideal) ℓ)

set_option maxHeartbeats 40000000 in
theorem after12_at (c : Dev nD) (t : Fin cfg0.N) (y : S1x32x2x32x128.Idx) (r : Fin 1024) (q : Fin 256)
    (hr : r.val = 256 * ((y 3).val / 8) + 128 * (y 2).val + (y 4).val) (hq : q.val = 8 * (y 1).val + (y 3).val % 8) :
    ((dats m 0 c).after 12 t : Vec Ideal S1x32x2x32x128 .f32) y = blkU m c t r ⟨256 + q, by omega⟩ := by
  rw [after0_12]
  unfold outsAt0
  dsimp only
  unfold out0_A_12
  frame_open
  rw [View.read_writes_junk_eq_canon]
  generalize hU : k0_pay18 (F := Ideal) _ _ _ _ _ _ _ = U
  refine Eq.trans (b := k0_pay319 U (ix2 q r)) ?_ ?_
  · clear hU
    canon_tiles x h
    all_goals (open_payloads; refine tile_at (k0_pay319 U) _ _ _ _ q r ?_ ?_ <;> simp only [Matrix.cons_val] <;> omega)
  · rw [payT1_at, ← hU]
    clear hU
    simp (disch := decide) only [View.readAt_eq_ld, Memref.IsWhole.read_unread, View.canon_cons_unit_lit', View.ld_unit_lit', View.readCov_eq_canon']
    refine (payu_at _ _ _ _ _ _ _ r _).trans ?_
    refine conv3_eq _ _ _ _ _ _ _ _ _ (taph0 _ _) (taph1 _ _) (taph2 _ _) ?_ ?_ ?_
    · refine (scrh7 _ _ _ r _).trans ((blkH_eq m c t _ _).trans (congrArg (fun q => blkR m c t q _) (Fin.ext ?_)))
      show 7 + r.val = 7 + 0 + r.val
      omega
    · refine (scrh8 _ _ _ r _).trans ((blkH_eq m c t _ _).trans (congrArg (fun q => blkR m c t q _) (Fin.ext ?_)))
      show 8 + r.val = 7 + 1 + r.val
      omega
    · refine (scrh9 _ _ _ r _).trans ((blkH_eq m c t _ _).trans (congrArg (fun q => blkR m c t q _) (Fin.ext ?_)))
      show 9 + r.val = 7 + 2 + r.val
      omega

end Cert.Inp
-- ==== Proof.Inp.Hy2.lean ====
/-
  The input projection's kernel at ideal: what its body leaves in the Hyena stream 2's block.
-/
module

public import proofs.«01_k».proof.Proof.Inp.Value

@[expose] public section

set_option maxRecDepth 16384

noncomputable section

namespace Cert.Inp

open Cert.Kernel3Ideal Cert.Kernel3Ideal.Gen Idealize.ShloMosaic Idealize.ShloMosaic.TcCoe Idealize.SL.Sem Cert.Ffn

variable (m : (ℓ : Loc nD τ Cert.Kernel3Ideal.sig) → Buf (Elt Ideal) ℓ)

set_option maxHeartbeats 40000000 in
theorem after13_at (c : Dev nD) (t : Fin cfg0.N) (y : S1x32x2x32x128.Idx) (r : Fin 1024) (q : Fin 256)
    (hr : r.val = 256 * ((y 3).val / 8) + 128 * (y 2).val + (y 4).val) (hq : q.val = 8 * (y 1).val + (y 3).val % 8) :
    ((dats m 0 c).after 13 t : Vec Ideal S1x32x2x32x128 .f32) y = blkU m c t r ⟨512 + q, by omega⟩ := by
  rw [after0_13]
  unfold outsAt0
  dsimp only
  unfold out0_A_13
  frame_open
  rw [View.read_writes_junk_eq_canon]
  generalize hU : k0_pay18 (F := Ideal) _ _ _ _ _ _ _ = U
  refine Eq.trans (b := k0_pay618 U (ix2 q r)) ?_ ?_
  · clear hU
    canon_tiles x h
    all_goals (open_payloads; refine tile_at (k0_pay618 U) _ _ _ _ q r ?_ ?_ <;> simp only [Matrix.cons_val] <;> omega)
  · rw [payT2_at, ← hU]
    clear hU
    simp (disch := decide) only [View.readAt_eq_ld, Memref.IsWhole.read_unread, View.canon_cons_unit_lit', View.ld_unit_lit', View.readCov_eq_canon']
    refine (payu_at _ _ _ _ _ _ _ r _).trans ?_
    refine conv3_eq _ _ _ _ _ _ _ _ _ (taph0 _ _) (taph1 _ _) (taph2 _ _) ?_ ?_ ?_
    · refine (scrh7 _ _ _ r _).trans ((blkH_eq m c t _ _).trans (congrArg (fun q => blkR m c t q _) (Fin.ext ?_)))
      show 7 + r.val = 7 + 0 + r.val
      omega
    · refine (scrh8 _ _ _ r _).trans ((blkH_eq m c t _ _).trans (congrArg (fun q => blkR m c t q _) (Fin.ext ?_)))
      show 8 + r.val = 7 + 1 + r.val
      omega
    · refine (scrh9 _ _ _ r _).trans ((blkH_eq m c t _ _).trans (congrArg (fun q => blkR m c t q _) (Fin.ext ?_)))
      show 9 + r.val = 7 + 2 + r.val
      omega

end Cert.Inp
-- ==== Proof.Inp.Final.lean ====
/-
  The input projection's kernel at ideal: its results after the run are the reference's terms over the arguments.
-/
module

public import proofs.«01_k».proof.Proof.Inp.Hy0
public import proofs.«01_k».proof.Proof.Inp.Hy1
public import proofs.«01_k».proof.Proof.Inp.Hy2
public import Idealize.ShloMosaic.Lib.Claim

@[expose] public section

set_option maxRecDepth 16384

noncomputable section

namespace Cert.Inp

open Cert.Kernel3Ideal Cert.Kernel3Ideal.Gen Idealize.ShloMosaic Idealize.ShloMosaic.TcCoe Idealize.SL.Sem

variable (m : (ℓ : Loc nD τ Cert.Kernel3Ideal.sig) → Buf (Elt Ideal) ℓ)

/-- The blocks of the grid's points: point `t` is batch entry `t / 16`, rows `t % 16 * 1024` on. -/
theorem idx : ∀ t : Fin cfg0.N, win0_1.index t = ![t.val / 16, t.val % 16, 0] ∧ win0_3.index t = ![t.val / 16, 0, 0]
    ∧ win0_4.index t = ![t.val / 16, 0, 0] ∧ win0_5.index t = ![0, 0] ∧ win0_6.index t = ![0, 0]
    ∧ win0_14.index t = ![t.val / 16, t.val % 16, 0] ∧ win0_15.index t = ![t.val / 16, 0, t.val % 16]
    ∧ win0_16.index t = ![t.val / 16, t.val % 16, 0] ∧ win0_18.index t = ![t.val / 16, t.val % 16, 0]
    ∧ win0_0.index t = ![t.val / 16, t.val % 16 * 128 - 1, 0] ∧ win0_2.index t = ![t.val / 16, min ((t.val % 16 + 1) * 128) 2047, 0]
    ∧ win0_9.index t = ![0, 0] ∧ win0_10.index t = ![0, 0] ∧ win0_17.index t = ![t.val / 16, t.val % 16, 0] ∧ t.val / 16 < 2
    ∧ win0_7.index t = ![0, 0] ∧ win0_8.index t = ![0, 0] ∧ win0_11.index t = ![t.val / 16, 0, 0, t.val % 16, 0]
    ∧ win0_12.index t = ![t.val / 16, 0, 0, t.val % 16, 0] ∧ win0_13.index t = ![t.val / 16, 0, 0, t.val % 16, 0] :=
  (by decide +kernel : ∀ t : Fin grid0.N, _)

/-- The batch entry and the row of the array at a point. -/
def bOf (t : Fin cfg0.N) : Fin 2 := ⟨t.val / 16, by have := idx t; omega⟩
def rOf (t : Fin cfg0.N) (r : Fin 1024) : Fin 16384 := ⟨t.val % 16 * 1024 + r, by omega⟩

theorem rd1 (c : Dev nD) (t : Fin cfg0.N) (r k : Fin 1024) :
    (iblk m c 1 t : Vec Ideal S1x1024x1024 .f32) (ix3 0 r k) = m ((c : Thread nD τ).loc main_arg0) (ix3 (bOf t) (rOf t r) k) := by
  blk_point [iblk, V, List.flatten_cons, List.flatten_nil, List.append_nil, idx t, bOf, rOf]

/-- What the host makes of the scales, the shifts and the gain before the call. -/
theorem sc_eq (c : Dev nD) : V m c main_v0 = broadcastInDim S2x1x1024 ![0, 2] bcast_S2x1024_S2x1x1024_0_2 (m ((c : Thread nD τ).loc main_arg2)) := by
  unfold V V0
  simp only [List.flatten_cons, List.flatten_nil, List.append_nil]
  after_results_simp
theorem sh_eq (c : Dev nD) : V m c main_v1 = broadcastInDim S2x1x1024 ![0, 2] bcast_S2x1024_S2x1x1024_0_2 (m ((c : Thread nD τ).loc main_arg3)) := by
  unfold V V0
  simp only [List.flatten_cons, List.flatten_nil, List.append_nil]
  after_results_simp
theorem gain_eq (c : Dev nD) : V m c main_v2 = shapeCast S1x1024 (m ((c : Thread nD τ).loc main_arg1)) shapeCasts_S1024_S1x1024 := by
  unfold V V0
  simp only [List.flatten_cons, List.flatten_nil, List.append_nil]
  after_results_simp
  rfl

theorem rd3 (c : Dev nD) (t : Fin cfg0.N) (k : Fin 1024) :
    (iblk m c 3 t : Vec Ideal S1x1x1024 .f32) (ix3 0 0 k) = m ((c : Thread nD τ).loc main_arg2) (ix2 (bOf t) k) := by
  have e : ((cfg0.win 3).blk t).view.emb (ix3 0 0 k) = ix3 (bOf t) 0 k := by
    blk_ext [idx t, bOf]
  show V m c main_v0 (((cfg0.win 3).blk t).view.emb (ix3 0 0 k)) = _
  rw [sc_eq]
  refine (congrArg _ e).trans ?_
  pointwise

theorem rd4 (c : Dev nD) (t : Fin cfg0.N) (k : Fin 1024) :
    (iblk m c 4 t : Vec Ideal S1x1x1024 .f32) (ix3 0 0 k) = m ((c : Thread nD τ).loc main_arg3) (ix2 (bOf t) k) := by
  have e : ((cfg0.win 4).blk t).view.emb (ix3 0 0 k) = ix3 (bOf t) 0 k := by
    blk_ext [idx t, bOf]
  show V m c main_v1 (((cfg0.win 4).blk t).view.emb (ix3 0 0 k)) = _
  rw [sh_eq]
  refine (congrArg _ e).trans ?_
  pointwise

theorem rd5 (c : Dev nD) (t : Fin cfg0.N) (k : Fin 1024) :
    (iblk m c 5 t : Vec Ideal S1x1024 .f32) (ix2 0 k) = m ((c : Thread nD τ).loc main_arg1) (ix1 k) := by
  have e : ((cfg0.win 5).blk t).view.emb (ix2 0 k) = ix2 0 k := by
    blk_ext [idx t]
  show V m c main_v2 (((cfg0.win 5).blk t).view.emb (ix2 0 k)) = _
  rw [gain_eq]
  refine (congrArg _ e).trans ?_
  pointwise

theorem rd6 (c : Dev nD) (t : Fin cfg0.N) (k : Fin 1024) (n : Fin 2816) :
    (iblk m c 6 t : Vec Ideal S1024x2816 .bf16) (ix2 k n) = m ((c : Thread nD τ).loc main_arg4) (ix2 k n) := by
  blk_point [iblk, V, List.flatten_cons, List.flatten_nil, List.append_nil, idx t, bOf, rOf]

/-- The reference's projection over the arguments. -/
def pAll (c : Dev nD) : FVec Ideal Cert.Reference3Ideal.S2x16384x2816 .f32 :=
  pOf (m ((c : Thread nD τ).loc main_arg0)) (m ((c : Thread nD τ).loc main_arg1)) (m ((c : Thread nD τ).loc main_arg2)) (m ((c : Thread nD τ).loc main_arg3)) (m ((c : Thread nD τ).loc main_arg4))

/-- A row of the block's projection is the reference's row. -/
theorem blkP_at (c : Dev nD) (t : Fin cfg0.N) (r : Fin 1024) (n : Fin 2816) :
    blkP (iblk m c 1 t) (iblk m c 3 t) (iblk m c 4 t) (iblk m c 5 t) (iblk m c 6 t) r n = pAll m c (ix3 (bOf t) (rOf t r) n) := by
  unfold blkP pAll
  rw [Ref.p_at]
  simp only [rd1, rd3, rd4, rd5, rd6]

/-- The keys as the call leaves them: channel by row. -/
def kT (p : FVec Ideal Cert.Reference3Ideal.S2x16384x2816 .f32) : FVec Ideal S2x512x16384 .bf16 := fun y => kOf (F := Ideal) p (ix3 (y 0) (y 2) (y 1))

theorem kT_at (p : FVec Ideal Cert.Reference3Ideal.S2x16384x2816 .f32) (b : Fin 2) (r : Fin 16384) (l : Fin 512) :
    kT p (ix3 b l r) = p (ix3 b r ⟨1280 + l, by omega⟩) := Ref.k_at p b r l

theorem arr14 (c : Dev nD) : (dats m 0 c).arrAt 14 cfg0.N = qOf (F := Ideal) (pAll m c) := by
  refine (dats m 0 c).arrAt_eq_of_covers 14 _ (by decide +kernel) fun t _ y => ?_
  blk_simp
  idx_vars y
  obtain rfl : y0 = 0 := Subsingleton.elim _ _
  refine (after14_at m c t y1 y2).trans ?_
  have e : ((cfg0.win 14).blk t).view.emb (ix3 0 y1 y2) = ix3 (bOf t) (rOf t y1) y2 := by
    blk_ext [idx t, bOf, rOf]
  refine Eq.trans ?_ (congrArg _ e).symm
  rw [blkP_at]
  exact (Ref.q_at (pAll m c) (bOf t) (rOf t y1) y2).symm

theorem arr15 (c : Dev nD) : (dats m 0 c).arrAt 15 cfg0.N = kT (pAll m c) := by
  refine (dats m 0 c).arrAt_eq_of_covers 15 _ (by decide +kernel) fun t _ y => ?_
  blk_simp
  idx_vars y
  obtain rfl : y0 = 0 := Subsingleton.elim _ _
  refine (after15_at m c t y2 y1).trans ?_
  have e : ((cfg0.win 15).blk t).view.emb (ix3 0 y1 y2) = ix3 (bOf t) y1 (rOf t y2) := by
    blk_ext [idx t, bOf, rOf]
  refine Eq.trans ?_ (congrArg _ e).symm
  rw [blkP_at]
  exact (kT_at (pAll m c) (bOf t) (rOf t y2) y1).symm

theorem arr16 (c : Dev nD) : (dats m 0 c).arrAt 16 cfg0.N = vOf (F := Ideal) (pAll m c) := by
  refine (dats m 0 c).arrAt_eq_of_covers 16 _ (by decide +kernel) fun t _ y => ?_
  blk_simp
  idx_vars y
  obtain rfl : y0 = 0 := Subsingleton.elim _ _
  refine (after16_at m c t y1 y2).trans ?_
  have e : ((cfg0.win 16).blk t).view.emb (ix3 0 y1 y2) = ix3 (bOf t) (rOf t y1) y2 := by
    blk_ext [idx t, bOf, rOf]
  refine Eq.trans ?_ (congrArg _ e).symm
  rw [blkP_at]
  exact (Ref.v_at (pAll m c) (bOf t) (rOf t y1) y2).symm

theorem arr18 (c : Dev nD) : (dats m 0 c).arrAt 18 cfg0.N = lgOf (F := Ideal) (pAll m c) := by
  refine (dats m 0 c).arrAt_eq_of_covers 18 _ (by decide +kernel) fun t _ y => ?_
  blk_simp
  idx_vars y
  obtain rfl : y0 = 0 := Subsingleton.elim _ _
  refine (after18_at m c t y1 y2).trans ?_
  have e : ((cfg0.win 18).blk t).view.emb (ix3 0 y1 y2) = ix3 (bOf t) (rOf t y1) y2 := by
    blk_ext [idx t, bOf, rOf]
  refine Eq.trans ?_ (congrArg _ e).symm
  rw [blkP_at]
  exact (Ref.lg_at (pAll m c) (bOf t) (rOf t y1) y2).symm

/-- The marks of the first and of the last block of a sequence. -/
theorem mark0 : ∀ t : Fin cfg0.N, (Scalar.extui (Scalar.cmpi .sgt (BitVec.ofNat 32 (grid0.coords t 1).val) 0#32) : BitVec 32) = if t.val % 16 = 0 then 0#32 else 1#32 :=
  (by decide +kernel : ∀ t : Fin grid0.N, _)
theorem mark1 : ∀ t : Fin cfg0.N, (Scalar.extui (Scalar.cmpi .slt (BitVec.ofNat 32 (grid0.coords t 1).val) 15#32) : BitVec 32) = if t.val % 16 = 15 then 0#32 else 1#32 :=
  (by decide +kernel : ∀ t : Fin grid0.N, _)

theorem zero_f : FloatOps.sitofp (F := Ideal) FTy.f32 0#32 = 0 := Ref.zero_word
theorem one_f : FloatOps.sitofp (F := Ideal) FTy.f32 1#32 = 1 := by
  simp [FloatOps.sitofp]

theorem fMark_at (t : Fin cfg0.N) : fMark (grid0.coords t) = if t.val % 16 = 0 then 0 else 1 := by
  unfold fMark
  rw [mark0 t]
  split
  · exact zero_f
  · exact one_f
theorem lMark_at (t : Fin cfg0.N) : lMark (BitVec.ofNat 32 (grid0.coords t 1).val) = if t.val % 16 = 15 then 0 else 1 := by
  unfold lMark
  rw [mark1 t]
  split
  · exact zero_f
  · exact one_f

/-- The halos' rows are the tokens before the block and behind it. -/
theorem rd0 (c : Dev nD) (t : Fin cfg0.N) (ht : t.val % 16 ≠ 0) (q : Fin 8) (k : Fin 1024) :
    (iblk m c 0 t : Vec Ideal S1x8x1024 .f32) (ix3 0 q k) = m ((c : Thread nD τ).loc main_arg0) (ix3 (bOf t) ⟨t.val % 16 * 1024 + q - 8, by omega⟩ k) := by
  blk_point [iblk, V, List.flatten_cons, List.flatten_nil, List.append_nil, idx t, bOf]
theorem rd2 (c : Dev nD) (t : Fin cfg0.N) (ht : t.val % 16 ≠ 15) (q : Fin 8) (k : Fin 1024) :
    (iblk m c 2 t : Vec Ideal S1x8x1024 .f32) (ix3 0 q k) = m ((c : Thread nD τ).loc main_arg0) (ix3 (bOf t) ⟨t.val % 16 * 1024 + 1024 + q, by omega⟩ k) := by
  blk_point [iblk, V, List.flatten_cons, List.flatten_nil, List.append_nil, idx t, bOf]

theorem rd9 (c : Dev nD) (t : Fin cfg0.N) (k : Fin 4) (n : Fin 256) :
    (iblk m c 9 t : Vec Ideal S4x256 .f32) (ix2 k n) = m ((c : Thread nD τ).loc main_arg7) (ix2 k n) := by
  blk_point [iblk, V, List.flatten_cons, List.flatten_nil, List.append_nil, idx t]

theorem lcb_eq (c : Dev nD) : V m c main_v5 = shapeCast S1x256 (m ((c : Thread nD τ).loc main_arg8)) shapeCasts_S256_S1x256 := by
  unfold V V0
  simp only [List.flatten_cons, List.flatten_nil, List.append_nil]
  after_results_simp
  rfl
theorem rd10 (c : Dev nD) (t : Fin cfg0.N) (n : Fin 256) :
    (iblk m c 10 t : Vec Ideal S1x256 .f32) (ix2 0 n) = m ((c : Thread nD τ).loc main_arg8) (ix1 n) := by
  have e : ((cfg0.win 10).blk t).view.emb (ix2 0 n) = ix2 0 n := by
    blk_ext [idx t]
  show V m c main_v5 (((cfg0.win 10).blk t).view.emb (ix2 0 n)) = _
  rw [lcb_eq]
  refine (congrArg _ e).trans ?_
  pointwise

/-- A row of the block or of its halos, times a column of the weights: the reference's row of the token, zero
where the sequence has none. -/
theorem blkR_at (c : Dev nD) (t : Fin cfg0.N) (q : ℕ) (hq : q < 1040) (n : Fin 2816) :
    blkR m c t ⟨q, hq⟩ n = padded 8 (fun s => pAll m c (ix3 (bOf t) s n)) (t.val % 16 * 1024 + q) := by
  unfold padded
  rcases Nat.lt_or_ge q 8 with h0 | h0
  · have e : ∀ k, hBlk m c t (ix2 ⟨q, hq⟩ k) = _ := fun k => top_at _ _ _ _ _ _ _ _ _ ⟨q, h0⟩ k
    unfold blkR
    simp only [e, pre_at, fMark_at]
    rcases Nat.eq_zero_or_pos (t.val % 16) with ht | ht
    · rw [dif_neg (by omega), if_pos ht]
      simp only [mul_zero, zero_mul, Finset.sum_const_zero]
    · rw [dif_pos (by omega), if_neg (by omega)]
      unfold pAll
      rw [Ref.p_at]
      simp only [rd0 m c t (by omega), rd3, rd4, rd5, rd6, mul_one]
      rfl
  rcases Nat.lt_or_ge q 1032 with h1 | h1
  · obtain ⟨r, rfl⟩ := Nat.exists_eq_add_of_le h0
    rw [dif_pos (by omega)]
    have e := row_of (hBlk m c t) (iblk m c 1 t) (iblk m c 3 t) (iblk m c 4 t) (iblk m c 5 t) (iblk m c 6 t) (fun k => (iblk m c 6 t : Vec Ideal S1024x2816 .bf16) (ix2 k n)) ⟨r, by omega⟩ n (fun _ => rfl) _ _ _ _ _ rfl
    rw [blkP_at] at e
    refine e.trans (congrArg (fun s => pAll m c (ix3 (bOf t) s n)) ?_)
    exact Fin.ext (by simp only [rOf]; omega)
  · obtain ⟨r, rfl⟩ := Nat.exists_eq_add_of_le h1
    have e : ∀ k, hBlk m c t (ix2 ⟨1032 + r, hq⟩ k) = _ := fun k => bot_at _ _ _ _ _ _ _ ⟨r, by omega⟩ k
    unfold blkR
    simp only [e, gain_at, scale_at, shift_at, lMark_at]
    by_cases ht : t.val % 16 = 15
    · rw [dif_neg (by omega), if_pos ht]
      simp only [mul_zero, zero_mul, Finset.sum_const_zero]
    · rw [dif_pos (by omega), if_neg ht]
      unfold pAll
      rw [Ref.p_at]
      simp only [rd2 m c t ht, rd3, rd4, rd5, rd6, mul_one]
      have es : (⟨t.val % 16 * 1024 + (1032 + r) - 8, by omega⟩ : Fin 16384) = ⟨t.val % 16 * 1024 + 1024 + r, by omega⟩ := Fin.ext (by simp only []; omega)
      rw [es]
      rfl

theorem blkQ_at (c : Dev nD) (t : Fin cfg0.N) (q : ℕ) (hq : q < 1040) (n : Fin 256) :
    blkQ m c t ⟨q, hq⟩ n = padded 8 (fun s => pAll m c (ix3 (bOf t) s ⟨2304 + n, by omega⟩)) (t.val % 16 * 1024 + q) :=
  blkR_at m c t q hq _

/-- The same sequence, with two zeros before it instead of eight. -/
theorem padded_shift (x : Fin 16384 → EReal) (s s' : ℕ) (h : s = s' + 6) : padded 8 x s = padded 2 x s' := by
  subst h
  unfold padded
  by_cases h : 2 ≤ s' ∧ s' - 2 < 16384
  · rw [dif_pos h, dif_pos (by omega)]
    exact congrArg x (Fin.ext (by simp only []; omega))
  · rw [dif_neg h, dif_neg (by omega)]

/-- The RG-LRU's input of the reference over the arguments. -/
def luAll (c : Dev nD) : FVec Ideal Cert.Reference3Ideal.S2x16384x256 .f32 :=
  luOf (xrOf (pAll m c)) (m ((c : Thread nD τ).loc main_arg7)) (m ((c : Thread nD τ).loc main_arg8))

theorem arr17 (c : Dev nD) : (dats m 0 c).arrAt 17 cfg0.N = luAll m c := by
  refine (dats m 0 c).arrAt_eq_of_covers 17 _ (by decide +kernel) fun t _ y => ?_
  blk_simp
  idx_vars y
  obtain rfl : y0 = 0 := Subsingleton.elim _ _
  refine (after17_at m c t y1 y2).trans ?_
  have e : ((cfg0.win 17).blk t).view.emb (ix3 0 y1 y2) = ix3 (bOf t) (rOf t y1) y2 := by
    blk_ext [idx t, bOf, rOf]
  refine Eq.trans ?_ (congrArg _ e).symm
  refine Eq.trans ?_ (Ref.lu_at (xrOf (pAll m c)) _ _ (bOf t) (rOf t y1) y2).symm
  simp only [rd9, rd10, blkQ_at, Ref.xr_at]
  exact congrArg (conv4 _ _) (funext fun k => padded_shift _ _ _ (by simp only [rOf]; omega))

/-- The same sequence, with one zero before it instead of eight. -/
theorem padded_shift1 (x : Fin 16384 → EReal) (s s' : ℕ) (h : s = s' + 7) : padded 8 x s = padded 1 x s' := by
  subst h
  unfold padded
  by_cases h : 1 ≤ s' ∧ s' - 1 < 16384
  · rw [dif_pos h, dif_pos (by omega)]
    exact congrArg x (Fin.ext (by simp only []; omega))
  · rw [dif_neg h, dif_neg (by omega)]

theorem rd7 (c : Dev nD) (t : Fin cfg0.N) (k : Fin 3) (n : Fin 768) :
    (iblk m c 7 t : Vec Ideal S3x768 .f32) (ix2 k n) = m ((c : Thread nD τ).loc main_arg5) (ix2 k n) := by
  blk_point [iblk, V, List.flatten_cons, List.flatten_nil, List.append_nil, idx t]

theorem hcb_eq (c : Dev nD) : V m c main_v4 = shapeCast S1x768 (m ((c : Thread nD τ).loc main_arg6)) shapeCasts_S768_S1x768 := by
  unfold V V0
  simp only [List.flatten_cons, List.flatten_nil, List.append_nil]
  after_results_simp
  rfl
theorem rd8 (c : Dev nD) (t : Fin cfg0.N) (n : Fin 768) :
    (iblk m c 8 t : Vec Ideal S1x768 .f32) (ix2 0 n) = m ((c : Thread nD τ).loc main_arg6) (ix1 n) := by
  have e : ((cfg0.win 8).blk t).view.emb (ix2 0 n) = ix2 0 n := by
    blk_ext [idx t]
  show V m c main_v4 (((cfg0.win 8).blk t).view.emb (ix2 0 n)) = _
  rw [hcb_eq]
  refine (congrArg _ e).trans ?_
  pointwise

/-- The Hyena's convolved columns of the reference over the arguments. -/
def uAll (c : Dev nD) : FVec Ideal Cert.Reference3Ideal.S2x16384x768 .f32 :=
  uOf (hcOf (pAll m c)) (m ((c : Thread nD τ).loc main_arg5)) (m ((c : Thread nD τ).loc main_arg6))

theorem blkU_at (c : Dev nD) (t : Fin cfg0.N) (r : Fin 1024) (n : Fin 768) : blkU m c t r n = uAll m c (ix3 (bOf t) (rOf t r) n) := by
  unfold blkU uAll
  refine Eq.trans ?_ (Ref.u_at (hcOf (pAll m c)) _ _ (bOf t) (rOf t r) n).symm
  simp only [rd7, rd8, blkR_at, Ref.hc_at]
  exact congrArg (conv3 _ _) (funext fun k => padded_shift1 _ _ _ (by simp only [rOf]; omega))

/-- A stream as the call leaves it: groups of eight channels, halves of 256 tokens, 256 tokens by eight channels, 128 tokens. -/
def hyT (h : FVec Ideal Cert.Reference3Ideal.S2x16384x256 .f32) : FVec Ideal S2x32x2x512x128 .f32 := fun y =>
  h (ix3 (y 0) ⟨256 * ((y 3).val / 8) + 128 * (y 2).val + (y 4).val, by
    have h2 : (y 2).val < 2 := (y 2).isLt
    have h3 : (y 3).val < 512 := (y 3).isLt
    have h4 : (y 4).val < 128 := (y 4).isLt
    omega⟩ ⟨8 * (y 1).val + (y 3).val % 8, by
    have h1 : (y 1).val < 32 := (y 1).isLt
    omega⟩)

theorem hyT_at (h : FVec Ideal Cert.Reference3Ideal.S2x16384x256 .f32) (b : Fin 2) (g : Fin 32) (k : Fin 2) (p : Fin 512) (l : Fin 128) (r : Fin 16384) (n : Fin 256)
    (hr : r.val = 256 * (p.val / 8) + 128 * k.val + l.val) (hn : n.val = 8 * g.val + p.val % 8) : hyT h (ix5 b g k p l) = h (ix3 b r n) := by
  show h (ix3 b _ _) = _
  exact congrArg h (congrArg₂ (ix3 b) (Fin.ext hr.symm) (Fin.ext hn.symm))

/-- The stream in the tokens' order. -/
theorem tok_eq (h : FVec Ideal Cert.Reference3Ideal.S2x16384x256 .f32) :
    shapeCast S2x16384x256 (transpose S2x64x2x128x32x8 [0, 3, 2, 5, 1, 4] (shapeCast S2x32x2x64x8x128 (hyT h) shapeCasts_S2x32x2x512x128_S2x32x2x64x8x128) transposes_S2x32x2x64x8x128_S2x64x2x128x32x8_0_3_2_5_1_4) shapeCasts_S2x64x2x128x32x8_S2x16384x256 = h := by
  funext y
  idx_vars y
  refine (lay_at _ y0 y1 y2).trans ?_
  exact hyT_at h _ _ _ _ _ _ _ (by simp only []; omega) (by simp only []; omega)

theorem arr11 (c : Dev nD) : (dats m 0 c).arrAt 11 cfg0.N = hyT (hy0Of (uAll m c)) := by
  refine (dats m 0 c).arrAt_eq_of_covers 11 _ (by decide +kernel) fun t _ y => ?_
  blk_simp
  idx_vars y
  obtain rfl : y0 = 0 := Subsingleton.elim _ _
  refine (after11_at m c t (ix5 0 y1 y2 y3 y4) ⟨256 * (y3.val / 8) + 128 * y2.val + y4.val, by omega⟩ ⟨8 * y1.val + y3.val % 8, by omega⟩ rfl rfl).trans ?_
  have e : ((cfg0.win 11).blk t).view.emb (ix5 0 y1 y2 y3 y4) = ix5 (bOf t) y1 y2 ⟨t.val % 16 * 32 + y3, by omega⟩ y4 := by
    blk_ext [idx t, bOf]
  refine Eq.trans ?_ (congrArg _ e).symm
  rw [blkU_at]
  refine Eq.trans ?_ (hyT_at (hy0Of (uAll m c)) _ _ _ _ _ (rOf t ⟨256 * (y3.val / 8) + 128 * y2.val + y4.val, by omega⟩) ⟨8 * y1.val + y3.val % 8, by omega⟩ ?_ ?_).symm
  · exact (Ref.hy0_at (uAll m c) (bOf t) _ _).symm
  · simp only [rOf]
    omega
  · simp only []
    omega

theorem arr12 (c : Dev nD) : (dats m 0 c).arrAt 12 cfg0.N = hyT (hy1Of (uAll m c)) := by
  refine (dats m 0 c).arrAt_eq_of_covers 12 _ (by decide +kernel) fun t _ y => ?_
  blk_simp
  idx_vars y
  obtain rfl : y0 = 0 := Subsingleton.elim _ _
  refine (after12_at m c t (ix5 0 y1 y2 y3 y4) ⟨256 * (y3.val / 8) + 128 * y2.val + y4.val, by omega⟩ ⟨8 * y1.val + y3.val % 8, by omega⟩ rfl rfl).trans ?_
  have e : ((cfg0.win 12).blk t).view.emb (ix5 0 y1 y2 y3 y4) = ix5 (bOf t) y1 y2 ⟨t.val % 16 * 32 + y3, by omega⟩ y4 := by
    blk_ext [idx t, bOf]
  refine Eq.trans ?_ (congrArg _ e).symm
  rw [blkU_at]
  refine Eq.trans ?_ (hyT_at (hy1Of (uAll m c)) _ _ _ _ _ (rOf t ⟨256 * (y3.val / 8) + 128 * y2.val + y4.val, by omega⟩) ⟨8 * y1.val + y3.val % 8, by omega⟩ ?_ ?_).symm
  · exact (Ref.hy1_at (uAll m c) (bOf t) _ _).symm
  · simp only [rOf]
    omega
  · simp only []
    omega

theorem arr13 (c : Dev nD) : (dats m 0 c).arrAt 13 cfg0.N = hyT (hy2Of (uAll m c)) := by
  refine (dats m 0 c).arrAt_eq_of_covers 13 _ (by decide +kernel) fun t _ y => ?_
  blk_simp
  idx_vars y
  obtain rfl : y0 = 0 := Subsingleton.elim _ _
  refine (after13_at m c t (ix5 0 y1 y2 y3 y4) ⟨256 * (y3.val / 8) + 128 * y2.val + y4.val, by omega⟩ ⟨8 * y1.val + y3.val % 8, by omega⟩ rfl rfl).trans ?_
  have e : ((cfg0.win 13).blk t).view.emb (ix5 0 y1 y2 y3 y4) = ix5 (bOf t) y1 y2 ⟨t.val % 16 * 32 + y3, by omega⟩ y4 := by
    blk_ext [idx t, bOf]
  refine Eq.trans ?_ (congrArg _ e).symm
  rw [blkU_at]
  refine Eq.trans ?_ (hyT_at (hy2Of (uAll m c)) _ _ _ _ _ (rOf t ⟨256 * (y3.val / 8) + 128 * y2.val + y4.val, by omega⟩) ⟨8 * y1.val + y3.val % 8, by omega⟩ ?_ ?_).symm
  · exact (Ref.hy2_at (uAll m c) (bOf t) _ _).symm
  · simp only [rOf]
    omega
  · simp only []
    omega

theorem resh0 (c : Dev nD) : Pipeline.afterTail₀ cfgs (dats m) 0 (V0 m) [hostOps1] c main_v9 = hy0Of (uAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_0) = hyT (hy0Of (uAll m c)) := ((dats m 0 c).withArrays_arrAt sharedIn0 (V0 m c) (A_eq m c) 11).trans (arr11 m c)
  rw [h]
  exact tok_eq _

theorem resh1 (c : Dev nD) : Pipeline.afterTail₀ cfgs (dats m) 0 (V0 m) [hostOps1] c main_v12 = hy1Of (uAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_1) = hyT (hy1Of (uAll m c)) := ((dats m 0 c).withArrays_arrAt sharedIn0 (V0 m c) (A_eq m c) 12).trans (arr12 m c)
  rw [h]
  exact tok_eq _

theorem resh2 (c : Dev nD) : Pipeline.afterTail₀ cfgs (dats m) 0 (V0 m) [hostOps1] c main_v15 = hy2Of (uAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_2) = hyT (hy2Of (uAll m c)) := ((dats m 0 c).withArrays_arrAt sharedIn0 (V0 m c) (A_eq m c) 13).trans (arr13 m c)
  rw [h]
  exact tok_eq _

theorem resq (c : Dev nD) : Pipeline.afterTail₀ cfgs (dats m) 0 (V0 m) [hostOps1] c main_v16 = qOf (F := Ideal) (pAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_3) = qOf (F := Ideal) (pAll m c) := ((dats m 0 c).withArrays_arrAt sharedIn0 (V0 m c) (A_eq m c) 14).trans (arr14 m c)
  rw [h]
  exact rfl

theorem resk (c : Dev nD) : Pipeline.afterTail₀ cfgs (dats m) 0 (V0 m) [hostOps1] c main_v18 = kOf (F := Ideal) (pAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_4) = kT (pAll m c) := ((dats m 0 c).withArrays_arrAt sharedIn0 (V0 m c) (A_eq m c) 15).trans (arr15 m c)
  rw [h]
  exact funext fun y => (by idx_vars y; pointwise [kT])

theorem resv (c : Dev nD) : Pipeline.afterTail₀ cfgs (dats m) 0 (V0 m) [hostOps1] c main_v19 = vOf (F := Ideal) (pAll m c) := by
  unfold Pipeline.afterTail₀
  simp only [List.flatten_cons, List.flatten_nil, List.append_nil]
  after_results_simp
  have h : Pipeline.withArrays (cfgs 0).spec c (V0 m c) (fun w => (dats m 0 c).arrAt w (cfgs 0).N) (Proc.devRef .tc main_v6_5) = vOf (F := Ideal) (pAll m c) := ((dats m 0 c).withArrays_arrAt sharedIn0 (V0 m c) (A_eq m c) 16).trans (arr16 m c)
  rw [h]
  exact rfl

end Cert.Inp
-- ==== Proof.Inp.Claims.lean ====
/- The claims about the input projection. -/
module

public import proofs.«01_k».proof.Defs
public import proofs.«01_k».proof.Proof.Gen.Kernel3.Frame
public import proofs.«01_k».proof.Proof.Gen.Kernel3Ideal
public import proofs.«01_k».proof.Proof.Gen.Reference3Ideal
public import proofs.«01_k».proof.Proof.Inp.Final
public import Idealize.ShloMosaic.Adequacy
public import Idealize.ShloMosaic.Init

@[expose] public section

set_option maxRecDepth 16384

noncomputable section

namespace Cert.Inp.Claims

open Idealize.ShloMosaic Idealize.ShloMosaic.TcCoe Idealize.SL.Sem

/-- The kernel at bits leaves its arguments and its counters. -/
theorem frame_k : Cert.quiescent_Kernel3 (hKernel3 := Cert.Kernel3.Gen.facts) := fun m g _ => Cert.Kernel3.Gen.frame m g

/-- The kernel at the reals leaves its arguments and its counters. -/
theorem frame_ki : Cert.quiescent_Kernel3Ideal (hKernel3Ideal := Cert.Kernel3Ideal.Gen.facts) := fun m g _ => Cert.Kernel3Ideal.Gen.frame m g

/-- The reference at the reals leaves its arguments; it has no counters. -/
theorem frame_ri : Cert.quiescent_Reference3Ideal (hReference3Ideal := Cert.Reference3Ideal.Gen.facts) := fun m g _ =>
  (θ_run Cert.Reference3Ideal.defs _ _).mono (fun r h => ⟨fun c => (h c).2.2.2.2.2.2.2.2, sem_eq_zero_of_no_sems (by decide) r.2⟩)
    (Cert.Inp.run (F := Ideal) m g)

/-- The kernel computes the reference. -/
theorem value : Cert.algebraic_Kernel3Ideal_Reference3Ideal (hKernel3Ideal := Cert.Kernel3Ideal.Gen.facts)
    (hReference3Ideal := Cert.Reference3Ideal.Gen.facts) := by
  intro m g m' g' _ hagree
  refine ⟨fun c => hy0Of (F := Ideal) (uAll m c), fun c => hy1Of (F := Ideal) (uAll m c), fun c => hy2Of (F := Ideal) (uAll m c),
    fun c => qOf (F := Ideal) (pAll m c), fun c => kOf (F := Ideal) (pAll m c), fun c => vOf (F := Ideal) (pAll m c),
    fun c => luAll m c, fun c => lgOf (F := Ideal) (pAll m c),
    θ_run_mono (θ_run_and (Cert.Kernel3Ideal.Gen.unchanged (F := Ideal) m g) (Cert.Kernel3Ideal.Gen.run_main (F := Ideal) m g)) fun r h c => ?_,
    θ_run_mono (Cert.Inp.run (F := Ideal) m' g') fun r h c => ?_⟩
  · exact ⟨((h.2 c).2 Cert.Kernel3Ideal.main_v9 (Pipeline.mem_restRefs_of _ (by decide) (by decide))).trans (resh0 m c),
      ((h.2 c).2 Cert.Kernel3Ideal.main_v12 (Pipeline.mem_restRefs_of _ (by decide) (by decide))).trans (resh1 m c),
      ((h.2 c).2 Cert.Kernel3Ideal.main_v15 (Pipeline.mem_restRefs_of _ (by decide) (by decide))).trans (resh2 m c),
      ((h.2 c).2 Cert.Kernel3Ideal.main_v16 (Pipeline.mem_restRefs_of _ (by decide) (by decide))).trans (resq m c),
      ((h.2 c).2 Cert.Kernel3Ideal.main_v18 (Pipeline.mem_restRefs_of _ (by decide) (by decide))).trans (resk m c),
      ((h.2 c).2 Cert.Kernel3Ideal.main_v19 (Pipeline.mem_restRefs_of _ (by decide) (by decide))).trans (resv m c),
      ((h.2 c).1 17).trans (arr17 m c), ((h.2 c).1 18).trans (arr18 m c), h.1 c⟩
  · obtain ⟨e0, e1, e2, e3, e4, e5, e6, e7, e8⟩ := hagree c
    have e : pOf (F := Ideal) (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4)) = pAll m c := by
      rw [e0, e1, e2, e3, e4]; rfl
    have h := h c
    rw [e] at h
    have h0 := h.1
    have h1 := h.2.1
    have h2 := h.2.2.1
    have h6 := h.2.2.2.2.2.2.1
    refine ⟨h0.trans ?_, h1.trans ?_, h2.trans ?_, h.2.2.2.1, h.2.2.2.2.1, h.2.2.2.2.2.1, h6.trans ?_, h.2.2.2.2.2.2.2⟩
    · rw [e5, e6]
      rfl
    · rw [e5, e6]
      rfl
    · rw [e5, e6]
      rfl
    · rw [e7, e8]
      rfl

end Cert.Inp.Claims
-- ==== Proof.lean ====
/- The certificate: the calls' runs and what two of them compute. -/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Na.Claims
public import proofs.«01_k».proof.Proof.Ffn.Claims
public import proofs.«01_k».proof.Proof.Inp.Claims

@[expose] public section

namespace Cert.Proof

theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Na.Claims.frame_k, Cert.Na.Claims.frame_ki,
    Cert.Ffn.Claims.frame_k, Cert.Ffn.Claims.frame_ki, Cert.Ffn.Claims.frame_ri,
    Cert.Inp.Claims.frame_k, Cert.Inp.Claims.frame_ki, Cert.Inp.Claims.frame_ri,
    Cert.Na.Claims.preserves, trivial, Cert.Ffn.Claims.value, trivial, Cert.Inp.Claims.value⟩

end Cert.Proof
